-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.sign_bit.MaskStatement Cert.KernelIdeal.S16x256 .bf16

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v43_0) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x16384 : Shape := ⟨3, ![1, 2048, 16384]⟩
abbrev S16 : Shape := ⟨1, ![16]⟩
abbrev S2048x16384 : Shape := ⟨2, ![2048, 16384]⟩
abbrev S2048x1024 : Shape := ⟨2, ![2048, 1024]⟩
abbrev S2048x8192 : Shape := ⟨2, ![2048, 8192]⟩
abbrev S1 : Shape := ⟨1, ![1]⟩
abbrev S256x4096 : Shape := ⟨2, ![256, 4096]⟩
abbrev S256x256 : Shape := ⟨2, ![256, 256]⟩
abbrev S256x2048 : Shape := ⟨2, ![256, 2048]⟩
abbrev S32x256x256 : Shape := ⟨3, ![32, 256, 256]⟩
abbrev S32x64x2048 : Shape := ⟨3, ![32, 64, 2048]⟩
abbrev S8x256 : Shape := ⟨2, ![8, 256]⟩
abbrev S2x128x128 : Shape := ⟨3, ![2, 128, 128]⟩
abbrev S64x256 : Shape := ⟨2, ![64, 256]⟩
abbrev S8x128 : Shape := ⟨2, ![8, 128]⟩
abbrev S1x8x128 : Shape := ⟨3, ![1, 8, 128]⟩
abbrev S16x256 : Shape := ⟨2, ![16, 256]⟩
abbrev S16x128 : Shape := ⟨2, ![16, 128]⟩
abbrev S1x16x128 : Shape := ⟨3, ![1, 16, 128]⟩
abbrev S64x128 : Shape := ⟨2, ![64, 128]⟩
abbrev S128x128 : Shape := ⟨2, ![128, 128]⟩
abbrev S32x128 : Shape := ⟨2, ![32, 128]⟩
abbrev S1x32x128 : Shape := ⟨3, ![1, 32, 128]⟩
abbrev S1x256x256 : Shape := ⟨3, ![1, 256, 256]⟩
abbrev S1x8x256 : Shape := ⟨3, ![1, 8, 256]⟩
abbrev S1x1x1 : Shape := ⟨3, ![1, 1, 1]⟩
abbrev S1x256 : Shape := ⟨2, ![1, 256]⟩

abbrev nBuf : Space → Nat
  | .hbm => 9
  | .vmem => 20
  | .smem => 2
  | _ => 0

abbrev bufTy : (tb : Table) → Fin (tcTables nBuf tb) → BufTy
  | .hbm, ⟨0, _⟩ => ⟨S1x2048x16384, .bf16⟩
  | .hbm, ⟨1, _⟩ => ⟨S16, .f32⟩
  | .hbm, ⟨2, _⟩ => ⟨S1x2048x16384, .i8⟩
  | .hbm, ⟨3, _⟩ => ⟨S2048x16384, .bf16⟩
  | .hbm, ⟨4, _⟩ => ⟨S2048x16384, .i8⟩
  | .hbm, ⟨5, _⟩ => ⟨S2048x1024, .f32⟩
  | .hbm, ⟨6, _⟩ => ⟨S2048x8192, .i8⟩
  | .hbm, ⟨7, _⟩ => ⟨S2048x1024, .fp8e4m3⟩
  | .hbm, ⟨8, _⟩ => ⟨S1, .f32⟩
  | .local _ .vmem, ⟨0, _⟩ => ⟨S256x4096, .bf16⟩
  | .local _ .vmem, ⟨1, _⟩ => ⟨S256x4096, .bf16⟩
  | .local _ .vmem, ⟨2, _⟩ => ⟨S256x4096, .i8⟩
  | .local _ .vmem, ⟨3, _⟩ => ⟨S256x4096, .i8⟩
  | .local _ .vmem, ⟨4, _⟩ => ⟨S256x256, .f32⟩
  | .local _ .vmem, ⟨5, _⟩ => ⟨S256x256, .f32⟩
  | .local _ .vmem, ⟨6, _⟩ => ⟨S256x2048, .i8⟩
  | .local _ .vmem, ⟨7, _⟩ => ⟨S256x2048, .i8⟩
  | .local _ .vmem, ⟨8, _⟩ => ⟨S256x256, .fp8e4m3⟩
  | .local _ .vmem, ⟨9, _⟩ => ⟨S256x256, .fp8e4m3⟩
  | .local _ .vmem, ⟨10, _⟩ => ⟨S256x256, .bf16⟩
  | .local _ .vmem, ⟨11, _⟩ => ⟨S256x256, .bf16⟩
  | .local _ .vmem, ⟨12, _⟩ => ⟨S32x256x256, .f32⟩
  | .local _ .vmem, ⟨13, _⟩ => ⟨S32x64x2048, .i32⟩
  | .local _ .vmem, ⟨14, _⟩ => ⟨S8x256, .f32⟩
  | .local _ .vmem, ⟨15, _⟩ => ⟨S2x128x128, .f32⟩
  | .local _ .vmem, ⟨16, _⟩ => ⟨S64x256, .i32⟩
  | .local _ .vmem, ⟨17, _⟩ => ⟨S256x256, .f32⟩
  | .local _ .vmem, ⟨18, _⟩ => ⟨S8x256, .f32⟩
  | .local _ .vmem, ⟨19, _⟩ => ⟨S256x256, .f32⟩
  | .local _ .smem, ⟨0, _⟩ => ⟨S16, .f32⟩
  | .local _ .smem, ⟨1, _⟩ => ⟨S1, .f32⟩
  | _, _ => ⟨S1x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [BitOps F]

abbrev grid0 : Pipeline.Grid := ⟨3, ![2, 8, 4], ![false, false, false]⟩

def k0_cond2 (i : grid0.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c0_i32_7 : BitVec 32 := 0#32
  let c16_i32 : BitVec 32 := 16#32
  let v17 : BitVec 32 := Scalar.addi c0_i32_7 c16_i32
  let c1_i32_8 : BitVec 32 := 1#32
  ⟨c0_i32_7, v17, c1_i32_8⟩
def k0_mult1 (k0_t1 : Fin k0_t1_loop.trips) : BitVec 32 :=
  let c0_i32_7 : BitVec 32 := 0#32
  let c1_i32_8 : BitVec 32 := 1#32
  let arg20 : BitVec 32 := Scf.iv c0_i32_7 c1_i32_8 k0_t1
  let c256_i32 : BitVec 32 := 256#32
  let v23 : BitVec 32 := Scalar.muli arg20 c256_i32
  v23
def k0_off1 (k0_t1 : Fin k0_t1_loop.trips) : Fin 2 → Nat :=
  let c0_15 : Index := 0#32
  let c0_i32_7 : BitVec 32 := 0#32
  let c1_i32_8 : BitVec 32 := 1#32
  let arg20 : BitVec 32 := Scf.iv c0_i32_7 c1_i32_8 k0_t1
  let c256_i32 : BitVec 32 := 256#32
  let v23 : BitVec 32 := Scalar.muli arg20 c256_i32
  let v24 : BitVec 32 := v23
  let v26 : Index := Scalar.indexCast v24
  ![0, v26.toNat]
def k0_mult2 (k0_t1 : Fin k0_t1_loop.trips) : BitVec 32 :=
  let c0_i32_7 : BitVec 32 := 0#32
  let c1_i32_8 : BitVec 32 := 1#32
  let arg20 : BitVec 32 := Scf.iv c0_i32_7 c1_i32_8 k0_t1
  let c16_i32_188 : BitVec 32 := 16#32
  let v590 : BitVec 32 := Scalar.muli arg20 c16_i32_188
  v590
def k0_off2 (i : grid0.Coords) (k0_t1 : Fin k0_t1_loop.trips) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v639 : Index := Scalar.indexCast v1
  let c0_i32_7 : BitVec 32 := 0#32
  let c1_i32_8 : BitVec 32 := 1#32
  let arg20 : BitVec 32 := Scf.iv c0_i32_7 c1_i32_8 k0_t1
  let c16_i32_188 : BitVec 32 := 16#32
  let v590 : BitVec 32 := Scalar.muli arg20 c16_i32_188
  let v591 : BitVec 32 := v590
  let v640 : Index := Scalar.indexCast v591
  let c0_224 : Index := 0#32
  ![v639.toNat, v640.toNat, 0]
def k0_mult3 (k0_t1 : Fin k0_t1_loop.trips) : BitVec 32 :=
  let c0_i32_7 : BitVec 32 := 0#32
  let c1_i32_8 : BitVec 32 := 1#32
  let arg20 : BitVec 32 := Scf.iv c0_i32_7 c1_i32_8 k0_t1
  let c128_i32 : BitVec 32 := 128#32
  let v655 : BitVec 32 := Scalar.muli arg20 c128_i32
  v655
def k0_off3 (i : grid0.Coords) (k0_t1 : Fin k0_t1_loop.trips) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v657 : Index := Scalar.indexCast v1
  let c0_231 : Index := 0#32
  let c0_i32_7 : BitVec 32 := 0#32
  let c1_i32_8 : BitVec 32 := 1#32
  let arg20 : BitVec 32 := Scf.iv c0_i32_7 c1_i32_8 k0_t1
  let c128_i32 : BitVec 32 := 128#32
  let v655 : BitVec 32 := Scalar.muli arg20 c128_i32
  let v656 : BitVec 32 := v655
  let v658 : Index := Scalar.indexCast v656
  ![v657.toNat, 0, v658.toNat]
def k0_off4 (i : grid0.Coords) (k0_t1 : Fin k0_t1_loop.trips) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v709 : Index := Scalar.indexCast v1
  let c0_i32_7 : BitVec 32 := 0#32
  let c1_i32_8 : BitVec 32 := 1#32
  let arg20 : BitVec 32 := Scf.iv c0_i32_7 c1_i32_8 k0_t1
  let c16_i32_188 : BitVec 32 := 16#32
  let v590 : BitVec 32 := Scalar.muli arg20 c16_i32_188
  let v591 : BitVec 32 := v590
  let v710 : Index := Scalar.indexCast v591
  let c128 : Index := 128#32
  ![v709.toNat, v710.toNat, 128]
def k0_mult4 (k0_t1 : Fin k0_t1_loop.trips) : BitVec 32 :=
  let c0_i32_7 : BitVec 32 := 0#32
  let c1_i32_8 : BitVec 32 := 1#32
  let arg20 : BitVec 32 := Scf.iv c0_i32_7 c1_i32_8 k0_t1
  let c128_i32_286 : BitVec 32 := 128#32
  let v725 : BitVec 32 := Scalar.muli arg20 c128_i32_286
  v725
def k0_off5 (i : grid0.Coords) (k0_t1 : Fin k0_t1_loop.trips) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v727 : Index := Scalar.indexCast v1
  let c32_287 : Index := 32#32
  let c0_i32_7 : BitVec 32 := 0#32
  let c1_i32_8 : BitVec 32 := 1#32
  let arg20 : BitVec 32 := Scf.iv c0_i32_7 c1_i32_8 k0_t1
  let c128_i32_286 : BitVec 32 := 128#32
  let v725 : BitVec 32 := Scalar.muli arg20 c128_i32_286
  let v726 : BitVec 32 := v725
  let v728 : Index := Scalar.indexCast v726
  ![v727.toNat, 32, v728.toNat]
def k0_off6 (i : grid0.Coords) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v18 : Index := Scalar.indexCast v1
  let c0 : Index := 0#32
  let c0_10 : Index := 0#32
  ![v18.toNat, 0, 0]
def k0_cond4 (i : grid0.Coords) : BitVec 1 :=
  let arg0 : BitVec 32 := BitVec.ofNat 32 (i 0).val
  let c1_i32_5 : BitVec 32 := 1#32
  let v14 : BitVec 1 := Scalar.cmpi .eq arg0 c1_i32_5
  let v15 : BitVec 32 := Scalar.extui v14
  let c0_i32_6 : BitVec 32 := 0#32
  let v16 : BitVec 1 := Scalar.cmpi .ne v15 c0_i32_6
  v16

def k0_off7 (i : grid0.Coords) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v18 : Index := Scalar.indexCast v1
  let c0_8 : Index := 0#32
  let c0_9 : Index := 0#32
  ![v18.toNat, 0, 0]
@[reducible] def k0_t2_loop : Scf.Loop 32 :=
  let c0_i32_22 : BitVec 32 := 0#32
  let c16_i32 : BitVec 32 := 16#32
  let v47 : BitVec 32 := Scalar.addi c0_i32_22 c16_i32
  let c1_i32_23 : BitVec 32 := 1#32
  ⟨c0_i32_22, v47, c1_i32_23⟩
def k0_mult5 (k0_t2 : Fin k0_t2_loop.trips) : BitVec 32 :=
  let c0_i32_22 : BitVec 32 := 0#32
  let c1_i32_23 : BitVec 32 := 1#32
  let arg20 : BitVec 32 := Scf.iv c0_i32_22 c1_i32_23 k0_t2
  let c256_i32 : BitVec 32 := 256#32
  let v48 : BitVec 32 := Scalar.muli arg20 c256_i32
  v48
def k0_off8 (k0_t2 : Fin k0_t2_loop.trips) : Fin 2 → Nat :=
  let c0_27 : Index := 0#32
  let c0_i32_22 : BitVec 32 := 0#32
  let c1_i32_23 : BitVec 32 := 1#32
  let arg20 : BitVec 32 := Scf.iv c0_i32_22 c1_i32_23 k0_t2
  let c256_i32 : BitVec 32 := 256#32
  let v48 : BitVec 32 := Scalar.muli arg20 c256_i32
  let v49 : BitVec 32 := v48
  let v51 : Index := Scalar.indexCast v49
  ![0, v51.toNat]
def k0_off9 (k0_t2 : Fin k0_t2_loop.trips) (c0_i32_34 : BitVec 32) : Fin 2 → Nat :=
  let c0_i32_22 : BitVec 32 := 0#32
  let c1_i32_23 : BitVec 32 := 1#32
  let arg20 : BitVec 32 := Scf.iv c0_i32_22 c1_i32_23 k0_t2
  let c16_i32_33 : BitVec 32 := 16#32
  let v62 : BitVec 32 := Scalar.muli arg20 c16_i32_33
  let v63 : BitVec 32 := Scalar.addi v62 c0_i32_34
  let v64 : Index := Scalar.indexCast v63
  let c0_35 : Index := 0#32
  ![v64.toNat, 0]
def k0_off10 (k0_t2 : Fin k0_t2_loop.trips) (c0_i32_37 : BitVec 32) : Fin 2 → Nat :=
  let c0_i32_22 : BitVec 32 := 0#32
  let c1_i32_23 : BitVec 32 := 1#32
  let arg20 : BitVec 32 := Scf.iv c0_i32_22 c1_i32_23 k0_t2
  let c16_i32_36 : BitVec 32 := 16#32
  let v66 : BitVec 32 := Scalar.muli arg20 c16_i32_36
  let v67 : BitVec 32 := Scalar.addi v66 c0_i32_37
  let c1_i32_38 : BitVec 32 := 1#32
  let v68 : BitVec 32 := Scalar.addi v67 c1_i32_38
  let v69 : Index := Scalar.indexCast v68
  let c0_39 : Index := 0#32
  ![v69.toNat, 0]
def k0_mult6 (k0_t2 : Fin k0_t2_loop.trips) : BitVec 32 :=
  let c0_i32_22 : BitVec 32 := 0#32
  let c1_i32_23 : BitVec 32 := 1#32
  let arg20 : BitVec 32 := Scf.iv c0_i32_22 c1_i32_23 k0_t2
  let c128_i32 : BitVec 32 := 128#32
  let v1974 : BitVec 32 := Scalar.muli arg20 c128_i32
  v1974
def k0_off11 (i : grid0.Coords) (k0_t2 : Fin k0_t2_loop.trips) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v1981 : Index := Scalar.indexCast v1
  let c0_598 : Index := 0#32
  let c0_i32_22 : BitVec 32 := 0#32
  let c1_i32_23 : BitVec 32 := 1#32
  let arg20 : BitVec 32 := Scf.iv c0_i32_22 c1_i32_23 k0_t2
  let c128_i32 : BitVec 32 := 128#32
  let v1974 : BitVec 32 := Scalar.muli arg20 c128_i32
  let v1975 : BitVec 32 := v1974
  let v1982 : Index := Scalar.indexCast v1975
  ![v1981.toNat, 0, v1982.toNat]
def k0_off12 (k0_t2 : Fin k0_t2_loop.trips) : Fin 2 → Nat :=
  let c0_599 : Index := 0#32
  let c0_i32_22 : BitVec 32 := 0#32
  let c1_i32_23 : BitVec 32 := 1#32
  let arg20 : BitVec 32 := Scf.iv c0_i32_22 c1_i32_23 k0_t2
  let c128_i32 : BitVec 32 := 128#32
  let v1974 : BitVec 32 := Scalar.muli arg20 c128_i32
  let v1975 : BitVec 32 := v1974
  let v1992 : Index := Scalar.indexCast v1975
  ![0, v1992.toNat]
def k0_off13 (i : grid0.Coords) (k0_t2 : Fin k0_t2_loop.trips) : Fin 3 → Nat :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let v1999 : Index := Scalar.indexCast v1
  let c32_601 : Index := 32#32
  let c0_i32_22 : BitVec 32 := 0#32
  let c1_i32_23 : BitVec 32 := 1#32
  let arg20 : BitVec 32 := Scf.iv c0_i32_22 c1_i32_23 k0_t2
  let c128_i32 : BitVec 32 := 128#32
  let v1974 : BitVec 32 := Scalar.muli arg20 c128_i32
  let v1975 : BitVec 32 := v1974
  let v2000 : Index := Scalar.indexCast v1975
  ![v1999.toNat, 32, v2000.toNat]
def k0_off14 (k0_t2 : Fin k0_t2_loop.trips) : Fin 2 → Nat :=
  let c128_604 : Index := 128#32
  let c0_i32_22 : BitVec 32 := 0#32
  let c1_i32_23 : BitVec 32 := 1#32
  let arg20 : BitVec 32 := Scf.iv c0_i32_22 c1_i32_23 k0_t2
  let c128_i32 : BitVec 32 := 128#32
  let v1974 : BitVec 32 := Scalar.muli arg20 c128_i32
  let v1975 : BitVec 32 := v1974
  let v2010 : Index := Scalar.indexCast v1975
  ![128, v2010.toNat]
def k0_cond3 (i : grid0.Coords) : BitVec 1 :=
  let arg1 : BitVec 32 := BitVec.ofNat 32 (i 1).val
  let c4_i32 : BitVec 32 := 4#32
  let v0 : BitVec 32 := Scalar.muli arg1 c4_i32
  let arg2 : BitVec 32 := BitVec.ofNat 32 (i 2).val
  let v1 : BitVec 32 := Scalar.addi v0 arg2
  let c0_i32 : BitVec 32 := 0#32
  let v2 : BitVec 1 := Scalar.cmpi .eq v1 c0_i32
  let arg0 : BitVec 32 := BitVec.ofNat 32 (i 0).val
  let c1_i32 : BitVec 32 := 1#32
  let v10 : BitVec 1 := Scalar.cmpi .eq arg0 c1_i32
  let v11 : BitVec 1 := Scalar.andi v2 v10
  let v12 : BitVec 32 := Scalar.extui v11
  let c0_i32_4 : BitVec 32 := 0#32
  let v13 : BitVec 1 := Scalar.cmpi .ne v12 c0_i32_4
  v13

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 1 := Scalar.cmpi .eq arg0 c0_i32_1
  let c0_i32_2 : BitVec 32 := 0#32
  let v3 : BitVec 32 := Scalar.select v2 c0_i32_2 arg2
  let c0_i32_3 : BitVec 32 := 0#32
  ![v1.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let v2 : BitVec 1 := Scalar.cmpi .eq arg0 c0_i32_0
  let c3_i32 : BitVec 32 := 3#32
  let v3 : BitVec 32 := Scalar.select v2 arg2 c3_i32
  let c0_i32_1 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 1 := Scalar.cmpi .eq arg0 c0_i32_1
  let c0_i32_2 : BitVec 32 := 0#32
  let v3 : BitVec 32 := Scalar.select v2 c0_i32_2 arg2
  let c0_i32_3 : BitVec 32 := 0#32
  ![v1.toNat, v3.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let v2 : BitVec 1 := Scalar.cmpi .eq arg0 c0_i32_1
  let c0_i32_2 : BitVec 32 := 0#32
  let v3 : BitVec 32 := Scalar.select v2 c0_i32_2 arg2
  let c0_i32_3 : BitVec 32 := 0#32
  ![v1.toNat, v3.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== KernelIdeal.lean ====
variable {F : FTy → Type} [FloatOps F]
-- ==== ReferenceIdeal.lean ====
abbrev S1x2048x16384 : Shape := ⟨3, ![1, 2048, 16384]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S1x2048x1024x16 : Shape := ⟨4, ![1, 2048, 1024, 16]⟩
abbrev S1x2048x1024 : Shape := ⟨3, ![1, 2048, 1024]⟩
abbrev S2048x1024 : Shape := ⟨2, ![2048, 1024]⟩
abbrev S1x1 : Shape := ⟨2, ![1, 1]⟩
abbrev S1x2048x1024x1 : Shape := ⟨4, ![1, 2048, 1024, 1]⟩
abbrev S2048x8192x2 : Shape := ⟨3, ![2048, 8192, 2]⟩
abbrev S2048x8192x1 : Shape := ⟨3, ![2048, 8192, 1]⟩
abbrev S2048x8192 : Shape := ⟨2, ![2048, 8192]⟩
abbrev S1 : Shape := ⟨1, ![1]⟩

abbrev nBuf : Space → Nat
  | .hbm => 167
  | .vmem => 4
  | .smem => 0
  | _ => 0

abbrev hbmTy0_0 (i : Nat) : BufTy := match i % 128 with
  | 0 => ⟨S1x2048x16384, .bf16⟩
  | 1 => ⟨S16, .f32⟩
  | 2 => ⟨S1x2048x16384, .i8⟩
  | 3 => ⟨S16, .i32⟩
  | 4 => ⟨S16x1, .i32⟩
  | 5 => ⟨S16, .i32⟩
  | 6 => ⟨S1x16, .i32⟩
  | 7 => ⟨S16x16, .i32⟩
  | 8 => ⟨S16x16, .i32⟩
  | 9 => ⟨S16x16, .i32⟩
  | 10 => ⟨S_, .i32⟩
  | 11 => ⟨S16x16, .i32⟩
  | 12 => ⟨S16x16, .i32⟩
  | 13 => ⟨S_, .i32⟩
  | 14 => ⟨S16x16, .i32⟩
  | 15 => ⟨S16x16, .i32⟩
  | 16 => ⟨S16x16, .i32⟩
  | 17 => ⟨S16x16, .i32⟩
  | 18 => ⟨S_, .i32⟩
  | 19 => ⟨S16x16, .i32⟩
  | 20 => ⟨S16x16, .i32⟩
  | 21 => ⟨S16x16, .i32⟩
  | 22 => ⟨S16x16, .i32⟩
  | 23 => ⟨S_, .i32⟩
  | 24 => ⟨S16x16, .i32⟩
  | 25 => ⟨S16x16, .i32⟩
  | 26 => ⟨S16x16, .i32⟩
  | 27 => ⟨S16x16, .i32⟩
  | 28 => ⟨S16x16, .i32⟩
  | 29 => ⟨S16x16, .f32⟩
  | 30 => ⟨S_, .f32⟩
  | 31 => ⟨S16x16, .f32⟩
  | 32 => ⟨S16x16, .f32⟩
  | 33 => ⟨S_, .f32⟩
  | 34 => ⟨S16x16, .f32⟩
  | 35 => ⟨S16x16, .f32⟩
  | 36 => ⟨S_, .f32⟩
  | 37 => ⟨S16x16, .f32⟩
  | 38 => ⟨S16x16, .f32⟩
  | 39 => ⟨S1x16, .f32⟩
  | 40 => ⟨S16x16, .f32⟩
  | 41 => ⟨S16x16, .f32⟩
  | 42 => ⟨S16x16, .bf16⟩
  | 43 => ⟨S1x2048x1024x16, .bf16⟩
  | 44 => ⟨S1x2048x1024x16, .f32⟩
  | 45 => ⟨S1x2048x1024x16, .f32⟩
  | 46 => ⟨S_, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S1x2048x1024, .f32⟩
  | 57 => ⟨S2048x1024, .f32⟩
  | 58 => ⟨S1x1, .f32⟩
  | 59 => ⟨S2048x1024, .fp8e4m3⟩
  | 60 => ⟨S2048x1024, .f32⟩
  | 61 => ⟨S2048x1024, .f32⟩
  | 62 => ⟨S2048x1024, .f32⟩
  | 63 => ⟨S1x2048x1024x1, .f32⟩
  | 64 => ⟨S_, .f32⟩
  | 65 => ⟨S1x2048x1024x1, .f32⟩
  | 66 => ⟨S1x2048x1024x1, .i1⟩
  | 67 => ⟨S_, .f32⟩
  | 68 => ⟨S_, .f32⟩
  | 69 => ⟨S1x2048x1024x1, .f32⟩
  | 70 => ⟨S1x2048x1024x1, .f32⟩
  | 71 => ⟨S1x2048x1024x16, .f32⟩
  | 72 => ⟨S1x2048x1024x16, .f32⟩
  | 73 => ⟨S_, .f32⟩
  | 74 => ⟨S_, .f32⟩
  | 75 => ⟨S1x2048x1024x16, .i1⟩
  | 76 => ⟨S1x2048x1024x16, .f32⟩
  | 77 => ⟨S1x2048x1024x16, .f32⟩
  | 78 => ⟨S_, .f32⟩
  | 79 => ⟨S_, .f32⟩
  | 80 => ⟨S_, .f32⟩
  | 81 => ⟨S1x2048x1024x16, .f32⟩
  | 82 => ⟨S1x2048x1024x16, .f32⟩
  | 83 => ⟨S_, .f32⟩
  | 84 => ⟨S1x2048x1024x16, .f32⟩
  | 85 => ⟨S1x2048x1024x16, .f32⟩
  | 86 => ⟨S1x2048x1024x16, .f32⟩
  | 87 => ⟨S_, .f32⟩
  | 88 => ⟨S1x2048x1024x16, .f32⟩
  | 89 => ⟨S1x2048x1024x16, .i1⟩
  | 90 => ⟨S_, .f32⟩
  | 91 => ⟨S1x2048x1024x16, .f32⟩
  | 92 => ⟨S1x2048x1024x16, .i1⟩
  | 93 => ⟨S_, .f32⟩
  | 94 => ⟨S_, .f32⟩
  | 95 => ⟨S1x2048x1024x16, .f32⟩
  | 96 => ⟨S1x2048x1024x16, .f32⟩
  | 97 => ⟨S1x2048x1024x16, .f32⟩
  | 98 => ⟨S_, .f32⟩
  | 99 => ⟨S1x2048x1024x16, .f32⟩
  | 100 => ⟨S1x2048x1024x16, .f32⟩
  | 101 => ⟨S1x2048x1024x16, .f32⟩
  | 102 => ⟨S1x2048x1024x16, .f32⟩
  | 103 => ⟨S1x2048x1024x16, .f32⟩
  | 104 => ⟨S1x2048x1024x16, .f32⟩
  | 105 => ⟨S1x2048x1024x16, .f32⟩
  | 106 => ⟨S1x2048x1024x16, .f32⟩
  | 107 => ⟨S1x2048x1024x16, .f32⟩
  | 108 => ⟨S1x2048x1024x16, .f32⟩
  | 109 => ⟨S1x2048x1024x16, .i8⟩
  | 110 => ⟨S1x2048x1024x16, .i32⟩
  | 111 => ⟨S1x2048x1024x16, .f32⟩
  | 112 => ⟨S_, .f32⟩
  | 113 => ⟨S1x2048x1024x16, .f32⟩
  | 114 => ⟨S1x2048x1024x16, .f32⟩
  | 115 => ⟨S_, .f32⟩
  | 116 => ⟨S1x2048x1024x16, .f32⟩
  | 117 => ⟨S1x2048x1024x16, .f32⟩
  | 118 => ⟨S1x2048x1024x16, .i1⟩
  | 119 => ⟨S1x2048x1024x16, .f32⟩
  | 120 => ⟨S1x2048x1024x16, .f32⟩
  | 121 => ⟨S1x2048x1024x16, .f32⟩
  | 122 => ⟨S1x2048x1024x16, .f32⟩
  | 123 => ⟨S_, .f32⟩
  | 124 => ⟨S1x2048x1024x16, .f32⟩
  | 125 => ⟨S1x2048x1024x16, .i1⟩
  | 126 => ⟨S_, .f32⟩
  | 127 => ⟨S1x2048x1024x16, .f32⟩
  | _ => ⟨S1x2048x16384, .bf16⟩

abbrev hbmTy0_1 (i : Nat) : BufTy := match i % 128 with
  | 0 => ⟨S1x2048x1024x16, .f32⟩
  | 1 => ⟨S_, .f32⟩
  | 2 => ⟨S1x2048x1024x16, .f32⟩
  | 3 => ⟨S1x2048x1024x16, .i1⟩
  | 4 => ⟨S_, .f32⟩
  | 5 => ⟨S1x2048x1024x16, .f32⟩
  | 6 => ⟨S1x2048x1024x16, .f32⟩
  | 7 => ⟨S_, .f32⟩
  | 8 => ⟨S1x2048x1024x16, .f32⟩
  | 9 => ⟨S1x2048x1024x16, .f32⟩
  | 10 => ⟨S_, .f32⟩
  | 11 => ⟨S1x2048x1024x16, .f32⟩
  | 12 => ⟨S1x2048x1024x16, .f32⟩
  | 13 => ⟨S1x2048x1024x16, .f32⟩
  | 14 => ⟨S1x2048x1024x16, .f32⟩
  | 15 => ⟨S1x2048x1024x16, .i32⟩
  | 16 => ⟨S_, .f32⟩
  | 17 => ⟨S1x2048x1024x16, .f32⟩
  | 18 => ⟨S1x2048x1024x16, .i1⟩
  | 19 => ⟨S_, .i32⟩
  | 20 => ⟨S1x2048x1024x16, .i32⟩
  | 21 => ⟨S1x2048x1024x16, .i1⟩
  | 22 => ⟨S1x2048x1024x16, .i1⟩
  | 23 => ⟨S_, .i32⟩
  | 24 => ⟨S1x2048x1024x16, .i32⟩
  | 25 => ⟨S1x2048x1024x16, .i32⟩
  | 26 => ⟨S1x2048x1024x16, .i32⟩
  | 27 => ⟨S2048x8192x2, .i32⟩
  | 28 => ⟨S2048x8192x1, .i32⟩
  | 29 => ⟨S2048x8192, .i32⟩
  | 30 => ⟨S2048x8192x1, .i32⟩
  | 31 => ⟨S2048x8192, .i32⟩
  | 32 => ⟨S_, .i32⟩
  | 33 => ⟨S2048x8192, .i32⟩
  | 34 => ⟨S2048x8192, .i32⟩
  | 35 => ⟨S2048x8192, .i32⟩
  | 36 => ⟨S2048x8192, .i8⟩
  | 37 => ⟨S2048x1024, .f32⟩
  | 38 => ⟨S1, .f32⟩
  | _ => ⟨S1x2048x16384, .bf16⟩

abbrev hbmTy (i : Nat) : BufTy := match i / 128 with
  | 0 => hbmTy0_0 i
  | 1 => hbmTy0_1 i
  | _ => ⟨S1x2048x16384, .bf16⟩

abbrev bufTy : (tb : Table) → Fin (tcTables nBuf tb) → BufTy
  | .hbm, ⟨i, _⟩ => hbmTy i
  | .local _ .vmem, ⟨0, _⟩ => ⟨S2048x1024, .f32⟩
  | .local _ .vmem, ⟨1, _⟩ => ⟨S1x1, .f32⟩
  | .local _ .vmem, ⟨2, _⟩ => ⟨S2048x1024, .fp8e4m3⟩
  | .local _ .vmem, ⟨3, _⟩ => ⟨S2048x1024, .f32⟩
  | _, _ => ⟨S1x2048x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_cst_8 : Ref sig .tc := ⟨.hbm, 52, rfl⟩
abbrev main_call0_v0 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43_0 : Ref sig .tc := ⟨.hbm, 59, rfl⟩
abbrev main_v43_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_call1_v0 : Ref sig .tc := ⟨.hbm, 68, rfl⟩
abbrev main_call1_v1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v52 : Ref sig .tc := ⟨.hbm, 77, rfl⟩
abbrev main_cst_13 : Ref sig .tc := ⟨.hbm, 78, rfl⟩
abbrev main_cst_14 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_cst_17 : Ref sig .tc := ⟨.hbm, 93, rfl⟩
abbrev main_cst_18 : Ref sig .tc := ⟨.hbm, 94, rfl⟩
abbrev main_call4_v0 : Ref sig .tc := ⟨.hbm, 95, rfl⟩
abbrev main_call4_v1 : Ref sig .tc := ⟨.hbm, 96, rfl⟩
abbrev main_v59 : Ref sig .tc := ⟨.hbm, 97, rfl⟩
abbrev main_cst_19 : Ref sig .tc := ⟨.hbm, 98, rfl⟩
abbrev main_call5_v0 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_20 : Ref sig .tc := ⟨.hbm, 112, rfl⟩
abbrev main_v72 : Ref sig .tc := ⟨.hbm, 113, rfl⟩
abbrev main_v73 : Ref sig .tc := ⟨.hbm, 114, rfl⟩
abbrev main_cst_21 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_22 : Ref sig .tc := ⟨.hbm, 123, rfl⟩
abbrev main_v81 : Ref sig .tc := ⟨.hbm, 124, rfl⟩
abbrev main_v82 : Ref sig .tc := ⟨.hbm, 125, rfl⟩
abbrev main_cst_23 : Ref sig .tc := ⟨.hbm, 126, rfl⟩
abbrev main_v83 : Ref sig .tc := ⟨.hbm, 127, rfl⟩
abbrev main_v84 : Ref sig .tc := ⟨.hbm, 128, rfl⟩
abbrev main_cst_24 : Ref sig .tc := ⟨.hbm, 129, rfl⟩
abbrev main_v85 : Ref sig .tc := ⟨.hbm, 130, rfl⟩
abbrev main_v86 : Ref sig .tc := ⟨.hbm, 131, rfl⟩
abbrev main_cst_25 : Ref sig .tc := ⟨.hbm, 132, rfl⟩
abbrev main_v87 : Ref sig .tc := ⟨.hbm, 133, rfl⟩
abbrev main_v88 : Ref sig .tc := ⟨.hbm, 134, rfl⟩
abbrev main_cst_26 : Ref sig .tc := ⟨.hbm, 135, rfl⟩
abbrev main_v89 : Ref sig .tc := ⟨.hbm, 136, rfl⟩
abbrev main_v90 : Ref sig .tc := ⟨.hbm, 137, rfl⟩
abbrev main_cst_27 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_cst_28 : Ref sig .tc := ⟨.hbm, 144, rfl⟩
abbrev main_v96 : Ref sig .tc := ⟨.hbm, 145, rfl⟩
abbrev main_v97 : Ref sig .tc := ⟨.hbm, 146, rfl⟩
abbrev main_c_29 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_c_30 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_31 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelFrame.lean ====
/-
  Hand-written. The frame of `Kernel`: the program runs to its end without a fault, its argument arrays end unchanged and
  every semaphore counter ends at zero. Each of the four kinds of grid point (first point; other points of the first
  phase; first point of the second phase; other points of the second phase) is one run of the body, from buffers at any
  contents to buffers at some contents with the three input blocks kept.
-/
module

public import proofs.«01_k».proof.Proof.Gen.Kernel.Frame
public import proofs.«01_k».proof.Proof.Gen.Kernel.Loops

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A memref held whole at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref held whole at some contents. -/
abbrev some_pt (c : Dev nD) {sp : Space} {S : Shape} {e : EltTy} (M : Memref sig .tc sp S e) : sProp 𝕄 :=
  iprop(∃ f, pt (F := F) c M f)

/-- The kernel's first condition at a point: it is the first step of the first phase. -/
abbrev cond1 (i : grid0.Coords) : BitVec 1 :=
  Scalar.cmpi .ne (Scalar.extui (Scalar.andi (Scalar.cmpi .eq (Scalar.addi (Scalar.muli (BitVec.ofNat 32 (i 1).val) 4#32) (BitVec.ofNat 32 (i 2).val)) 0#32) (Scalar.cmpi .eq (BitVec.ofNat 32 (i 0).val) 0#32))) 0#32

/-- Every point is of one of the four kinds. -/
theorem kinds : ∀ t : Fin cfg0.N,
    let i := grid0.coords t
    (cond1 i = 1#1 ∧ k0_cond2 i = 1#1 ∧ ¬ k0_cond3 i = 1#1 ∧ ¬ k0_cond4 i = 1#1) ∨ (¬ cond1 i = 1#1 ∧ k0_cond2 i = 1#1 ∧ ¬ k0_cond3 i = 1#1 ∧ ¬ k0_cond4 i = 1#1) ∨ (¬ cond1 i = 1#1 ∧ ¬ k0_cond2 i = 1#1 ∧ k0_cond3 i = 1#1 ∧ k0_cond4 i = 1#1) ∨ (¬ cond1 i = 1#1 ∧ ¬ k0_cond2 i = 1#1 ∧ ¬ k0_cond3 i = 1#1 ∧ k0_cond4 i = 1#1) := by
  decide +kernel

/-- The body at the first point runs, keeping its three input blocks. -/
theorem frame_runA (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : cond1 i = 1#1) (h2 : k0_cond2 i = 1#1) (h3 : ¬ k0_cond3 i = 1#1) (h4 : ¬ k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The body at another point of the first phase runs, keeping its three input blocks. -/
theorem frame_runB (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : k0_cond2 i = 1#1) (h3 : ¬ k0_cond3 i = 1#1) (h4 : ¬ k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The body at the first point of the second phase runs, keeping its three input blocks. -/
theorem frame_runC (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : ¬ k0_cond2 i = 1#1) (h3 : k0_cond3 i = 1#1) (h4 : k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The body at another point of the second phase runs, keeping its three input blocks. -/
theorem frame_runD (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : ¬ k0_cond2 i = 1#1) (h3 : ¬ k0_cond3 i = 1#1) (h4 : k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The output windows, whose contents the frame says nothing of. -/
def fgt0 : Fin cfg0.W → Bool := fun w => match w with
  | ⟨0, _⟩ => false | ⟨1, _⟩ => false | ⟨2, _⟩ => false | ⟨3, _⟩ => true | ⟨4, _⟩ => true | ⟨5, _⟩ => true | ⟨6, _⟩ => true

/-- The proof data of the frame: the inputs' blocks stay, the outputs are not named, the scratch is at any contents. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed 3 t
    | ⟨4, _⟩ => Dat.unnamed 4 t
    | ⟨5, _⟩ => Dat.unnamed 5 t
    | ⟨6, _⟩ => Dat.unnamed 6 t
  Φ _ := Pipeline.ΦA spec0 c
  q _ := fullShare
  owed _ := 0

theorem fA_eq (c : Dev nD) (w : Fin cfg0.W) : (fdats m 0 c).A w = V m c (Pipeline.arrRef spec0 w) := by
  dsimp only [fdats]

/-- The scratch buffers and the generator's register, each at some contents. -/
theorem phiA_eq (c : Dev nD) : (Pipeline.ΦA spec0 c : sProp 𝕄)
    = iprop(iprop(some_pt (F := F) c (Memref.whole cc0_scratch0) ∗ some_pt (F := F) c (Memref.whole cc0_scratch1) ∗ some_pt (F := F) c (Memref.whole cc0_scratch2) ∗ some_pt (F := F) c (Memref.whole cc0_scratch3) ∗ some_pt (F := F) c (Memref.whole cc0_scratch4) ∗ some_pt (F := F) c (Memref.whole cc0_scratch5) ∗ some_pt (F := F) c (Memref.whole cc0_scratch6) ∗ some_pt (F := F) c (Memref.whole cc0_scratch7) ∗ some_pt (F := F) c (Memref.whole cc0_scratch8) ∗ some_pt (F := F) c (Memref.whole cc0_scratch9)) ∗ (∃ r, prngReg c r)) := by
  unfold Pipeline.ΦA
  rw [scopedRest0_eq]
  simp only [some_pt, pt, View.set_whole]; try rfl

theorem defs₀_row (t : Fin cfg0.N) : defs₀ (F := F) .tc cfg0.body (cfg0.bodyArgs t (cfg0.slots t)) = bodyAt0 t := by
  unfold defs₀; rw [Defs.onTc_tc]

/-- What the body is handed and hands back at a point. -/
def fPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))
def fPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))

set_option maxHeartbeats 8000000 in
theorem fsound_body (c : Dev nD) (t : Fin cfg0.N) :
    fPre m c t ⊢ wp frame (wpE (defs₀ (F := F)) Variants.none c none) Set.univ (bodyAt0 t) (fun _ => fPost m c t) := by
  unfold fPre fPost
  rw [show (fdats m 0 c).Φ t.succ = (fdats m 0 c).Φ t.castSucc from rfl]
  rw [show (fdats m 0 c).Φ t.castSucc = Pipeline.ΦA spec0 c from rfl, phiA_eq]
  unfold Dat.owesAt Pipeline.owesWithin
  rw [show (fdats m 0 c).owed t.castSucc = 0 from rfl, show (fdats m 0 c).owed t.succ = 0 from rfl]
  rw [show (fdats m 0 c).after 0 t = iblk m c 0 t from rfl, show (fdats m 0 c).after 1 t = iblk m c 1 t from rfl, show (fdats m 0 c).after 2 t = iblk m c 2 t from rfl]
  simp only [before0_0_of m (fdats m 0 c) (fA_eq m c 0) (fun _ => rfl) t, before0_1_of m (fdats m 0 c) (fA_eq m c 1) (fun _ => rfl) t, before0_2_of m (fdats m 0 c) (fA_eq m c 2) (fun _ => rfl) t]
  unfold owns
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (wp_wand_r Idealize.ShloMosaic.frame (wpE (defs₀ (F := F)) Variants.none (c : Thread nD τ) none) Set.univ)
  isplitl [H3 H4 H5 H6 H7 H8 H9 H10 H11 H12 H13 H14 H15 H16 H17 H18 H19]
  · have key : ∀ nothing : Unit, iprop(pt c (st0_0 t) f3 ∗ pt c (st0_1 t) f4 ∗ pt c (st0_2 t) f5 ∗ pt c (st0_3 t) f6 ∗ pt c (st0_4 t) f7 ∗ pt c (st0_5 t) f8 ∗ pt c (st0_6 t) f9 ∗ pt c (Memref.whole cc0_scratch0) f10 ∗ pt c (Memref.whole cc0_scratch1) f11 ∗ pt c (Memref.whole cc0_scratch2) f12 ∗ pt c (Memref.whole cc0_scratch3) f13 ∗ pt c (Memref.whole cc0_scratch4) f14 ∗ pt c (Memref.whole cc0_scratch5) f15 ∗ pt c (Memref.whole cc0_scratch6) f16 ∗ pt c (Memref.whole cc0_scratch7) f17 ∗ pt c (Memref.whole cc0_scratch8) f18 ∗ pt c (Memref.whole cc0_scratch9) f19)
        ⊢ wp frame (wpE (defs₀ (F := F)) Variants.none (c : Thread nD τ) none) Set.univ (bodyAt0 t) (fun _ => iprop(pt c (st0_0 t) f3 ∗ pt c (st0_1 t) f4 ∗ pt c (st0_2 t) f5 ∗ some_pt (F := F) c (st0_3 t) ∗ some_pt (F := F) c (st0_4 t) ∗ some_pt (F := F) c (st0_5 t) ∗ some_pt (F := F) c (st0_6 t) ∗ some_pt (F := F) c (Memref.whole cc0_scratch0) ∗ some_pt (F := F) c (Memref.whole cc0_scratch1) ∗ some_pt (F := F) c (Memref.whole cc0_scratch2) ∗ some_pt (F := F) c (Memref.whole cc0_scratch3) ∗ some_pt (F := F) c (Memref.whole cc0_scratch4) ∗ some_pt (F := F) c (Memref.whole cc0_scratch5) ∗ some_pt (F := F) c (Memref.whole cc0_scratch6) ∗ some_pt (F := F) c (Memref.whole cc0_scratch7) ∗ some_pt (F := F) c (Memref.whole cc0_scratch8) ∗ some_pt (F := F) c (Memref.whole cc0_scratch9))) := by
      intro _
      rcases kinds t with ⟨h1, h2, h3, h4⟩ | ⟨h1, h2, h3, h4⟩ | ⟨h1, h2, h3, h4⟩ | ⟨h1, h2, h3, h4⟩
      · exact frame_runA c _ _ _ _ _ _ _ _ _ _ _ _ _ _ _ _ _ _ _ _ _ _ _ _ _ _ _ _ _ _ _ _ _ _ _ h1 h2 h3 h4 _ _ _ _ _ _ _ _ _ _ _ _ _ _ _ _ _
      · exact frame_runB c _ _ _ _ _ _ _ _ _ _ _ _ _ _ _ _ _ _ _ _ _ _ _ _ _ _ _ _ _ _ _ _ _ _ _ h1 h2 h3 h4 _ _ _ _ _ _ _ _ _ _ _ _ _ _ _ _ _
      · exact frame_runC c _ _ _ _ _ _ _ _ _ _ _ _ _ _ _ _ _ _ _ _ _ _ _ _ _ _ _ _ _ _ _ _ _ _ _ h1 h2 h3 h4 _ _ _ _ _ _ _ _ _ _ _ _ _ _ _ _ _
      · exact frame_runD c _ _ _ _ _ _ _ _ _ _ _ _ _ _ _ _ _ _ _ _ _ _ _ _ _ _ _ _ _ _ _ _ _ _ _ h1 h2 h3 h4 _ _ _ _ _ _ _ _ _ _ _ _ _ _ _ _ _
    iapply (key ())
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %u ⟨H3, H4, H5, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩⟩
  isplitl [H10 H11 H12 H13 H14 H15 H16 H17 H18 H19 Hg]
  · isplitr [Hg]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    iexact Hg
  isplitl [HW]
  · iexists W; isplitr; · ipureintro; exact fun _ _ => Or.inl trivial
    iexact HW
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

theorem fbody_obligation (c : Dev nD) : BodyObligation (fdats m 0 c) defs₀ Variants.none () Set.univ fgt0 := fun t => by
  rw [bigSep_W0, bigSep_W0, defs₀_row]
  exact triple_restated (fsound_body m c t) rfl .rfl fun _ => .rfl

set_option backward.isDefEq.respectTransparency.types false in
/-- The program runs, its argument arrays end unchanged and every semaphore counter ends at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 0 rfl).trans ((fA_eq m c 0).trans (V_main_arg1 m c)),
      ((h.1 c).2 main_arg2 (Pipeline.mem_restRefs_of main_arg2 (by decide) (by decide))).trans (V_main_arg2 m c)⟩, h.2⟩)
    (Pipeline.θ_run_frame_forget cfgs (fdats m) (0 : Fin 1) launch0 defs₀ Variants.none fgt0 m ρ main
      (hbody := fun c => (fbody_obligation m c).loose) (hshare := fun c => (fdats m 0 c).share_full fun _ => rfl)
      (howed := fun _ _ => rfl) (V := V m) (hmain := hmain m Variants.none) (hA := fA_eq m) (hΦ := fun _ _ => rfl)
      (Q' := fun r => Pipeline.RDat.FramePost cfg0 (fun c => (fdats m 0 c).toRForget fgt0) (V m) r ∧ r.2.sem = fun _ => 0))

end Cert.Kernel.Hand

end
-- ==== Proof.KernelIdealFrame.lean ====
/-
  Hand-written. The frame of `KernelIdeal`: the program runs to its end without a fault, its argument arrays end unchanged and
  every semaphore counter ends at zero. Each of the four kinds of grid point (first point; other points of the first
  phase; first point of the second phase; other points of the second phase) is one run of the body, from buffers at any
  contents to buffers at some contents with the three input blocks kept.
-/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A memref held whole at contents `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- A memref held whole at some contents. -/
abbrev some_pt (c : Dev nD) {sp : Space} {S : Shape} {e : EltTy} (M : Memref sig .tc sp S e) : sProp 𝕄 :=
  iprop(∃ f, pt (F := F) c M f)

/-- The kernel's first condition at a point: it is the first step of the first phase. -/
abbrev cond1 (i : grid0.Coords) : BitVec 1 :=
  Scalar.cmpi .ne (Scalar.extui (Scalar.andi (Scalar.cmpi .eq (Scalar.addi (Scalar.muli (BitVec.ofNat 32 (i 1).val) 4#32) (BitVec.ofNat 32 (i 2).val)) 0#32) (Scalar.cmpi .eq (BitVec.ofNat 32 (i 0).val) 0#32))) 0#32

/-- Every point is of one of the four kinds. -/
theorem kinds : ∀ t : Fin cfg0.N,
    let i := grid0.coords t
    (cond1 i = 1#1 ∧ k0_cond2 i = 1#1 ∧ ¬ k0_cond3 i = 1#1 ∧ ¬ k0_cond4 i = 1#1) ∨ (¬ cond1 i = 1#1 ∧ k0_cond2 i = 1#1 ∧ ¬ k0_cond3 i = 1#1 ∧ ¬ k0_cond4 i = 1#1) ∨ (¬ cond1 i = 1#1 ∧ ¬ k0_cond2 i = 1#1 ∧ k0_cond3 i = 1#1 ∧ k0_cond4 i = 1#1) ∨ (¬ cond1 i = 1#1 ∧ ¬ k0_cond2 i = 1#1 ∧ ¬ k0_cond3 i = 1#1 ∧ k0_cond4 i = 1#1) := by
  decide +kernel

/-- The body at the first point runs, keeping its three input blocks. -/
theorem frame_runA (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : cond1 i = 1#1) (h2 : k0_cond2 i = 1#1) (h3 : ¬ k0_cond3 i = 1#1) (h4 : ¬ k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The body at another point of the first phase runs, keeping its three input blocks. -/
theorem frame_runB (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : k0_cond2 i = 1#1) (h3 : ¬ k0_cond3 i = 1#1) (h4 : ¬ k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The body at the first point of the second phase runs, keeping its three input blocks. -/
theorem frame_runC (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : ¬ k0_cond2 i = 1#1) (h3 : k0_cond3 i = 1#1) (h4 : k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The body at another point of the second phase runs, keeping its three input blocks. -/
theorem frame_runD (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : ¬ k0_cond2 i = 1#1) (h3 : ¬ k0_cond3 i = 1#1) (h4 : k0_cond4 i = 1#1) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := F)) Variants.none (c : Thread nD τ) none) Set.univ (cc0_nvfp4_rht (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg3 f3 ∗ pt c arg4 f4 ∗ pt c arg5 f5 ∗ some_pt (F := F) c arg6 ∗ some_pt (F := F) c arg7 ∗ some_pt (F := F) c arg8 ∗ some_pt (F := F) c arg9 ∗ some_pt (F := F) c arg10 ∗ some_pt (F := F) c arg11 ∗ some_pt (F := F) c arg12 ∗ some_pt (F := F) c arg13 ∗ some_pt (F := F) c arg14 ∗ some_pt (F := F) c arg15 ∗ some_pt (F := F) c arg16 ∗ some_pt (F := F) c arg17 ∗ some_pt (F := F) c arg18 ∗ some_pt (F := F) c arg19)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  iexists _; iexact H19

/-- The output windows, whose contents the frame says nothing of. -/
def fgt0 : Fin cfg0.W → Bool := fun w => match w with
  | ⟨0, _⟩ => false | ⟨1, _⟩ => false | ⟨2, _⟩ => false | ⟨3, _⟩ => true | ⟨4, _⟩ => true | ⟨5, _⟩ => true | ⟨6, _⟩ => true

/-- The proof data of the frame: the inputs' blocks stay, the outputs are not named, the scratch is at any contents. -/
def fdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed 3 t
    | ⟨4, _⟩ => Dat.unnamed 4 t
    | ⟨5, _⟩ => Dat.unnamed 5 t
    | ⟨6, _⟩ => Dat.unnamed 6 t
  Φ _ := Pipeline.ΦA spec0 c
  q _ := fullShare
  owed _ := 0

theorem fA_eq (c : Dev nD) (w : Fin cfg0.W) : (fdats m 0 c).A w = V m c (Pipeline.arrRef spec0 w) := by
  dsimp only [fdats]

/-- The scratch buffers and the generator's register, each at some contents. -/
theorem phiA_eq (c : Dev nD) : (Pipeline.ΦA spec0 c : sProp 𝕄)
    = iprop(iprop(some_pt (F := F) c (Memref.whole cc0_scratch0) ∗ some_pt (F := F) c (Memref.whole cc0_scratch1) ∗ some_pt (F := F) c (Memref.whole cc0_scratch2) ∗ some_pt (F := F) c (Memref.whole cc0_scratch3) ∗ some_pt (F := F) c (Memref.whole cc0_scratch4) ∗ some_pt (F := F) c (Memref.whole cc0_scratch5) ∗ some_pt (F := F) c (Memref.whole cc0_scratch6) ∗ some_pt (F := F) c (Memref.whole cc0_scratch7) ∗ some_pt (F := F) c (Memref.whole cc0_scratch8) ∗ some_pt (F := F) c (Memref.whole cc0_scratch9)) ∗ (∃ r, prngReg c r)) := by
  unfold Pipeline.ΦA
  rw [scopedRest0_eq]
  simp only [some_pt, pt, View.set_whole]; try rfl

theorem defs₀_row (t : Fin cfg0.N) : defs₀ (F := F) .tc cfg0.body (cfg0.bodyArgs t (cfg0.slots t)) = bodyAt0 t := by
  unfold defs₀; rw [Defs.onTc_tc]

/-- What the body is handed and hands back at a point. -/
def fPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))
def fPost (c : Dev nD) (t : Fin cfg0.N) : sProp 𝕄 :=
  iprop((fdats m 0 c).Φ t.succ ∗ (fdats m 0 c).owesAt () t.succ
    ∗ owns (c : Thread nD τ) (st0_0 t) fullShare ((fdats m 0 c).after 0 t)
    ∗ owns (c : Thread nD τ) (st0_1 t) fullShare ((fdats m 0 c).after 1 t)
    ∗ owns (c : Thread nD τ) (st0_2 t) fullShare ((fdats m 0 c).after 2 t)
    ∗ (∃ d, owns (c : Thread nD τ) (st0_3 t) fullShare d) ∗ (∃ d, owns (c : Thread nD τ) (st0_4 t) fullShare d)
    ∗ (∃ d, owns (c : Thread nD τ) (st0_5 t) fullShare d) ∗ (∃ d, owns (c : Thread nD τ) (st0_6 t) fullShare d))

set_option maxHeartbeats 8000000 in
theorem fsound_body (c : Dev nD) (t : Fin cfg0.N) :
    fPre m c t ⊢ wp frame (wpE (defs₀ (F := F)) Variants.none c none) Set.univ (bodyAt0 t) (fun _ => fPost m c t) := by
  unfold fPre fPost
  rw [show (fdats m 0 c).Φ t.succ = (fdats m 0 c).Φ t.castSucc from rfl]
  rw [show (fdats m 0 c).Φ t.castSucc = Pipeline.ΦA spec0 c from rfl, phiA_eq]
  unfold Dat.owesAt Pipeline.owesWithin
  rw [show (fdats m 0 c).owed t.castSucc = 0 from rfl, show (fdats m 0 c).owed t.succ = 0 from rfl]
  rw [show (fdats m 0 c).after 0 t = iblk m c 0 t from rfl, show (fdats m 0 c).after 1 t = iblk m c 1 t from rfl, show (fdats m 0 c).after 2 t = iblk m c 2 t from rfl]
  simp only [before0_0_of m (fdats m 0 c) (fA_eq m c 0) (fun _ => rfl) t, before0_1_of m (fdats m 0 c) (fA_eq m c 1) (fun _ => rfl) t, before0_2_of m (fdats m 0 c) (fA_eq m c 2) (fun _ => rfl) t]
  unfold owns
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (wp_wand_r Idealize.ShloMosaic.frame (wpE (defs₀ (F := F)) Variants.none (c : Thread nD τ) none) Set.univ)
  isplitl [H3 H4 H5 H6 H7 H8 H9 H10 H11 H12 H13 H14 H15 H16 H17 H18 H19]
  · have key : ∀ nothing : Unit, iprop(pt c (st0_0 t) f3 ∗ pt c (st0_1 t) f4 ∗ pt c (st0_2 t) f5 ∗ pt c (st0_3 t) f6 ∗ pt c (st0_4 t) f7 ∗ pt c (st0_5 t) f8 ∗ pt c (st0_6 t) f9 ∗ pt c (Memref.whole cc0_scratch0) f10 ∗ pt c (Memref.whole cc0_scratch1) f11 ∗ pt c (Memref.whole cc0_scratch2) f12 ∗ pt c (Memref.whole cc0_scratch3) f13 ∗ pt c (Memref.whole cc0_scratch4) f14 ∗ pt c (Memref.whole cc0_scratch5) f15 ∗ pt c (Memref.whole cc0_scratch6) f16 ∗ pt c (Memref.whole cc0_scratch7) f17 ∗ pt c (Memref.whole cc0_scratch8) f18 ∗ pt c (Memref.whole cc0_scratch9) f19)
        ⊢ wp frame (wpE (defs₀ (F := F)) Variants.none (c : Thread nD τ) none) Set.univ (bodyAt0 t) (fun _ => iprop(pt c (st0_0 t) f3 ∗ pt c (st0_1 t) f4 ∗ pt c (st0_2 t) f5 ∗ some_pt (F := F) c (st0_3 t) ∗ some_pt (F := F) c (st0_4 t) ∗ some_pt (F := F) c (st0_5 t) ∗ some_pt (F := F) c (st0_6 t) ∗ some_pt (F := F) c (Memref.whole cc0_scratch0) ∗ some_pt (F := F) c (Memref.whole cc0_scratch1) ∗ some_pt (F := F) c (Memref.whole cc0_scratch2) ∗ some_pt (F := F) c (Memref.whole cc0_scratch3) ∗ some_pt (F := F) c (Memref.whole cc0_scratch4) ∗ some_pt (F := F) c (Memref.whole cc0_scratch5) ∗ some_pt (F := F) c (Memref.whole cc0_scratch6) ∗ some_pt (F := F) c (Memref.whole cc0_scratch7) ∗ some_pt (F := F) c (Memref.whole cc0_scratch8) ∗ some_pt (F := F) c (Memref.whole cc0_scratch9))) := by
      intro _
      rcases kinds t with ⟨h1, h2, h3, h4⟩ | ⟨h1, h2, h3, h4⟩ | ⟨h1, h2, h3, h4⟩ | ⟨h1, h2, h3, h4⟩
      · exact frame_runA c _ _ _ _ _ _ _ _ _ _ _ _ _ _ _ _ _ _ _ _ _ _ _ _ _ _ _ _ _ _ _ _ _ _ _ h1 h2 h3 h4 _ _ _ _ _ _ _ _ _ _ _ _ _ _ _ _ _
      · exact frame_runB c _ _ _ _ _ _ _ _ _ _ _ _ _ _ _ _ _ _ _ _ _ _ _ _ _ _ _ _ _ _ _ _ _ _ _ h1 h2 h3 h4 _ _ _ _ _ _ _ _ _ _ _ _ _ _ _ _ _
      · exact frame_runC c _ _ _ _ _ _ _ _ _ _ _ _ _ _ _ _ _ _ _ _ _ _ _ _ _ _ _ _ _ _ _ _ _ _ _ h1 h2 h3 h4 _ _ _ _ _ _ _ _ _ _ _ _ _ _ _ _ _
      · exact frame_runD c _ _ _ _ _ _ _ _ _ _ _ _ _ _ _ _ _ _ _ _ _ _ _ _ _ _ _ _ _ _ _ _ _ _ _ h1 h2 h3 h4 _ _ _ _ _ _ _ _ _ _ _ _ _ _ _ _ _
    iapply (key ())
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %u ⟨H3, H4, H5, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, ⟨%g18, H18⟩, ⟨%g19, H19⟩⟩
  isplitl [H10 H11 H12 H13 H14 H15 H16 H17 H18 H19 Hg]
  · isplitr [Hg]
    · isplitl [H10]; · iexists _; iexact H10
      isplitl [H11]; · iexists _; iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iexists _; iexact H19
    iexact Hg
  isplitl [HW]
  · iexists W; isplitr; · ipureintro; exact fun _ _ => Or.inl trivial
    iexact HW
  isplitl [H3]
  · iexists f3; isplitr; swap; · iexact H3
    ipureintro; exact e3
  isplitl [H4]
  · iexists f4; isplitr; swap; · iexact H4
    ipureintro; exact e4
  isplitl [H5]
  · iexists f5; isplitr; swap; · iexact H5
    ipureintro; exact e5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

theorem fbody_obligation (c : Dev nD) : BodyObligation (fdats m 0 c) defs₀ Variants.none () Set.univ fgt0 := fun t => by
  rw [bigSep_W0, bigSep_W0, defs₀_row]
  exact triple_restated (fsound_body m c t) rfl .rfl fun _ => .rfl

set_option backward.isDefEq.respectTransparency.types false in
/-- The program runs, its argument arrays end unchanged and every semaphore counter ends at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 0 rfl).trans ((fA_eq m c 0).trans (V_main_arg1 m c)),
      ((h.1 c).2 main_arg2 (Pipeline.mem_restRefs_of main_arg2 (by decide) (by decide))).trans (V_main_arg2 m c)⟩, h.2⟩)
    (Pipeline.θ_run_frame_forget cfgs (fdats m) (0 : Fin 1) launch0 defs₀ Variants.none fgt0 m ρ main
      (hbody := fun c => (fbody_obligation m c).loose) (hshare := fun c => (fdats m 0 c).share_full fun _ => rfl)
      (howed := fun _ _ => rfl) (V := V m) (hmain := hmain m Variants.none) (hA := fA_eq m) (hΦ := fun _ _ => rfl)
      (Q' := fun r => Pipeline.RDat.FramePost cfg0 (fun c => (fdats m 0 c).toRForget fgt0) (V m) r ∧ r.2.sem = fun _ => 0))

end Cert.KernelIdeal.Hand

end
-- ==== Proof.AmaxTrip.lean ====
module

public import proofs.«01_k».proof.Proof.Gen.KernelIdeal.Frame
public import proofs.«01_k».proof.Proof.Gen.KernelIdeal.Loops
public import Idealize.ShloMosaic.Lib.Pointwise
public import Idealize.ShloMosaic.Lib.Pipeline.ValueKit
public import Idealize.ShloMosaic.Lib.BitcastPair
public import Idealize.ShloMosaic.Lib.BitcastFour

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The magnitude of an extended real. -/
def mag (x : EReal) : EReal := FloatOps.absf (F := Ideal) (φ := .f32) x

/-- The larger magnitude of the two channels of pair `i` of block `n` of a transformed tile, at token `t`. -/
def pairMax (w : S256x256.Idx → EReal) (n : Fin 16) (i : Fin 8) (t : Fin 256) : EReal :=
  max (mag (w (ix2 (⟨16 * n.val + i.val, by omega⟩ : Fin 256) t))) (mag (w (ix2 (⟨16 * n.val + 8 + i.val, by omega⟩ : Fin 256) t)))

/-- The largest magnitude of block `n` of a transformed tile, at token `t`. -/
def blkMax (w : S256x256.Idx → EReal) (n : Fin 16) (t : Fin 256) : EReal :=
  Finset.univ.sup fun i : Fin 8 => pairMax w n i t

/-- The plane of pair maxima: row `8n + i` of half `lt`, lane `l`. -/
def plane (w : S256x256.Idx → EReal) : S2x128x128.Idx → EReal := fun y =>
  have h0 : (y 0).val < 2 := (y 0).isLt
  have h1 : (y 1).val < 128 := (y 1).isLt
  have h2 : (y 2).val < 128 := (y 2).isLt
  pairMax w ⟨(y 1).val / 8, by omega⟩ ⟨(y 1).val % 8, by omega⟩ ⟨128 * (y 0).val + (y 2).val, by omega⟩

/-- Eight maxima in a chain are the supremum. -/
theorem sup_eight (m : Fin 8 → EReal) :
    Finset.univ.sup m = max (max (max (max (max (max (max (m 0) (m 1)) (m 2)) (m 3)) (m 4)) (m 5)) (m 6)) (m 7) := by
  rw [show (Finset.univ : Finset (Fin 8)) = {0, 1, 2, 3, 4, 5, 6, 7} from rfl]
  simp [Finset.sup_insert, sup_assoc]

/-- One stored piece of the plane, at any tile: two groups of eight rows, one half of the tokens. -/
theorem plane_piece (w : FVec Ideal S256x256 .f32) (lt j o1 o2 l : ℕ) (ho1 : o1 = 16 * j) (ho2 : o2 = 16 * j + 8) (hl : l = 128 * lt)
    (hlt : lt < 2) (hj : j < 16)
    (s1 : S256x256.Slices ![o1, 0] S8x256) (s2 : S256x256.Slices ![o2, 0] S8x256) (s3 s4 : S8x256.Slices ![0, l] S8x128) (hc)
    (x : S1x8x128.Idx) (y : S2x128x128.Idx) (hy : ∀ a, (y a).val = (![lt, 8 * j, 0] : Fin 3 → ℕ) a + 1 * (x a).val) :
    shapeCast S1x8x128 (maximumf (absf (extractStridedSlice S8x128 ![0, l] (extractStridedSlice S8x256 ![o1, 0] w s1) s3))
      (absf (extractStridedSlice S8x128 ![0, l] (extractStridedSlice S8x256 ![o2, 0] w s2) s4))) hc x = plane w y := by
  subst ho1 ho2 hl
  have e0 : (y 0).val = lt := by have := hy 0; have h0 : (x 0).val < 1 := (x 0).isLt; simp at this; omega
  have e1 : (y 1).val = 8 * j + (x 1).val := by have := hy 1; simp at this; omega
  have e2 : (y 2).val = (x 2).val := by have := hy 2; simp at this; omega
  have h1 : (x 1).val < 8 := (x 1).isLt
  pointwise
  unfold plane pairMax mag
  dsimp only
  have r1 : 16 * ((y 1).val / 8) + (y 1).val % 8 = 16 * j + (x 1).val := by omega
  have r2 : 16 * ((y 1).val / 8) + 8 + (y 1).val % 8 = 16 * j + 8 + (x 1).val := by omega
  have r3 : 128 * (y 0).val + (y 2).val = 128 * lt + (x 2).val := by omega
  simp only [r1, r2, r3]

/-- The plane as one trip leaves it. -/
theorem HW15_apply (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (y : S2x128x128.Idx) :
    View.canon (trip_k0_t1.sl.HW_arg15_32 (F := Ideal) i arg4 arg10 h2 X4 X10 k) y = plane (trip_k0_t1.sl.r (F := Ideal) i arg4 arg10 h2 X4 X10 k) y := by
  refine View.canon_apply_of_pieces _ _ ?_ y ?_
  · unfold trip_k0_t1.sl.HW_arg15_32
    unfold trip_k0_t1.sl.r_5 trip_k0_t1.sl.r_6 trip_k0_t1.sl.r_7 trip_k0_t1.sl.r_8 trip_k0_t1.sl.r_9 trip_k0_t1.sl.r_10 trip_k0_t1.sl.r_16 trip_k0_t1.sl.r_17 trip_k0_t1.sl.r_18 trip_k0_t1.sl.r_19 trip_k0_t1.sl.r_20 trip_k0_t1.sl.r_21 trip_k0_t1.sl.r_22 trip_k0_t1.sl.r_23 trip_k0_t1.sl.r_28 trip_k0_t1.sl.r_29 trip_k0_t1.sl.r_30 trip_k0_t1.sl.r_31 trip_k0_t1.sl.r_32 trip_k0_t1.sl.r_36 trip_k0_t1.sl.r_37 trip_k0_t1.sl.r_38 trip_k0_t1.sl.r_39 trip_k0_t1.sl.r
    generalize View.readAt (Elt Ideal) arg10.view (Rect.unit ![0, 0] S256x256.size inb_S256x256_S256x256_0_0).toLoadRect X10 = a
    generalize View.readAt (Elt Ideal) arg4.view (Rect.unit (s := S256x4096) (k0_off1 k) S256x256.size (k0_off1_inb i k h2)).toLoadRect X4 = b
    unfold k0_pay24 k0_pay25 k0_pay26 k0_pay27 k0_pay20 k0_pay21 k0_pay22 k0_pay23
    dsimp only
    generalize k0_pay19 a b = r
    refine List.forall_mem_cons.2 ⟨fun x => plane_piece r 1 15 240 248 128 rfl rfl rfl (by decide) (by decide) slices_S256x256_o240_0_S8x256 slices_S256x256_o248_0_S8x256 slices_S8x256_o0_128_S8x128 slices_S8x256_o0_128_S8x128 shapeCasts_S8x128_S1x8x128 x _ (fun a => rfl), ?_⟩
    refine List.forall_mem_cons.2 ⟨fun x => plane_piece r 1 14 224 232 128 rfl rfl rfl (by decide) (by decide) slices_S256x256_o224_0_S8x256 slices_S256x256_o232_0_S8x256 slices_S8x256_o0_128_S8x128 slices_S8x256_o0_128_S8x128 shapeCasts_S8x128_S1x8x128 x _ (fun a => rfl), ?_⟩
    refine List.forall_mem_cons.2 ⟨fun x => plane_piece r 0 15 240 248 0 rfl rfl rfl (by decide) (by decide) slices_S256x256_o240_0_S8x256 slices_S256x256_o248_0_S8x256 slices_S8x256_o0_0_S8x128 slices_S8x256_o0_0_S8x128 shapeCasts_S8x128_S1x8x128 x _ (fun a => rfl), ?_⟩
    refine List.forall_mem_cons.2 ⟨fun x => plane_piece r 0 14 224 232 0 rfl rfl rfl (by decide) (by decide) slices_S256x256_o224_0_S8x256 slices_S256x256_o232_0_S8x256 slices_S8x256_o0_0_S8x128 slices_S8x256_o0_0_S8x128 shapeCasts_S8x128_S1x8x128 x _ (fun a => rfl), ?_⟩
    refine List.forall_mem_cons.2 ⟨fun x => plane_piece r 1 13 208 216 128 rfl rfl rfl (by decide) (by decide) slices_S256x256_o208_0_S8x256 slices_S256x256_o216_0_S8x256 slices_S8x256_o0_128_S8x128 slices_S8x256_o0_128_S8x128 shapeCasts_S8x128_S1x8x128 x _ (fun a => rfl), ?_⟩
    refine List.forall_mem_cons.2 ⟨fun x => plane_piece r 1 12 192 200 128 rfl rfl rfl (by decide) (by decide) slices_S256x256_o192_0_S8x256 slices_S256x256_o200_0_S8x256 slices_S8x256_o0_128_S8x128 slices_S8x256_o0_128_S8x128 shapeCasts_S8x128_S1x8x128 x _ (fun a => rfl), ?_⟩
    refine List.forall_mem_cons.2 ⟨fun x => plane_piece r 0 13 208 216 0 rfl rfl rfl (by decide) (by decide) slices_S256x256_o208_0_S8x256 slices_S256x256_o216_0_S8x256 slices_S8x256_o0_0_S8x128 slices_S8x256_o0_0_S8x128 shapeCasts_S8x128_S1x8x128 x _ (fun a => rfl), ?_⟩
    refine List.forall_mem_cons.2 ⟨fun x => plane_piece r 0 12 192 200 0 rfl rfl rfl (by decide) (by decide) slices_S256x256_o192_0_S8x256 slices_S256x256_o200_0_S8x256 slices_S8x256_o0_0_S8x128 slices_S8x256_o0_0_S8x128 shapeCasts_S8x128_S1x8x128 x _ (fun a => rfl), ?_⟩
    refine List.forall_mem_cons.2 ⟨fun x => plane_piece r 1 11 176 184 128 rfl rfl rfl (by decide) (by decide) slices_S256x256_o176_0_S8x256 slices_S256x256_o184_0_S8x256 slices_S8x256_o0_128_S8x128 slices_S8x256_o0_128_S8x128 shapeCasts_S8x128_S1x8x128 x _ (fun a => rfl), ?_⟩
    refine List.forall_mem_cons.2 ⟨fun x => plane_piece r 1 10 160 168 128 rfl rfl rfl (by decide) (by decide) slices_S256x256_o160_0_S8x256 slices_S256x256_o168_0_S8x256 slices_S8x256_o0_128_S8x128 slices_S8x256_o0_128_S8x128 shapeCasts_S8x128_S1x8x128 x _ (fun a => rfl), ?_⟩
    refine List.forall_mem_cons.2 ⟨fun x => plane_piece r 0 11 176 184 0 rfl rfl rfl (by decide) (by decide) slices_S256x256_o176_0_S8x256 slices_S256x256_o184_0_S8x256 slices_S8x256_o0_0_S8x128 slices_S8x256_o0_0_S8x128 shapeCasts_S8x128_S1x8x128 x _ (fun a => rfl), ?_⟩
    refine List.forall_mem_cons.2 ⟨fun x => plane_piece r 0 10 160 168 0 rfl rfl rfl (by decide) (by decide) slices_S256x256_o160_0_S8x256 slices_S256x256_o168_0_S8x256 slices_S8x256_o0_0_S8x128 slices_S8x256_o0_0_S8x128 shapeCasts_S8x128_S1x8x128 x _ (fun a => rfl), ?_⟩
    refine List.forall_mem_cons.2 ⟨fun x => plane_piece r 1 9 144 152 128 rfl rfl rfl (by decide) (by decide) slices_S256x256_o144_0_S8x256 slices_S256x256_o152_0_S8x256 slices_S8x256_o0_128_S8x128 slices_S8x256_o0_128_S8x128 shapeCasts_S8x128_S1x8x128 x _ (fun a => rfl), ?_⟩
    refine List.forall_mem_cons.2 ⟨fun x => plane_piece r 1 8 128 136 128 rfl rfl rfl (by decide) (by decide) slices_S256x256_o128_0_S8x256 slices_S256x256_o136_0_S8x256 slices_S8x256_o0_128_S8x128 slices_S8x256_o0_128_S8x128 shapeCasts_S8x128_S1x8x128 x _ (fun a => rfl), ?_⟩
    refine List.forall_mem_cons.2 ⟨fun x => plane_piece r 0 9 144 152 0 rfl rfl rfl (by decide) (by decide) slices_S256x256_o144_0_S8x256 slices_S256x256_o152_0_S8x256 slices_S8x256_o0_0_S8x128 slices_S8x256_o0_0_S8x128 shapeCasts_S8x128_S1x8x128 x _ (fun a => rfl), ?_⟩
    refine List.forall_mem_cons.2 ⟨fun x => plane_piece r 0 8 128 136 0 rfl rfl rfl (by decide) (by decide) slices_S256x256_o128_0_S8x256 slices_S256x256_o136_0_S8x256 slices_S8x256_o0_0_S8x128 slices_S8x256_o0_0_S8x128 shapeCasts_S8x128_S1x8x128 x _ (fun a => rfl), ?_⟩
    refine List.forall_mem_cons.2 ⟨fun x => plane_piece r 1 7 112 120 128 rfl rfl rfl (by decide) (by decide) slices_S256x256_o112_0_S8x256 slices_S256x256_o120_0_S8x256 slices_S8x256_o0_128_S8x128 slices_S8x256_o0_128_S8x128 shapeCasts_S8x128_S1x8x128 x _ (fun a => rfl), ?_⟩
    refine List.forall_mem_cons.2 ⟨fun x => plane_piece r 1 6 96 104 128 rfl rfl rfl (by decide) (by decide) slices_S256x256_o96_0_S8x256 slices_S256x256_o104_0_S8x256 slices_S8x256_o0_128_S8x128 slices_S8x256_o0_128_S8x128 shapeCasts_S8x128_S1x8x128 x _ (fun a => rfl), ?_⟩
    refine List.forall_mem_cons.2 ⟨fun x => plane_piece r 0 7 112 120 0 rfl rfl rfl (by decide) (by decide) slices_S256x256_o112_0_S8x256 slices_S256x256_o120_0_S8x256 slices_S8x256_o0_0_S8x128 slices_S8x256_o0_0_S8x128 shapeCasts_S8x128_S1x8x128 x _ (fun a => rfl), ?_⟩
    refine List.forall_mem_cons.2 ⟨fun x => plane_piece r 0 6 96 104 0 rfl rfl rfl (by decide) (by decide) slices_S256x256_o96_0_S8x256 slices_S256x256_o104_0_S8x256 slices_S8x256_o0_0_S8x128 slices_S8x256_o0_0_S8x128 shapeCasts_S8x128_S1x8x128 x _ (fun a => rfl), ?_⟩
    refine List.forall_mem_cons.2 ⟨fun x => plane_piece r 1 5 80 88 128 rfl rfl rfl (by decide) (by decide) slices_S256x256_o80_0_S8x256 slices_S256x256_o88_0_S8x256 slices_S8x256_o0_128_S8x128 slices_S8x256_o0_128_S8x128 shapeCasts_S8x128_S1x8x128 x _ (fun a => rfl), ?_⟩
    refine List.forall_mem_cons.2 ⟨fun x => plane_piece r 1 4 64 72 128 rfl rfl rfl (by decide) (by decide) slices_S256x256_o64_0_S8x256 slices_S256x256_o72_0_S8x256 slices_S8x256_o0_128_S8x128 slices_S8x256_o0_128_S8x128 shapeCasts_S8x128_S1x8x128 x _ (fun a => rfl), ?_⟩
    refine List.forall_mem_cons.2 ⟨fun x => plane_piece r 0 5 80 88 0 rfl rfl rfl (by decide) (by decide) slices_S256x256_o80_0_S8x256 slices_S256x256_o88_0_S8x256 slices_S8x256_o0_0_S8x128 slices_S8x256_o0_0_S8x128 shapeCasts_S8x128_S1x8x128 x _ (fun a => rfl), ?_⟩
    refine List.forall_mem_cons.2 ⟨fun x => plane_piece r 0 4 64 72 0 rfl rfl rfl (by decide) (by decide) slices_S256x256_o64_0_S8x256 slices_S256x256_o72_0_S8x256 slices_S8x256_o0_0_S8x128 slices_S8x256_o0_0_S8x128 shapeCasts_S8x128_S1x8x128 x _ (fun a => rfl), ?_⟩
    refine List.forall_mem_cons.2 ⟨fun x => plane_piece r 1 3 48 56 128 rfl rfl rfl (by decide) (by decide) slices_S256x256_o48_0_S8x256 slices_S256x256_o56_0_S8x256 slices_S8x256_o0_128_S8x128 slices_S8x256_o0_128_S8x128 shapeCasts_S8x128_S1x8x128 x _ (fun a => rfl), ?_⟩
    refine List.forall_mem_cons.2 ⟨fun x => plane_piece r 1 2 32 40 128 rfl rfl rfl (by decide) (by decide) slices_S256x256_o32_0_S8x256 slices_S256x256_o40_0_S8x256 slices_S8x256_o0_128_S8x128 slices_S8x256_o0_128_S8x128 shapeCasts_S8x128_S1x8x128 x _ (fun a => rfl), ?_⟩
    refine List.forall_mem_cons.2 ⟨fun x => plane_piece r 0 3 48 56 0 rfl rfl rfl (by decide) (by decide) slices_S256x256_o48_0_S8x256 slices_S256x256_o56_0_S8x256 slices_S8x256_o0_0_S8x128 slices_S8x256_o0_0_S8x128 shapeCasts_S8x128_S1x8x128 x _ (fun a => rfl), ?_⟩
    refine List.forall_mem_cons.2 ⟨fun x => plane_piece r 0 2 32 40 0 rfl rfl rfl (by decide) (by decide) slices_S256x256_o32_0_S8x256 slices_S256x256_o40_0_S8x256 slices_S8x256_o0_0_S8x128 slices_S8x256_o0_0_S8x128 shapeCasts_S8x128_S1x8x128 x _ (fun a => rfl), ?_⟩
    refine List.forall_mem_cons.2 ⟨fun x => plane_piece r 1 1 16 24 128 rfl rfl rfl (by decide) (by decide) slices_S256x256_o16_0_S8x256 slices_S256x256_o24_0_S8x256 slices_S8x256_o0_128_S8x128 slices_S8x256_o0_128_S8x128 shapeCasts_S8x128_S1x8x128 x _ (fun a => rfl), ?_⟩
    refine List.forall_mem_cons.2 ⟨fun x => plane_piece r 1 0 0 8 128 rfl rfl rfl (by decide) (by decide) slices_S256x256_o0_0_S8x256 slices_S256x256_o8_0_S8x256 slices_S8x256_o0_128_S8x128 slices_S8x256_o0_128_S8x128 shapeCasts_S8x128_S1x8x128 x _ (fun a => rfl), ?_⟩
    refine List.forall_mem_cons.2 ⟨fun x => plane_piece r 0 1 16 24 0 rfl rfl rfl (by decide) (by decide) slices_S256x256_o16_0_S8x256 slices_S256x256_o24_0_S8x256 slices_S8x256_o0_0_S8x128 slices_S8x256_o0_0_S8x128 shapeCasts_S8x128_S1x8x128 x _ (fun a => rfl), ?_⟩
    refine List.forall_mem_cons.2 ⟨fun x => plane_piece r 0 0 0 8 0 rfl rfl rfl (by decide) (by decide) slices_S256x256_o0_0_S8x256 slices_S256x256_o8_0_S8x256 slices_S8x256_o0_0_S8x128 slices_S8x256_o0_0_S8x128 shapeCasts_S8x128_S1x8x128 x _ (fun a => rfl), ?_⟩
    exact fun p hp => absurd hp List.not_mem_nil
  · exact View.cover_of_tiledL _ ![1, 8, 128] (by unfold trip_k0_t1.sl.HW_arg15_32; rfl) y

/-- The plane at row `8m + q` of half `lt`. -/
theorem plane_eq (w : S256x256.Idx → EReal) (y : S2x128x128.Idx) (m : Fin 16) (q : Fin 8) (t : Fin 256)
    (h1 : (y 1).val = 8 * m.val + q.val) (h2 : 128 * (y 0).val + (y 2).val = t.val) : plane w y = pairMax w m q t := by
  unfold plane
  dsimp only
  congr 1
  · exact Fin.ext (by simp only; omega)
  · exact Fin.ext (by simp only; omega)
  · exact Fin.ext h2

theorem v592_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v592 (F := Ideal) i arg4 arg10 arg15 h2 X4 X10 k (ix3 0 n l) = pairMax (trip_k0_t1.sl.r (F := Ideal) i arg4 arg10 h2 X4 X10 k) ⟨0 + n.val, by omega⟩ 0 ⟨0 + l.val, by omega⟩ := by
  unfold trip_k0_t1.sl.v592
  rw [View.readCov_eq_canon']
  refine (HW15_apply i arg4 arg10 h2 X4 X10 k _).trans (plane_eq _ _ _ _ _ ?_ ?_)
  · show 0 + 8 * n.val = 8 * (0 + n.val) + 0
    omega
  · show 128 * (0 + 1 * 0) + (0 + 1 * l.val) = 0 + l.val
    omega

theorem v594_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v594 (F := Ideal) i arg4 arg10 arg15 h2 X4 X10 k (ix3 0 n l) = pairMax (trip_k0_t1.sl.r (F := Ideal) i arg4 arg10 h2 X4 X10 k) ⟨0 + n.val, by omega⟩ 1 ⟨0 + l.val, by omega⟩ := by
  unfold trip_k0_t1.sl.v594
  rw [View.readCov_eq_canon']
  refine (HW15_apply i arg4 arg10 h2 X4 X10 k _).trans (plane_eq _ _ _ _ _ ?_ ?_)
  · show 1 + 8 * n.val = 8 * (0 + n.val) + 1
    omega
  · show 128 * (0 + 1 * 0) + (0 + 1 * l.val) = 0 + l.val
    omega

theorem v597_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v597 (F := Ideal) i arg4 arg10 arg15 h2 X4 X10 k (ix3 0 n l) = pairMax (trip_k0_t1.sl.r (F := Ideal) i arg4 arg10 h2 X4 X10 k) ⟨0 + n.val, by omega⟩ 2 ⟨0 + l.val, by omega⟩ := by
  unfold trip_k0_t1.sl.v597
  rw [View.readCov_eq_canon']
  refine (HW15_apply i arg4 arg10 h2 X4 X10 k _).trans (plane_eq _ _ _ _ _ ?_ ?_)
  · show 2 + 8 * n.val = 8 * (0 + n.val) + 2
    omega
  · show 128 * (0 + 1 * 0) + (0 + 1 * l.val) = 0 + l.val
    omega

theorem v600_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v600 (F := Ideal) i arg4 arg10 arg15 h2 X4 X10 k (ix3 0 n l) = pairMax (trip_k0_t1.sl.r (F := Ideal) i arg4 arg10 h2 X4 X10 k) ⟨0 + n.val, by omega⟩ 3 ⟨0 + l.val, by omega⟩ := by
  unfold trip_k0_t1.sl.v600
  rw [View.readCov_eq_canon']
  refine (HW15_apply i arg4 arg10 h2 X4 X10 k _).trans (plane_eq _ _ _ _ _ ?_ ?_)
  · show 3 + 8 * n.val = 8 * (0 + n.val) + 3
    omega
  · show 128 * (0 + 1 * 0) + (0 + 1 * l.val) = 0 + l.val
    omega

theorem v603_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v603 (F := Ideal) i arg4 arg10 arg15 h2 X4 X10 k (ix3 0 n l) = pairMax (trip_k0_t1.sl.r (F := Ideal) i arg4 arg10 h2 X4 X10 k) ⟨0 + n.val, by omega⟩ 4 ⟨0 + l.val, by omega⟩ := by
  unfold trip_k0_t1.sl.v603
  rw [View.readCov_eq_canon']
  refine (HW15_apply i arg4 arg10 h2 X4 X10 k _).trans (plane_eq _ _ _ _ _ ?_ ?_)
  · show 4 + 8 * n.val = 8 * (0 + n.val) + 4
    omega
  · show 128 * (0 + 1 * 0) + (0 + 1 * l.val) = 0 + l.val
    omega

theorem v606_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v606 (F := Ideal) i arg4 arg10 arg15 h2 X4 X10 k (ix3 0 n l) = pairMax (trip_k0_t1.sl.r (F := Ideal) i arg4 arg10 h2 X4 X10 k) ⟨0 + n.val, by omega⟩ 5 ⟨0 + l.val, by omega⟩ := by
  unfold trip_k0_t1.sl.v606
  rw [View.readCov_eq_canon']
  refine (HW15_apply i arg4 arg10 h2 X4 X10 k _).trans (plane_eq _ _ _ _ _ ?_ ?_)
  · show 5 + 8 * n.val = 8 * (0 + n.val) + 5
    omega
  · show 128 * (0 + 1 * 0) + (0 + 1 * l.val) = 0 + l.val
    omega

theorem v609_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v609 (F := Ideal) i arg4 arg10 arg15 h2 X4 X10 k (ix3 0 n l) = pairMax (trip_k0_t1.sl.r (F := Ideal) i arg4 arg10 h2 X4 X10 k) ⟨0 + n.val, by omega⟩ 6 ⟨0 + l.val, by omega⟩ := by
  unfold trip_k0_t1.sl.v609
  rw [View.readCov_eq_canon']
  refine (HW15_apply i arg4 arg10 h2 X4 X10 k _).trans (plane_eq _ _ _ _ _ ?_ ?_)
  · show 6 + 8 * n.val = 8 * (0 + n.val) + 6
    omega
  · show 128 * (0 + 1 * 0) + (0 + 1 * l.val) = 0 + l.val
    omega

theorem v612_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v612 (F := Ideal) i arg4 arg10 arg15 h2 X4 X10 k (ix3 0 n l) = pairMax (trip_k0_t1.sl.r (F := Ideal) i arg4 arg10 h2 X4 X10 k) ⟨0 + n.val, by omega⟩ 7 ⟨0 + l.val, by omega⟩ := by
  unfold trip_k0_t1.sl.v612
  rw [View.readCov_eq_canon']
  refine (HW15_apply i arg4 arg10 h2 X4 X10 k _).trans (plane_eq _ _ _ _ _ ?_ ?_)
  · show 7 + 8 * n.val = 8 * (0 + n.val) + 7
    omega
  · show 128 * (0 + 1 * 0) + (0 + 1 * l.val) = 0 + l.val
    omega

theorem v615_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v615 (F := Ideal) i arg4 arg10 arg15 h2 X4 X10 k (ix3 0 n l) = pairMax (trip_k0_t1.sl.r (F := Ideal) i arg4 arg10 h2 X4 X10 k) ⟨8 + n.val, by omega⟩ 0 ⟨0 + l.val, by omega⟩ := by
  unfold trip_k0_t1.sl.v615
  rw [View.readCov_eq_canon']
  refine (HW15_apply i arg4 arg10 h2 X4 X10 k _).trans (plane_eq _ _ _ _ _ ?_ ?_)
  · show 64 + 8 * n.val = 8 * (8 + n.val) + 0
    omega
  · show 128 * (0 + 1 * 0) + (0 + 1 * l.val) = 0 + l.val
    omega

theorem v617_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v617 (F := Ideal) i arg4 arg10 arg15 h2 X4 X10 k (ix3 0 n l) = pairMax (trip_k0_t1.sl.r (F := Ideal) i arg4 arg10 h2 X4 X10 k) ⟨8 + n.val, by omega⟩ 1 ⟨0 + l.val, by omega⟩ := by
  unfold trip_k0_t1.sl.v617
  rw [View.readCov_eq_canon']
  refine (HW15_apply i arg4 arg10 h2 X4 X10 k _).trans (plane_eq _ _ _ _ _ ?_ ?_)
  · show 65 + 8 * n.val = 8 * (8 + n.val) + 1
    omega
  · show 128 * (0 + 1 * 0) + (0 + 1 * l.val) = 0 + l.val
    omega

theorem v620_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v620 (F := Ideal) i arg4 arg10 arg15 h2 X4 X10 k (ix3 0 n l) = pairMax (trip_k0_t1.sl.r (F := Ideal) i arg4 arg10 h2 X4 X10 k) ⟨8 + n.val, by omega⟩ 2 ⟨0 + l.val, by omega⟩ := by
  unfold trip_k0_t1.sl.v620
  rw [View.readCov_eq_canon']
  refine (HW15_apply i arg4 arg10 h2 X4 X10 k _).trans (plane_eq _ _ _ _ _ ?_ ?_)
  · show 66 + 8 * n.val = 8 * (8 + n.val) + 2
    omega
  · show 128 * (0 + 1 * 0) + (0 + 1 * l.val) = 0 + l.val
    omega

theorem v623_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v623 (F := Ideal) i arg4 arg10 arg15 h2 X4 X10 k (ix3 0 n l) = pairMax (trip_k0_t1.sl.r (F := Ideal) i arg4 arg10 h2 X4 X10 k) ⟨8 + n.val, by omega⟩ 3 ⟨0 + l.val, by omega⟩ := by
  unfold trip_k0_t1.sl.v623
  rw [View.readCov_eq_canon']
  refine (HW15_apply i arg4 arg10 h2 X4 X10 k _).trans (plane_eq _ _ _ _ _ ?_ ?_)
  · show 67 + 8 * n.val = 8 * (8 + n.val) + 3
    omega
  · show 128 * (0 + 1 * 0) + (0 + 1 * l.val) = 0 + l.val
    omega

theorem v626_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v626 (F := Ideal) i arg4 arg10 arg15 h2 X4 X10 k (ix3 0 n l) = pairMax (trip_k0_t1.sl.r (F := Ideal) i arg4 arg10 h2 X4 X10 k) ⟨8 + n.val, by omega⟩ 4 ⟨0 + l.val, by omega⟩ := by
  unfold trip_k0_t1.sl.v626
  rw [View.readCov_eq_canon']
  refine (HW15_apply i arg4 arg10 h2 X4 X10 k _).trans (plane_eq _ _ _ _ _ ?_ ?_)
  · show 68 + 8 * n.val = 8 * (8 + n.val) + 4
    omega
  · show 128 * (0 + 1 * 0) + (0 + 1 * l.val) = 0 + l.val
    omega

theorem v629_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v629 (F := Ideal) i arg4 arg10 arg15 h2 X4 X10 k (ix3 0 n l) = pairMax (trip_k0_t1.sl.r (F := Ideal) i arg4 arg10 h2 X4 X10 k) ⟨8 + n.val, by omega⟩ 5 ⟨0 + l.val, by omega⟩ := by
  unfold trip_k0_t1.sl.v629
  rw [View.readCov_eq_canon']
  refine (HW15_apply i arg4 arg10 h2 X4 X10 k _).trans (plane_eq _ _ _ _ _ ?_ ?_)
  · show 69 + 8 * n.val = 8 * (8 + n.val) + 5
    omega
  · show 128 * (0 + 1 * 0) + (0 + 1 * l.val) = 0 + l.val
    omega

theorem v632_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v632 (F := Ideal) i arg4 arg10 arg15 h2 X4 X10 k (ix3 0 n l) = pairMax (trip_k0_t1.sl.r (F := Ideal) i arg4 arg10 h2 X4 X10 k) ⟨8 + n.val, by omega⟩ 6 ⟨0 + l.val, by omega⟩ := by
  unfold trip_k0_t1.sl.v632
  rw [View.readCov_eq_canon']
  refine (HW15_apply i arg4 arg10 h2 X4 X10 k _).trans (plane_eq _ _ _ _ _ ?_ ?_)
  · show 70 + 8 * n.val = 8 * (8 + n.val) + 6
    omega
  · show 128 * (0 + 1 * 0) + (0 + 1 * l.val) = 0 + l.val
    omega

theorem v635_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v635 (F := Ideal) i arg4 arg10 arg15 h2 X4 X10 k (ix3 0 n l) = pairMax (trip_k0_t1.sl.r (F := Ideal) i arg4 arg10 h2 X4 X10 k) ⟨8 + n.val, by omega⟩ 7 ⟨0 + l.val, by omega⟩ := by
  unfold trip_k0_t1.sl.v635
  rw [View.readCov_eq_canon']
  refine (HW15_apply i arg4 arg10 h2 X4 X10 k _).trans (plane_eq _ _ _ _ _ ?_ ?_)
  · show 71 + 8 * n.val = 8 * (8 + n.val) + 7
    omega
  · show 128 * (0 + 1 * 0) + (0 + 1 * l.val) = 0 + l.val
    omega

theorem v662_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v662 (F := Ideal) i arg4 arg10 arg15 h2 X4 X10 k (ix3 0 n l) = pairMax (trip_k0_t1.sl.r (F := Ideal) i arg4 arg10 h2 X4 X10 k) ⟨0 + n.val, by omega⟩ 0 ⟨128 + l.val, by omega⟩ := by
  unfold trip_k0_t1.sl.v662
  rw [View.readCov_eq_canon']
  refine (HW15_apply i arg4 arg10 h2 X4 X10 k _).trans (plane_eq _ _ _ _ _ ?_ ?_)
  · show 0 + 8 * n.val = 8 * (0 + n.val) + 0
    omega
  · show 128 * (1 + 1 * 0) + (0 + 1 * l.val) = 128 + l.val
    omega

theorem v664_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v664 (F := Ideal) i arg4 arg10 arg15 h2 X4 X10 k (ix3 0 n l) = pairMax (trip_k0_t1.sl.r (F := Ideal) i arg4 arg10 h2 X4 X10 k) ⟨0 + n.val, by omega⟩ 1 ⟨128 + l.val, by omega⟩ := by
  unfold trip_k0_t1.sl.v664
  rw [View.readCov_eq_canon']
  refine (HW15_apply i arg4 arg10 h2 X4 X10 k _).trans (plane_eq _ _ _ _ _ ?_ ?_)
  · show 1 + 8 * n.val = 8 * (0 + n.val) + 1
    omega
  · show 128 * (1 + 1 * 0) + (0 + 1 * l.val) = 128 + l.val
    omega

theorem v667_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v667 (F := Ideal) i arg4 arg10 arg15 h2 X4 X10 k (ix3 0 n l) = pairMax (trip_k0_t1.sl.r (F := Ideal) i arg4 arg10 h2 X4 X10 k) ⟨0 + n.val, by omega⟩ 2 ⟨128 + l.val, by omega⟩ := by
  unfold trip_k0_t1.sl.v667
  rw [View.readCov_eq_canon']
  refine (HW15_apply i arg4 arg10 h2 X4 X10 k _).trans (plane_eq _ _ _ _ _ ?_ ?_)
  · show 2 + 8 * n.val = 8 * (0 + n.val) + 2
    omega
  · show 128 * (1 + 1 * 0) + (0 + 1 * l.val) = 128 + l.val
    omega

theorem v670_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v670 (F := Ideal) i arg4 arg10 arg15 h2 X4 X10 k (ix3 0 n l) = pairMax (trip_k0_t1.sl.r (F := Ideal) i arg4 arg10 h2 X4 X10 k) ⟨0 + n.val, by omega⟩ 3 ⟨128 + l.val, by omega⟩ := by
  unfold trip_k0_t1.sl.v670
  rw [View.readCov_eq_canon']
  refine (HW15_apply i arg4 arg10 h2 X4 X10 k _).trans (plane_eq _ _ _ _ _ ?_ ?_)
  · show 3 + 8 * n.val = 8 * (0 + n.val) + 3
    omega
  · show 128 * (1 + 1 * 0) + (0 + 1 * l.val) = 128 + l.val
    omega

theorem v673_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v673 (F := Ideal) i arg4 arg10 arg15 h2 X4 X10 k (ix3 0 n l) = pairMax (trip_k0_t1.sl.r (F := Ideal) i arg4 arg10 h2 X4 X10 k) ⟨0 + n.val, by omega⟩ 4 ⟨128 + l.val, by omega⟩ := by
  unfold trip_k0_t1.sl.v673
  rw [View.readCov_eq_canon']
  refine (HW15_apply i arg4 arg10 h2 X4 X10 k _).trans (plane_eq _ _ _ _ _ ?_ ?_)
  · show 4 + 8 * n.val = 8 * (0 + n.val) + 4
    omega
  · show 128 * (1 + 1 * 0) + (0 + 1 * l.val) = 128 + l.val
    omega

theorem v676_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v676 (F := Ideal) i arg4 arg10 arg15 h2 X4 X10 k (ix3 0 n l) = pairMax (trip_k0_t1.sl.r (F := Ideal) i arg4 arg10 h2 X4 X10 k) ⟨0 + n.val, by omega⟩ 5 ⟨128 + l.val, by omega⟩ := by
  unfold trip_k0_t1.sl.v676
  rw [View.readCov_eq_canon']
  refine (HW15_apply i arg4 arg10 h2 X4 X10 k _).trans (plane_eq _ _ _ _ _ ?_ ?_)
  · show 5 + 8 * n.val = 8 * (0 + n.val) + 5
    omega
  · show 128 * (1 + 1 * 0) + (0 + 1 * l.val) = 128 + l.val
    omega

theorem v679_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v679 (F := Ideal) i arg4 arg10 arg15 h2 X4 X10 k (ix3 0 n l) = pairMax (trip_k0_t1.sl.r (F := Ideal) i arg4 arg10 h2 X4 X10 k) ⟨0 + n.val, by omega⟩ 6 ⟨128 + l.val, by omega⟩ := by
  unfold trip_k0_t1.sl.v679
  rw [View.readCov_eq_canon']
  refine (HW15_apply i arg4 arg10 h2 X4 X10 k _).trans (plane_eq _ _ _ _ _ ?_ ?_)
  · show 6 + 8 * n.val = 8 * (0 + n.val) + 6
    omega
  · show 128 * (1 + 1 * 0) + (0 + 1 * l.val) = 128 + l.val
    omega

theorem v682_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v682 (F := Ideal) i arg4 arg10 arg15 h2 X4 X10 k (ix3 0 n l) = pairMax (trip_k0_t1.sl.r (F := Ideal) i arg4 arg10 h2 X4 X10 k) ⟨0 + n.val, by omega⟩ 7 ⟨128 + l.val, by omega⟩ := by
  unfold trip_k0_t1.sl.v682
  rw [View.readCov_eq_canon']
  refine (HW15_apply i arg4 arg10 h2 X4 X10 k _).trans (plane_eq _ _ _ _ _ ?_ ?_)
  · show 7 + 8 * n.val = 8 * (0 + n.val) + 7
    omega
  · show 128 * (1 + 1 * 0) + (0 + 1 * l.val) = 128 + l.val
    omega

theorem v685_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v685 (F := Ideal) i arg4 arg10 arg15 h2 X4 X10 k (ix3 0 n l) = pairMax (trip_k0_t1.sl.r (F := Ideal) i arg4 arg10 h2 X4 X10 k) ⟨8 + n.val, by omega⟩ 0 ⟨128 + l.val, by omega⟩ := by
  unfold trip_k0_t1.sl.v685
  rw [View.readCov_eq_canon']
  refine (HW15_apply i arg4 arg10 h2 X4 X10 k _).trans (plane_eq _ _ _ _ _ ?_ ?_)
  · show 64 + 8 * n.val = 8 * (8 + n.val) + 0
    omega
  · show 128 * (1 + 1 * 0) + (0 + 1 * l.val) = 128 + l.val
    omega

theorem v687_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v687 (F := Ideal) i arg4 arg10 arg15 h2 X4 X10 k (ix3 0 n l) = pairMax (trip_k0_t1.sl.r (F := Ideal) i arg4 arg10 h2 X4 X10 k) ⟨8 + n.val, by omega⟩ 1 ⟨128 + l.val, by omega⟩ := by
  unfold trip_k0_t1.sl.v687
  rw [View.readCov_eq_canon']
  refine (HW15_apply i arg4 arg10 h2 X4 X10 k _).trans (plane_eq _ _ _ _ _ ?_ ?_)
  · show 65 + 8 * n.val = 8 * (8 + n.val) + 1
    omega
  · show 128 * (1 + 1 * 0) + (0 + 1 * l.val) = 128 + l.val
    omega

theorem v690_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v690 (F := Ideal) i arg4 arg10 arg15 h2 X4 X10 k (ix3 0 n l) = pairMax (trip_k0_t1.sl.r (F := Ideal) i arg4 arg10 h2 X4 X10 k) ⟨8 + n.val, by omega⟩ 2 ⟨128 + l.val, by omega⟩ := by
  unfold trip_k0_t1.sl.v690
  rw [View.readCov_eq_canon']
  refine (HW15_apply i arg4 arg10 h2 X4 X10 k _).trans (plane_eq _ _ _ _ _ ?_ ?_)
  · show 66 + 8 * n.val = 8 * (8 + n.val) + 2
    omega
  · show 128 * (1 + 1 * 0) + (0 + 1 * l.val) = 128 + l.val
    omega

theorem v693_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v693 (F := Ideal) i arg4 arg10 arg15 h2 X4 X10 k (ix3 0 n l) = pairMax (trip_k0_t1.sl.r (F := Ideal) i arg4 arg10 h2 X4 X10 k) ⟨8 + n.val, by omega⟩ 3 ⟨128 + l.val, by omega⟩ := by
  unfold trip_k0_t1.sl.v693
  rw [View.readCov_eq_canon']
  refine (HW15_apply i arg4 arg10 h2 X4 X10 k _).trans (plane_eq _ _ _ _ _ ?_ ?_)
  · show 67 + 8 * n.val = 8 * (8 + n.val) + 3
    omega
  · show 128 * (1 + 1 * 0) + (0 + 1 * l.val) = 128 + l.val
    omega

theorem v696_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v696 (F := Ideal) i arg4 arg10 arg15 h2 X4 X10 k (ix3 0 n l) = pairMax (trip_k0_t1.sl.r (F := Ideal) i arg4 arg10 h2 X4 X10 k) ⟨8 + n.val, by omega⟩ 4 ⟨128 + l.val, by omega⟩ := by
  unfold trip_k0_t1.sl.v696
  rw [View.readCov_eq_canon']
  refine (HW15_apply i arg4 arg10 h2 X4 X10 k _).trans (plane_eq _ _ _ _ _ ?_ ?_)
  · show 68 + 8 * n.val = 8 * (8 + n.val) + 4
    omega
  · show 128 * (1 + 1 * 0) + (0 + 1 * l.val) = 128 + l.val
    omega

theorem v699_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v699 (F := Ideal) i arg4 arg10 arg15 h2 X4 X10 k (ix3 0 n l) = pairMax (trip_k0_t1.sl.r (F := Ideal) i arg4 arg10 h2 X4 X10 k) ⟨8 + n.val, by omega⟩ 5 ⟨128 + l.val, by omega⟩ := by
  unfold trip_k0_t1.sl.v699
  rw [View.readCov_eq_canon']
  refine (HW15_apply i arg4 arg10 h2 X4 X10 k _).trans (plane_eq _ _ _ _ _ ?_ ?_)
  · show 69 + 8 * n.val = 8 * (8 + n.val) + 5
    omega
  · show 128 * (1 + 1 * 0) + (0 + 1 * l.val) = 128 + l.val
    omega

theorem v702_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v702 (F := Ideal) i arg4 arg10 arg15 h2 X4 X10 k (ix3 0 n l) = pairMax (trip_k0_t1.sl.r (F := Ideal) i arg4 arg10 h2 X4 X10 k) ⟨8 + n.val, by omega⟩ 6 ⟨128 + l.val, by omega⟩ := by
  unfold trip_k0_t1.sl.v702
  rw [View.readCov_eq_canon']
  refine (HW15_apply i arg4 arg10 h2 X4 X10 k _).trans (plane_eq _ _ _ _ _ ?_ ?_)
  · show 70 + 8 * n.val = 8 * (8 + n.val) + 6
    omega
  · show 128 * (1 + 1 * 0) + (0 + 1 * l.val) = 128 + l.val
    omega

theorem v705_apply (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    trip_k0_t1.sl.v705 (F := Ideal) i arg4 arg10 arg15 h2 X4 X10 k (ix3 0 n l) = pairMax (trip_k0_t1.sl.r (F := Ideal) i arg4 arg10 h2 X4 X10 k) ⟨8 + n.val, by omega⟩ 7 ⟨128 + l.val, by omega⟩ := by
  unfold trip_k0_t1.sl.v705
  rw [View.readCov_eq_canon']
  refine (HW15_apply i arg4 arg10 h2 X4 X10 k _).trans (plane_eq _ _ _ _ _ ?_ ?_)
  · show 71 + 8 * n.val = 8 * (8 + n.val) + 7
    omega
  · show 128 * (1 + 1 * 0) + (0 + 1 * l.val) = 128 + l.val
    omega

/-- Block maxima 0..7 of tokens 0..127, as the trip stores them. -/
theorem am0_lo (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    k0_pay111 (trip_k0_t1.sl.r_45 (F := Ideal) i arg4 arg10 arg15 h2 X4 X10 k) (trip_k0_t1.sl.r_46 (F := Ideal) i arg4 arg10 arg15 h2 X4 X10 k) (trip_k0_t1.sl.v629 (F := Ideal) i arg4 arg10 arg15 h2 X4 X10 k) (trip_k0_t1.sl.v632 (F := Ideal) i arg4 arg10 arg15 h2 X4 X10 k) (trip_k0_t1.sl.v635 (F := Ideal) i arg4 arg10 arg15 h2 X4 X10 k) (ix3 0 (⟨0 + n.val, by omega⟩ : Fin 16) l) = blkMax (trip_k0_t1.sl.r (F := Ideal) i arg4 arg10 h2 X4 X10 k) ⟨0 + n.val, by omega⟩ ⟨0 + l.val, by omega⟩ := by
  pointwise [k0_pay111, k0_pay110, trip_k0_t1.sl.r_44, trip_k0_t1.sl.r_45, trip_k0_t1.sl.r_46, k0_pay107, k0_pay108, k0_pay109]
  simp only [v592_apply, v594_apply, v597_apply, v600_apply, v603_apply, v606_apply, v609_apply, v612_apply, v615_apply, v617_apply, v620_apply, v623_apply, v626_apply, v629_apply, v632_apply, v635_apply]
  rw [blkMax, sup_eight]
  all_goals (try simp only [Nat.zero_add, Nat.add_sub_cancel_left])
  try rfl

/-- Block maxima 8..15 of tokens 0..127, as the trip stores them. -/
theorem am1_lo (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    k0_pay111 (trip_k0_t1.sl.r_45 (F := Ideal) i arg4 arg10 arg15 h2 X4 X10 k) (trip_k0_t1.sl.r_46 (F := Ideal) i arg4 arg10 arg15 h2 X4 X10 k) (trip_k0_t1.sl.v629 (F := Ideal) i arg4 arg10 arg15 h2 X4 X10 k) (trip_k0_t1.sl.v632 (F := Ideal) i arg4 arg10 arg15 h2 X4 X10 k) (trip_k0_t1.sl.v635 (F := Ideal) i arg4 arg10 arg15 h2 X4 X10 k) (ix3 0 (⟨8 + n.val, by omega⟩ : Fin 16) l) = blkMax (trip_k0_t1.sl.r (F := Ideal) i arg4 arg10 h2 X4 X10 k) ⟨8 + n.val, by omega⟩ ⟨0 + l.val, by omega⟩ := by
  pointwise [k0_pay111, k0_pay110, trip_k0_t1.sl.r_44, trip_k0_t1.sl.r_45, trip_k0_t1.sl.r_46, k0_pay107, k0_pay108, k0_pay109]
  simp only [v592_apply, v594_apply, v597_apply, v600_apply, v603_apply, v606_apply, v609_apply, v612_apply, v615_apply, v617_apply, v620_apply, v623_apply, v626_apply, v629_apply, v632_apply, v635_apply]
  rw [blkMax, sup_eight]
  all_goals (try simp only [Nat.zero_add, Nat.add_sub_cancel_left])
  try rfl

/-- The running maximum over tokens 0..127, as the trip stores it. -/
theorem gm_lo (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (X : FVec Ideal S8x128 .f32) (n : Fin 8) (l : Fin 128) :
    k0_pay112 (trip_k0_t1.sl.r_45 (F := Ideal) i arg4 arg10 arg15 h2 X4 X10 k) (trip_k0_t1.sl.r_46 (F := Ideal) i arg4 arg10 arg15 h2 X4 X10 k) (trip_k0_t1.sl.v629 (F := Ideal) i arg4 arg10 arg15 h2 X4 X10 k) (trip_k0_t1.sl.v632 (F := Ideal) i arg4 arg10 arg15 h2 X4 X10 k) (trip_k0_t1.sl.v635 (F := Ideal) i arg4 arg10 arg15 h2 X4 X10 k) X (ix2 n l) = max (X (ix2 n l)) (max (blkMax (trip_k0_t1.sl.r (F := Ideal) i arg4 arg10 h2 X4 X10 k) ⟨n.val, by omega⟩ ⟨0 + l.val, by omega⟩) (blkMax (trip_k0_t1.sl.r (F := Ideal) i arg4 arg10 h2 X4 X10 k) ⟨8 + n.val, by omega⟩ ⟨0 + l.val, by omega⟩)) := by
  pointwise [k0_pay112, k0_pay110, trip_k0_t1.sl.r_44, trip_k0_t1.sl.r_45, trip_k0_t1.sl.r_46, k0_pay107, k0_pay108, k0_pay109]
  simp only [v592_apply, v594_apply, v597_apply, v600_apply, v603_apply, v606_apply, v609_apply, v612_apply, v615_apply, v617_apply, v620_apply, v623_apply, v626_apply, v629_apply, v632_apply, v635_apply]
  rw [blkMax, blkMax, sup_eight, sup_eight]
  all_goals (try simp only [Nat.zero_add])
  try rfl

/-- Block maxima 0..7 of tokens 128..255, as the trip stores them. -/
theorem am0_hi (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    k0_pay119 (trip_k0_t1.sl.r_49 (F := Ideal) i arg4 arg10 arg15 h2 X4 X10 k) (trip_k0_t1.sl.r_50 (F := Ideal) i arg4 arg10 arg15 h2 X4 X10 k) (trip_k0_t1.sl.v696 (F := Ideal) i arg4 arg10 arg15 h2 X4 X10 k) (trip_k0_t1.sl.v699 (F := Ideal) i arg4 arg10 arg15 h2 X4 X10 k) (trip_k0_t1.sl.v702 (F := Ideal) i arg4 arg10 arg15 h2 X4 X10 k) (trip_k0_t1.sl.v705 (F := Ideal) i arg4 arg10 arg15 h2 X4 X10 k) (ix3 0 (⟨0 + n.val, by omega⟩ : Fin 16) l) = blkMax (trip_k0_t1.sl.r (F := Ideal) i arg4 arg10 h2 X4 X10 k) ⟨0 + n.val, by omega⟩ ⟨128 + l.val, by omega⟩ := by
  pointwise [k0_pay119, k0_pay114, k0_pay115, k0_pay116, k0_pay117, k0_pay118, trip_k0_t1.sl.r_47, trip_k0_t1.sl.r_48, trip_k0_t1.sl.r_49, trip_k0_t1.sl.r_50]
  simp only [v662_apply, v664_apply, v667_apply, v670_apply, v673_apply, v676_apply, v679_apply, v682_apply, v685_apply, v687_apply, v690_apply, v693_apply, v696_apply, v699_apply, v702_apply, v705_apply]
  rw [blkMax, sup_eight]
  all_goals (try simp only [Nat.zero_add, Nat.add_sub_cancel_left])
  try rfl

/-- Block maxima 8..15 of tokens 128..255, as the trip stores them. -/
theorem am1_hi (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 8) (l : Fin 128) :
    k0_pay119 (trip_k0_t1.sl.r_49 (F := Ideal) i arg4 arg10 arg15 h2 X4 X10 k) (trip_k0_t1.sl.r_50 (F := Ideal) i arg4 arg10 arg15 h2 X4 X10 k) (trip_k0_t1.sl.v696 (F := Ideal) i arg4 arg10 arg15 h2 X4 X10 k) (trip_k0_t1.sl.v699 (F := Ideal) i arg4 arg10 arg15 h2 X4 X10 k) (trip_k0_t1.sl.v702 (F := Ideal) i arg4 arg10 arg15 h2 X4 X10 k) (trip_k0_t1.sl.v705 (F := Ideal) i arg4 arg10 arg15 h2 X4 X10 k) (ix3 0 (⟨8 + n.val, by omega⟩ : Fin 16) l) = blkMax (trip_k0_t1.sl.r (F := Ideal) i arg4 arg10 h2 X4 X10 k) ⟨8 + n.val, by omega⟩ ⟨128 + l.val, by omega⟩ := by
  pointwise [k0_pay119, k0_pay114, k0_pay115, k0_pay116, k0_pay117, k0_pay118, trip_k0_t1.sl.r_47, trip_k0_t1.sl.r_48, trip_k0_t1.sl.r_49, trip_k0_t1.sl.r_50]
  simp only [v662_apply, v664_apply, v667_apply, v670_apply, v673_apply, v676_apply, v679_apply, v682_apply, v685_apply, v687_apply, v690_apply, v693_apply, v696_apply, v699_apply, v702_apply, v705_apply]
  rw [blkMax, sup_eight]
  all_goals (try simp only [Nat.zero_add, Nat.add_sub_cancel_left])
  try rfl

/-- The running maximum over tokens 128..255, as the trip stores it. -/
theorem gm_hi (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (X : FVec Ideal S8x128 .f32) (n : Fin 8) (l : Fin 128) :
    k0_pay120 (trip_k0_t1.sl.r_49 (F := Ideal) i arg4 arg10 arg15 h2 X4 X10 k) (trip_k0_t1.sl.r_50 (F := Ideal) i arg4 arg10 arg15 h2 X4 X10 k) (trip_k0_t1.sl.v696 (F := Ideal) i arg4 arg10 arg15 h2 X4 X10 k) (trip_k0_t1.sl.v699 (F := Ideal) i arg4 arg10 arg15 h2 X4 X10 k) (trip_k0_t1.sl.v702 (F := Ideal) i arg4 arg10 arg15 h2 X4 X10 k) (trip_k0_t1.sl.v705 (F := Ideal) i arg4 arg10 arg15 h2 X4 X10 k) X (ix2 n l) = max (X (ix2 n l)) (max (blkMax (trip_k0_t1.sl.r (F := Ideal) i arg4 arg10 h2 X4 X10 k) ⟨n.val, by omega⟩ ⟨128 + l.val, by omega⟩) (blkMax (trip_k0_t1.sl.r (F := Ideal) i arg4 arg10 h2 X4 X10 k) ⟨8 + n.val, by omega⟩ ⟨128 + l.val, by omega⟩)) := by
  pointwise [k0_pay120, k0_pay114, k0_pay115, k0_pay116, k0_pay117, k0_pay118, trip_k0_t1.sl.r_47, trip_k0_t1.sl.r_48, trip_k0_t1.sl.r_49, trip_k0_t1.sl.r_50]
  simp only [v662_apply, v664_apply, v667_apply, v670_apply, v673_apply, v676_apply, v679_apply, v682_apply, v685_apply, v687_apply, v690_apply, v693_apply, v696_apply, v699_apply, v702_apply, v705_apply]
  rw [blkMax, blkMax, sup_eight, sup_eight]
  all_goals (try simp only [Nat.zero_add])
  try rfl

end Cert.KernelIdeal.Hand
end
-- ==== Proof.Words.lean ====
module

public import proofs.«01_k».proof.Proof.Gen.KernelIdeal.Frame
public import proofs.«01_k».proof.Proof.Gen.KernelIdeal.Loops
public import Idealize.ShloMosaic.Lib.Pointwise
public import Idealize.ShloMosaic.Lib.Pipeline.ValueKit
public import Idealize.ShloMosaic.Lib.WritesUnit
public import Idealize.ShloMosaic.Lib.BitcastPair
public import Idealize.ShloMosaic.Lib.BitcastFour

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- Halves read as words: row `i` of the words is halves `2i + 1` (high) and `2i` (low). -/
theorem bc_16_32 (x : S16x256.Idx → BitVec 16) (h : S16x256.Bitcasts 16 S8x256 32) (i : Fin 8) (t : Fin 256) :
    bitcast S8x256 32 x h (ix2 i t) = x (ix2 (⟨2 * i.val + 1, by omega⟩ : Fin 16) t) ++ x (ix2 (⟨2 * i.val, by omega⟩ : Fin 16) t) := by
  rw [bitcast_16_32]
  congr 2 <;> (funext c; match c with
    | ⟨0, _⟩ => exact Fin.ext (h.srcIdx_row _ _ _ ⟨0, Nat.zero_lt_two⟩ rfl)
    | ⟨1, _⟩ => exact Fin.ext (h.srcIdx_other _ _ _ ⟨1, by decide⟩ (by decide)))

/-- Words read as halves. -/
theorem bc_32_16 (x : S64x128.Idx → BitVec 32) (h : S64x128.Bitcasts 32 S128x128 16) (b : Fin 128) (l : Fin 128) :
    bitcast S128x128 16 x h (ix2 b l) = (x (ix2 (⟨b.val / 2, by omega⟩ : Fin 64) l)).extractLsb' (16 * (b.val % 2)) 16 := by
  rw [bitcast_32_16]
  show (x (h.srcIdx (ix2 b l) (b.val / 2) _)).extractLsb' (16 * (b.val % 2)) 16 = _
  congr 2
  funext c; match c with
    | ⟨0, _⟩ => exact Fin.ext (h.srcIdx_row _ _ _ ⟨0, Nat.zero_lt_two⟩ rfl)
    | ⟨1, _⟩ => exact Fin.ext (h.srcIdx_other _ _ _ ⟨1, by decide⟩ (by decide))

/-- Four bytes, the first lowest, as a word. -/
def word4 (f : Fin 4 → BitVec 8) : BitVec 32 :=
  (f 0).setWidth 32 ||| ((f 1).setWidth 32 <<< 8) ||| ((f 2).setWidth 32 <<< 16) ||| ((f 3).setWidth 32 <<< 24)

/-- A word's bits are its bytes' bits. -/
theorem word4_getLsbD (f : Fin 4 → BitVec 8) (i : ℕ) (hi : i < 32) : (word4 f).getLsbD i = (f ⟨i / 8, by omega⟩).getLsbD (i % 8) :=
  four_bytes_getLsbD f i hi

/-- Byte `q` of a word of four bytes. -/
theorem word4_byte (f : Fin 4 → BitVec 8) (q : Fin 4) : (word4 f).extractLsb' (8 * q.val) 8 = f q := by
  apply BitVec.eq_of_getLsbD_eq
  intro i hi
  rw [BitVec.getLsbD_extractLsb', word4_getLsbD _ _ (by omega)]
  simp only [hi, decide_true, Bool.true_and]
  have e1 : (8 * q.val + i) / 8 = q.val := by omega
  have e2 : (8 * q.val + i) % 8 = i := by omega
  simp only [e1, e2]

/-- Bytes read as words: row `r` of the words is the bytes at rows `4r .. 4r + 3`, the first lowest. -/
theorem bc_8_32 (x : S128x128.Idx → BitVec 8) (h : S128x128.Bitcasts 8 S32x128 32) (r : Fin 32) (l : Fin 128) :
    bitcast S32x128 32 x h (ix2 r l) = word4 fun q => x (ix2 (⟨4 * r.val + q.val, by omega⟩ : Fin 128) l) := by
  apply BitVec.eq_of_getLsbD_eq
  intro i hi
  rw [word4_getLsbD _ i hi]
  exact bitcast_8_32_getLsbD_ix2 x h r l i hi _ rfl

/-- Words read as bytes: the byte at row `p` is byte `p % 4` of word row `p / 4`. -/
theorem bc_32_8 (x : S32x128.Idx → BitVec 32) (h : S32x128.Bitcasts 32 S128x128 8) (p : Fin 128) (l : Fin 128) :
    bitcast S128x128 8 x h (ix2 p l) = (x (ix2 (⟨p.val / 4, by omega⟩ : Fin 32) l)).extractLsb' (8 * (p.val % 4)) 8 := by
  apply BitVec.eq_of_getLsbD_eq
  intro i hi
  rw [bitcast_getLsbD x h _ i hi (by decide), BitVec.getLsbD_extractLsb']
  have e : S128x128.row (ix2 p l) = p.val := rfl
  have ep : (S128x128.row (ix2 p l) * 8 + i) / 32 = p.val / 4 := by rw [e]; omega
  have eq : (S128x128.row (ix2 p l) * 8 + i) % 32 = 8 * (p.val % 4) + i := by rw [e]; omega
  rw [h.srcIdx_congr _ ep _ (fun a ha => by have := h.pos_lt (ix2 p l) 0 (by decide) a ha; rw [e] at this; omega), eq]
  simp only [hi, decide_true, Bool.true_and]
  congr 2
  funext c; match c with
    | ⟨0, _⟩ => exact Fin.ext (h.srcIdx_row _ _ _ ⟨0, Nat.zero_lt_two⟩ rfl)
    | ⟨1, _⟩ => exact Fin.ext (h.srcIdx_other _ _ _ ⟨1, by decide⟩ (by decide))

/-- The two transposed halves' bytes as words: row `r` holds, for byte column `b`, the low byte of half `b` at tokens `4r .. 4r + 3`. -/
def tposeWord (x : S64x256.Idx → BitVec 32) (r : Fin 64) (b : Fin 128) : BitVec 32 :=
  word4 fun q => (x (ix2 (⟨b.val / 2, by omega⟩ : Fin 64) (⟨4 * r.val + q.val, by omega⟩ : Fin 256))).extractLsb' (16 * (b.val % 2)) 8

/-- What `_transpose_bytes` computes from one half's words. -/
theorem tpose_apply (x : S64x128.Idx → BitVec 32) (h1 : S64x128.Bitcasts 32 S128x128 16) (h2) (h3) (h4 : S128x128.Bitcasts 8 S32x128 32) (r : Fin 32) (b : Fin 128) :
    bitcast S32x128 32 (trunci 8 (transpose S128x128 [1, 0] (bitcast S128x128 16 x h1) h2) h3) h4 (ix2 r b)
      = word4 fun q => (x (ix2 (⟨b.val / 2, by omega⟩ : Fin 64) (⟨4 * r.val + q.val, by omega⟩ : Fin 128))).extractLsb' (16 * (b.val % 2)) 8 := by
  rw [bc_8_32]
  congr 1
  funext q
  pointwise
  rw [bc_32_16]
  apply BitVec.eq_of_getLsbD_eq
  intro i hi
  simp only [BitVec.getLsbD_setWidth, BitVec.getLsbD_extractLsb', hi, decide_true, Bool.true_and, show i < 16 by omega]

end Cert.KernelIdeal.Hand
end
-- ==== Proof.SignTrip.lean ====
module

public import proofs.«01_k».proof.Proof.Words

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The sign of channel `b % 8`, first half of the rows of block `b / 8`, at the top of sixteen bits. -/
def signE (w : S256x256.Idx → EReal) (b : Fin 128) (t : Fin 256) : BitVec 16 :=
  if w (ix2 (⟨16 * (b.val / 8) + b.val % 8, by omega⟩ : Fin 256) t) < 0 then 32768#16 else 0#16

/-- The same for the second half of the rows. -/
def signO (w : S256x256.Idx → EReal) (b : Fin 128) (t : Fin 256) : BitVec 16 :=
  if w (ix2 (⟨16 * (b.val / 8) + 8 + b.val % 8, by omega⟩ : Fin 256) t) < 0 then 32768#16 else 0#16

/-- The sign words of a transformed tile: word row `r` holds halves `2r` (low) and `2r + 1` (high). -/
def signT (w : S256x256.Idx → EReal) : S64x256.Idx → BitVec 32 := fun y =>
  have h0 : (y 0).val < 64 := (y 0).isLt
  ((signO w ⟨2 * (y 0).val + 1, by omega⟩ (y 1) ++ signO w ⟨2 * (y 0).val, by omega⟩ (y 1)) >>> 8)
    ||| ((signE w ⟨2 * (y 0).val + 1, by omega⟩ (y 1) ++ signE w ⟨2 * (y 0).val, by omega⟩ (y 1)) >>> 12)

/-- The sixteen halves of two groups of eight rows. -/
theorem half_apply (e0 e1 : FVec Ideal S8x256 .f32) (hc) (hb) (hn) (p : Fin 16) (t : Fin 256) :
    trunci 16 (select (cmpf .olt (truncf .bf16 (concatenate S16x256 0 [⟨S8x256, e0⟩, ⟨S8x256, e1⟩] hc) hb) (constant S16x256 .bf16 0x0000#16))
      (broadcast S16x256 32768#32) (broadcast S16x256 0#32)) hn (ix2 p t)
      = if (if h : p.val < 8 then e0 (ix2 (⟨p.val, h⟩ : Fin 8) t) else e1 (ix2 (⟨p.val - 8, by omega⟩ : Fin 8) t)) < 0 then 32768#16 else 0#16 := by
  pointwise
  rw [apply_ite (BitVec.setWidth 16)]
  rfl

/-- Sixteen rows gathered from two groups of eight, sixteen apart: row `p` of the gather is row `16 (b / 8) + b % 8` of the tile, for half `b`. -/
theorem cat_even (w : FVec Ideal S256x256 .f32) (q p : ℕ) (s1 : S256x256.Slices ![32 * q, 0] S8x256) (s3 : S256x256.Slices ![32 * q + 16, 0] S8x256)
    (hp : p < 16) (t : Fin 256) (b : Fin 128) (hb : b.val = 16 * q + p) :
    (if h : p < 8 then extractStridedSlice S8x256 ![32 * q, 0] w s1 (ix2 (⟨p, h⟩ : Fin 8) t)
      else extractStridedSlice S8x256 ![32 * q + 16, 0] w s3 (ix2 (⟨p - 8, by omega⟩ : Fin 8) t))
      = w (ix2 (⟨16 * (b.val / 8) + b.val % 8, by omega⟩ : Fin 256) t) := by
  split_ifs with h
  · pointwise
    exact congrArg w (congrArg (ix2 · t) (Fin.ext (by simp only; omega)))
  · pointwise
    exact congrArg w (congrArg (ix2 · t) (Fin.ext (by simp only; omega)))

/-- The same for the second halves of the blocks. -/
theorem cat_odd (w : FVec Ideal S256x256 .f32) (q p : ℕ) (s1 : S256x256.Slices ![32 * q + 8, 0] S8x256) (s3 : S256x256.Slices ![32 * q + 24, 0] S8x256)
    (hp : p < 16) (t : Fin 256) (b : Fin 128) (hb : b.val = 16 * q + p) :
    (if h : p < 8 then extractStridedSlice S8x256 ![32 * q + 8, 0] w s1 (ix2 (⟨p, h⟩ : Fin 8) t)
      else extractStridedSlice S8x256 ![32 * q + 24, 0] w s3 (ix2 (⟨p - 8, by omega⟩ : Fin 8) t))
      = w (ix2 (⟨16 * (b.val / 8) + 8 + b.val % 8, by omega⟩ : Fin 256) t) := by
  split_ifs with h
  · pointwise
    exact congrArg w (congrArg (ix2 · t) (Fin.ext (by simp only; omega)))
  · pointwise
    exact congrArg w (congrArg (ix2 · t) (Fin.ext (by simp only; omega)))

/-- One stored piece of the sign words, at any tile. -/
theorem sign_piece (w : FVec Ideal S256x256 .f32) (q o1 o2 o3 o4 : ℕ) (h1 : o1 = 32 * q) (h2 : o2 = 32 * q + 8) (h3 : o3 = 32 * q + 16)
    (h4 : o4 = 32 * q + 24) (hq : q < 8) (s1 : S256x256.Slices ![o1, 0] S8x256) (s2 : S256x256.Slices ![o2, 0] S8x256)
    (s3 : S256x256.Slices ![o3, 0] S8x256) (s4 : S256x256.Slices ![o4, 0] S8x256)
    (x : S8x256.Idx) (y : S64x256.Idx) (hy : ∀ a, (y a).val = (![8 * q, 0] : Fin 2 → ℕ) a + 1 * (x a).val) :
    k0_pay29 (extractStridedSlice S8x256 ![o1, 0] w s1) (extractStridedSlice S8x256 ![o2, 0] w s2)
      (extractStridedSlice S8x256 ![o3, 0] w s3) (extractStridedSlice S8x256 ![o4, 0] w s4) x = signT w y := by
  subst h1 h2 h3 h4
  have e0 : (y 0).val = 8 * q + (x 0).val := by have := hy 0; simp at this; omega
  have e1 : y 1 = x 1 := Fin.ext (by have := hy 1; simp at this; omega)
  have h1 : (x 0).val < 8 := (x 0).isLt
  unfold k0_pay29 signT
  dsimp only
  idx_vars x
  pointwise
  simp only [bc_16_32, half_apply]
  have l1 : (2 * (y 0).val + 1) = 16 * q + (2 * x0.val + 1) := by omega
  have l0 : (2 * (y 0).val) = 16 * q + (2 * x0.val) := by omega
  rw [cat_even w q (2 * x0.val + 1) s1 s3 (by omega) x1 ⟨2 * (y 0).val + 1, by omega⟩ l1, cat_even w q (2 * x0.val) s1 s3 (by omega) x1 ⟨2 * (y 0).val, by omega⟩ l0,
    cat_odd w q (2 * x0.val + 1) s2 s4 (by omega) x1 ⟨2 * (y 0).val + 1, by omega⟩ l1, cat_odd w q (2 * x0.val) s2 s4 (by omega) x1 ⟨2 * (y 0).val, by omega⟩ l0, e1]
  rfl

/-- The sign words as one trip leaves them. -/
theorem HW16_apply (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (y : S64x256.Idx) :
    View.canon (trip_k0_t1.sl.HW_arg16_8 (F := Ideal) i arg4 arg10 h2 X4 X10 k) y = signT (trip_k0_t1.sl.r (F := Ideal) i arg4 arg10 h2 X4 X10 k) y := by
  refine View.canon_apply_of_pieces _ _ ?_ y ?_
  · unfold trip_k0_t1.sl.HW_arg16_8
    unfold trip_k0_t1.sl.r_1 trip_k0_t1.sl.r_11 trip_k0_t1.sl.r_12 trip_k0_t1.sl.r_13 trip_k0_t1.sl.r_14 trip_k0_t1.sl.r_15 trip_k0_t1.sl.r_16 trip_k0_t1.sl.r_2 trip_k0_t1.sl.r_24 trip_k0_t1.sl.r_25 trip_k0_t1.sl.r_26 trip_k0_t1.sl.r_27 trip_k0_t1.sl.r_28 trip_k0_t1.sl.r_29 trip_k0_t1.sl.r_3 trip_k0_t1.sl.r_32 trip_k0_t1.sl.r_33 trip_k0_t1.sl.r_34 trip_k0_t1.sl.r_4 trip_k0_t1.sl.r_40 trip_k0_t1.sl.r_41 trip_k0_t1.sl.r_42 trip_k0_t1.sl.r_43 trip_k0_t1.sl.r_6 trip_k0_t1.sl.r_8 trip_k0_t1.sl.r_7 trip_k0_t1.sl.r_9 trip_k0_t1.sl.r_18 trip_k0_t1.sl.r_20 trip_k0_t1.sl.r_19 trip_k0_t1.sl.r_21 trip_k0_t1.sl.r_31 trip_k0_t1.sl.r_35 trip_k0_t1.sl.r_36 trip_k0_t1.sl.r_37 trip_k0_t1.sl.r_38 trip_k0_t1.sl.r
    generalize View.readAt (Elt Ideal) arg10.view (Rect.unit ![0, 0] S256x256.size inb_S256x256_S256x256_0_0).toLoadRect X10 = a
    generalize View.readAt (Elt Ideal) arg4.view (Rect.unit (s := S256x4096) (k0_off1 k) S256x256.size (k0_off1_inb i k h2)).toLoadRect X4 = b
    unfold k0_pay20 k0_pay21 k0_pay22 k0_pay23
    dsimp only
    generalize k0_pay19 a b = r
    refine List.forall_mem_cons.2 ⟨fun x => sign_piece r 7 224 232 240 248 rfl rfl rfl rfl (by decide) slices_S256x256_o224_0_S8x256 slices_S256x256_o232_0_S8x256 slices_S256x256_o240_0_S8x256 slices_S256x256_o248_0_S8x256 x _ (fun a => rfl), ?_⟩
    refine List.forall_mem_cons.2 ⟨fun x => sign_piece r 6 192 200 208 216 rfl rfl rfl rfl (by decide) slices_S256x256_o192_0_S8x256 slices_S256x256_o200_0_S8x256 slices_S256x256_o208_0_S8x256 slices_S256x256_o216_0_S8x256 x _ (fun a => rfl), ?_⟩
    refine List.forall_mem_cons.2 ⟨fun x => sign_piece r 5 160 168 176 184 rfl rfl rfl rfl (by decide) slices_S256x256_o160_0_S8x256 slices_S256x256_o168_0_S8x256 slices_S256x256_o176_0_S8x256 slices_S256x256_o184_0_S8x256 x _ (fun a => rfl), ?_⟩
    refine List.forall_mem_cons.2 ⟨fun x => sign_piece r 4 128 136 144 152 rfl rfl rfl rfl (by decide) slices_S256x256_o128_0_S8x256 slices_S256x256_o136_0_S8x256 slices_S256x256_o144_0_S8x256 slices_S256x256_o152_0_S8x256 x _ (fun a => rfl), ?_⟩
    refine List.forall_mem_cons.2 ⟨fun x => sign_piece r 3 96 104 112 120 rfl rfl rfl rfl (by decide) slices_S256x256_o96_0_S8x256 slices_S256x256_o104_0_S8x256 slices_S256x256_o112_0_S8x256 slices_S256x256_o120_0_S8x256 x _ (fun a => rfl), ?_⟩
    refine List.forall_mem_cons.2 ⟨fun x => sign_piece r 2 64 72 80 88 rfl rfl rfl rfl (by decide) slices_S256x256_o64_0_S8x256 slices_S256x256_o72_0_S8x256 slices_S256x256_o80_0_S8x256 slices_S256x256_o88_0_S8x256 x _ (fun a => rfl), ?_⟩
    refine List.forall_mem_cons.2 ⟨fun x => sign_piece r 1 32 40 48 56 rfl rfl rfl rfl (by decide) slices_S256x256_o32_0_S8x256 slices_S256x256_o40_0_S8x256 slices_S256x256_o48_0_S8x256 slices_S256x256_o56_0_S8x256 x _ (fun a => rfl), ?_⟩
    refine List.forall_mem_cons.2 ⟨fun x => sign_piece r 0 0 8 16 24 rfl rfl rfl rfl (by decide) slices_S256x256_o0_0_S8x256 slices_S256x256_o8_0_S8x256 slices_S256x256_o16_0_S8x256 slices_S256x256_o24_0_S8x256 x _ (fun a => rfl), ?_⟩
    exact fun p hp => absurd hp List.not_mem_nil
  · exact View.cover_of_tiledL _ ![8, 256] (by unfold trip_k0_t1.sl.HW_arg16_8; rfl) y

/-- The stored sign words of tokens 0..127. -/
theorem sg_lo (arg16 : Memref sig .tc .vmem S64x256 .i32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (r : Fin 32) (b : Fin 128) :
    k0_pay113 (trip_k0_t1.sl.v650 (F := Ideal) i arg4 arg10 arg16 h2 X4 X10 k) (ix3 0 r b) = tposeWord (signT (trip_k0_t1.sl.r (F := Ideal) i arg4 arg10 h2 X4 X10 k)) ⟨r.val, by omega⟩ b := by
  unfold trip_k0_t1.sl.v650
  rw [View.readCov_eq_canon']
  pointwise [k0_pay113]
  rw [tpose_apply]
  simp only [HW16_apply]
  generalize signT (trip_k0_t1.sl.r (F := Ideal) i arg4 arg10 h2 X4 X10 k) = g
  unfold tposeWord
  rfl

theorem sg_hi (arg16 : Memref sig .tc .vmem S64x256 .i32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (r : Fin 32) (b : Fin 128) :
    k0_pay121 (trip_k0_t1.sl.v720 (F := Ideal) i arg4 arg10 arg16 h2 X4 X10 k) (ix3 0 r b) = tposeWord (signT (trip_k0_t1.sl.r (F := Ideal) i arg4 arg10 h2 X4 X10 k)) ⟨32 + r.val, by omega⟩ b := by
  unfold trip_k0_t1.sl.v720
  rw [View.readCov_eq_canon']
  pointwise [k0_pay121]
  rw [tpose_apply]
  simp only [HW16_apply]
  generalize signT (trip_k0_t1.sl.r (F := Ideal) i arg4 arg10 h2 X4 X10 k) = g
  unfold tposeWord
  congr 1
  funext q
  have e : (⟨128 + (4 * r.val + q.val), by omega⟩ : Fin 256) = ⟨4 * (32 + r.val) + q.val, by omega⟩ := Fin.ext (by simp only; omega)
  exact congrArg (fun z => BitVec.extractLsb' (16 * (b.val % 2)) 8 (g (ix2 (⟨b.val / 2, by omega⟩ : Fin 64) z))) e

end Cert.KernelIdeal.Hand
end
-- ==== Proof.Loop1.lean ====
module

public import proofs.«01_k».proof.Proof.AmaxTrip
public import proofs.«01_k».proof.Proof.SignTrip
public import Idealize.ShloMosaic.Lib.WritesUnit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The transformed tile of trip `k`: the transform matrix times the tile, transposed. -/
def tile (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) : S256x256.Idx → EReal :=
  trip_k0_t1.sl.r (F := Ideal) i arg4 arg10 h2 X4 X10 k

/-- The sixteen block maxima of tokens 0..127. -/
theorem am_lo (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 16) (l : Fin 128) :
    k0_pay111 (trip_k0_t1.sl.r_45 (F := Ideal) i arg4 arg10 arg15 h2 X4 X10 k) (trip_k0_t1.sl.r_46 (F := Ideal) i arg4 arg10 arg15 h2 X4 X10 k) (trip_k0_t1.sl.v629 (F := Ideal) i arg4 arg10 arg15 h2 X4 X10 k) (trip_k0_t1.sl.v632 (F := Ideal) i arg4 arg10 arg15 h2 X4 X10 k) (trip_k0_t1.sl.v635 (F := Ideal) i arg4 arg10 arg15 h2 X4 X10 k) (ix3 0 n l) = blkMax (tile i arg4 arg10 h2 X4 X10 k) n ⟨0 + l.val, by omega⟩ := by
  by_cases hn : n.val < 8
  · have e : n = ⟨0 + (⟨n.val, hn⟩ : Fin 8).val, by simp only; omega⟩ := Fin.ext (by simp only; omega)
    rw [e]; exact am0_lo arg15 i arg4 arg10 h2 X4 X10 k ⟨n.val, hn⟩ l
  · have e : n = ⟨8 + (⟨n.val - 8, by omega⟩ : Fin 8).val, by simp only; omega⟩ := Fin.ext (by simp only; omega)
    rw [e]; exact am1_lo arg15 i arg4 arg10 h2 X4 X10 k ⟨n.val - 8, by omega⟩ l

/-- The sixteen block maxima of tokens 128..255. -/
theorem am_hi (arg15 : Memref sig .tc .vmem S2x128x128 .f32) (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) (n : Fin 16) (l : Fin 128) :
    k0_pay119 (trip_k0_t1.sl.r_49 (F := Ideal) i arg4 arg10 arg15 h2 X4 X10 k) (trip_k0_t1.sl.r_50 (F := Ideal) i arg4 arg10 arg15 h2 X4 X10 k) (trip_k0_t1.sl.v696 (F := Ideal) i arg4 arg10 arg15 h2 X4 X10 k) (trip_k0_t1.sl.v699 (F := Ideal) i arg4 arg10 arg15 h2 X4 X10 k) (trip_k0_t1.sl.v702 (F := Ideal) i arg4 arg10 arg15 h2 X4 X10 k) (trip_k0_t1.sl.v705 (F := Ideal) i arg4 arg10 arg15 h2 X4 X10 k) (ix3 0 n l) = blkMax (tile i arg4 arg10 h2 X4 X10 k) n ⟨128 + l.val, by omega⟩ := by
  by_cases hn : n.val < 8
  · have e : n = ⟨0 + (⟨n.val, hn⟩ : Fin 8).val, by simp only; omega⟩ := Fin.ext (by simp only; omega)
    rw [e]; exact am0_hi arg15 i arg4 arg10 h2 X4 X10 k ⟨n.val, hn⟩ l
  · have e : n = ⟨8 + (⟨n.val - 8, by omega⟩ : Fin 8).val, by simp only; omega⟩ := Fin.ext (by simp only; omega)
    rw [e]; exact am1_hi arg15 i arg4 arg10 h2 X4 X10 k ⟨n.val - 8, by omega⟩ l

variable (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (v1 : BitVec 32) (h2 : k0_cond2 i = 1#1) (X4 : BufTy.Contents (Elt Ideal) arg4.view.ty) (X10 : BufTy.Contents (Elt Ideal) arg10.view.ty)

/-- What one trip writes to the block maxima: the trip's sixteen rows of the step's plane. -/
theorem trip12 (k : Fin k0_t1_loop.trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (G : BufTy.Contents (Elt Ideal) arg12.view.ty) (a : Fin 32) (b t : Fin 256) :
    arg12.view.read (Elt Ideal) (arg12.view.writes (Elt Ideal) G ((trip_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 k).1 f12 f13 f14 f15 f16)) (ix3 a b t)
      = if a.val = 4 * (i 1).val + (i 2).val ∧ b.val / 16 = k.val then blkMax (tile i arg4 arg10 h2 X4 X10 k) ⟨b.val % 16, by omega⟩ t
        else arg12.view.read (Elt Ideal) G (ix3 a b t) := by
  unfold trip_k0_t1
  dsimp only
  by_cases hc : a.val = 4 * (i 1).val + (i 2).val ∧ b.val / 16 = k.val
  · rw [if_pos hc]
    by_cases ht : t.val < 128
    · rw [View.read_writes_cons_unit_of_not_mem _ _ _ _ _ _ (k0_off4_eq i k) 2 (Or.inl (by show t.val < 128; exact ht))]
      rw [View.read_writes_cons_unit_of_mem _ _ _ _ _ _ (ix3 (0 : Fin 1) (⟨b.val % 16, by omega⟩ : Fin 16) (⟨t.val, ht⟩ : Fin 128)) (k0_off2_eq i k) (by
        intro a'; match a' with
        | ⟨0, _⟩ => show a.val = 4 * (i 1).val + (i 2).val + 0; omega
        | ⟨1, _⟩ => show b.val = 16 * k.val + b.val % 16; omega
        | ⟨2, _⟩ => show t.val = 0 + t.val; omega)]
      refine (am_lo arg15 i arg4 arg10 h2 X4 X10 k ⟨b.val % 16, by omega⟩ ⟨t.val, by omega⟩).trans ?_
      exact congrArg (blkMax _ _) (Fin.ext (by simp only; omega))
    · rw [View.read_writes_cons_unit_of_mem _ _ _ _ _ _ (ix3 (0 : Fin 1) (⟨b.val % 16, by omega⟩ : Fin 16) (⟨t.val - 128, by omega⟩ : Fin 128)) (k0_off4_eq i k) (by
        intro a'; match a' with
        | ⟨0, _⟩ => show a.val = 4 * (i 1).val + (i 2).val + 0; omega
        | ⟨1, _⟩ => show b.val = 16 * k.val + b.val % 16; omega
        | ⟨2, _⟩ => show t.val = 128 + (t.val - 128); omega)]
      refine (am_hi arg15 i arg4 arg10 h2 X4 X10 k ⟨b.val % 16, by omega⟩ ⟨t.val - 128, by omega⟩).trans ?_
      exact congrArg (blkMax _ _) (Fin.ext (by simp only; omega))
  · rw [if_neg hc]
    by_cases h0 : a.val = 4 * (i 1).val + (i 2).val
    · have h1 : b.val < 16 * k.val ∨ 16 * k.val + 16 ≤ b.val := by omega
      rw [View.read_writes_cons_unit_of_not_mem _ _ _ _ _ _ (k0_off4_eq i k) 1 h1, View.read_writes_cons_unit_of_not_mem _ _ _ _ _ _ (k0_off2_eq i k) 1 h1]
      rfl
    · have h1 : a.val < 4 * (i 1).val + (i 2).val ∨ 4 * (i 1).val + (i 2).val + 1 ≤ a.val := by omega
      rw [View.read_writes_cons_unit_of_not_mem _ _ _ _ _ _ (k0_off4_eq i k) 0 h1, View.read_writes_cons_unit_of_not_mem _ _ _ _ _ _ (k0_off2_eq i k) 0 h1]
      rfl

/-- What one trip writes to the sign words: the trip's columns of the step's words. -/
theorem trip13 (k : Fin k0_t1_loop.trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (G : BufTy.Contents (Elt Ideal) arg13.view.ty) (a : Fin 32) (r : Fin 64) (b : Fin 2048) :
    arg13.view.read (Elt Ideal) (arg13.view.writes (Elt Ideal) G ((trip_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 k).2.1 f12 f13 f14 f15 f16)) (ix3 a r b)
      = if a.val = 4 * (i 1).val + (i 2).val ∧ b.val / 128 = k.val then tposeWord (signT (tile i arg4 arg10 h2 X4 X10 k)) r ⟨b.val % 128, by omega⟩
        else arg13.view.read (Elt Ideal) G (ix3 a r b) := by
  unfold trip_k0_t1
  dsimp only
  by_cases hc : a.val = 4 * (i 1).val + (i 2).val ∧ b.val / 128 = k.val
  · rw [if_pos hc]
    by_cases ht : r.val < 32
    · rw [View.read_writes_cons_unit_of_not_mem _ _ _ _ _ _ (k0_off5_eq i k) 1 (Or.inl (by show r.val < 32; exact ht))]
      rw [View.read_writes_cons_unit_of_mem _ _ _ _ _ _ (ix3 (0 : Fin 1) (⟨r.val, ht⟩ : Fin 32) (⟨b.val % 128, by omega⟩ : Fin 128)) (k0_off3_eq i k) (by
        intro a'; match a' with
        | ⟨0, _⟩ => show a.val = 4 * (i 1).val + (i 2).val + 0; omega
        | ⟨1, _⟩ => show r.val = 0 + r.val; omega
        | ⟨2, _⟩ => show b.val = 128 * k.val + b.val % 128; omega)]
      exact sg_lo arg16 i arg4 arg10 h2 X4 X10 k ⟨r.val, ht⟩ ⟨b.val % 128, by omega⟩
    · rw [View.read_writes_cons_unit_of_mem _ _ _ _ _ _ (ix3 (0 : Fin 1) (⟨r.val - 32, by omega⟩ : Fin 32) (⟨b.val % 128, by omega⟩ : Fin 128)) (k0_off5_eq i k) (by
        intro a'; match a' with
        | ⟨0, _⟩ => show a.val = 4 * (i 1).val + (i 2).val + 0; omega
        | ⟨1, _⟩ => show r.val = 32 + (r.val - 32); omega
        | ⟨2, _⟩ => show b.val = 128 * k.val + b.val % 128; omega)]
      refine (sg_hi arg16 i arg4 arg10 h2 X4 X10 k ⟨r.val - 32, by omega⟩ ⟨b.val % 128, by omega⟩).trans ?_
      exact congrArg (fun z => tposeWord _ z _) (Fin.ext (by simp only; omega))
  · rw [if_neg hc]
    by_cases h0 : a.val = 4 * (i 1).val + (i 2).val
    · have h1 : b.val < 128 * k.val ∨ 128 * k.val + 128 ≤ b.val := by omega
      rw [View.read_writes_cons_unit_of_not_mem _ _ _ _ _ _ (k0_off5_eq i k) 2 h1, View.read_writes_cons_unit_of_not_mem _ _ _ _ _ _ (k0_off3_eq i k) 2 h1]
      rfl
    · have h1 : a.val < 4 * (i 1).val + (i 2).val ∨ 4 * (i 1).val + (i 2).val + 1 ≤ a.val := by omega
      rw [View.read_writes_cons_unit_of_not_mem _ _ _ _ _ _ (k0_off5_eq i k) 0 h1, View.read_writes_cons_unit_of_not_mem _ _ _ _ _ _ (k0_off3_eq i k) 0 h1]
      rfl

/-- What one trip leaves in the running maximum. -/
theorem trip14 (k : Fin k0_t1_loop.trips) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (g : Fin 8) (t : Fin 256) :
    arg14.view.read (Elt Ideal) (arg14.view.writes (Elt Ideal) f14 ((trip_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 k).2.2.1 f12 f13 f14 f15 f16)) (ix2 g t)
      = max (arg14.view.read (Elt Ideal) f14 (ix2 g t))
        (max (blkMax (tile i arg4 arg10 h2 X4 X10 k) ⟨g.val, by omega⟩ t) (blkMax (tile i arg4 arg10 h2 X4 X10 k) ⟨8 + g.val, by omega⟩ t)) := by
  unfold trip_k0_t1
  dsimp only
  by_cases ht : t.val < 128
  · rw [View.read_writes_cons_unit_of_not_mem _ _ _ _ _ _ rfl 1 (Or.inl (by show t.val < 128; exact ht))]
    rw [View.read_writes_cons_unit_of_mem _ _ _ _ _ _ (ix2 g (⟨t.val, ht⟩ : Fin 128)) rfl (by
        intro a'; match a' with
        | ⟨0, _⟩ => show g.val = 0 + g.val; omega
        | ⟨1, _⟩ => show t.val = 0 + t.val; omega)]
    refine (gm_lo arg15 i arg4 arg10 h2 X4 X10 k _ g ⟨t.val, ht⟩).trans ?_
    have et : (⟨0 + t.val, by omega⟩ : Fin 256) = t := Fin.ext (by simp only; omega)
    simp only [et]
    refine congrArg₂ max ?_ rfl
    show arg14.view.read (Elt Ideal) f14 _ = _
    congr 1
    funext a'
    match a' with
    | ⟨0, _⟩ => exact Fin.ext (by show 0 + 1 * g.val = g.val; omega)
    | ⟨1, _⟩ => exact Fin.ext (by show 0 + 1 * (t.val) = t.val; omega)
  · rw [View.read_writes_cons_unit_of_mem _ _ _ _ _ _ (ix2 g (⟨t.val - 128, by omega⟩ : Fin 128)) rfl (by
        intro a'; match a' with
        | ⟨0, _⟩ => show g.val = 0 + g.val; omega
        | ⟨1, _⟩ => show t.val = 128 + (t.val - 128); omega)]
    refine (gm_hi arg15 i arg4 arg10 h2 X4 X10 k _ g ⟨t.val - 128, by omega⟩).trans ?_
    have et : (⟨128 + (t.val - 128), by omega⟩ : Fin 256) = t := Fin.ext (by simp only; omega)
    simp only [et]
    refine congrArg₂ max ?_ rfl
    unfold trip_k0_t1.sl.v714
    show arg14.view.read (Elt Ideal) f14 _ = _
    congr 1
    funext a'
    match a' with
    | ⟨0, _⟩ => exact Fin.ext (by show 0 + 1 * g.val = g.val; omega)
    | ⟨1, _⟩ => exact Fin.ext (by show 128 + 1 * ((t.val - 128)) = t.val; omega)

theorem trips1 : k0_t1_loop.trips = 16 := by decide

/-- The block maxima after `K` trips. -/
theorem loop12 (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (K : ℕ) (hK : K ≤ 16) (a : Fin 32) (b t : Fin 256) :
    arg12.view.read (Elt Ideal) (arg12.view.writes (Elt Ideal) f12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).1) (ix3 a b t)
      = if a.val = 4 * (i 1).val + (i 2).val ∧ b.val / 16 < K then blkMax (tile i arg4 arg10 h2 X4 X10 ⟨b.val / 16, by rw [trips1]; omega⟩) ⟨b.val % 16, by omega⟩ t
        else arg12.view.read (Elt Ideal) f12 (ix3 a b t) := by
  induction K with
  | zero => rw [if_neg (by omega)]; rfl
  | succ K ih =>
    rw [pb_k0_t1_succ (k := ⟨K, by rw [trips1]; omega⟩)]
    dsimp only
    rw [View.writes_append]
    refine (trip12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 ⟨K, by rw [trips1]; omega⟩ _ _ _ _ _ _ a b t).trans ?_
    by_cases h : a.val = 4 * (i 1).val + (i 2).val ∧ b.val / 16 = K
    · rw [if_pos h, if_pos ⟨h.1, by omega⟩]
      obtain ⟨_, rfl⟩ := h
      rfl
    · rw [if_neg h, ih (by omega)]
      by_cases h' : a.val = 4 * (i 1).val + (i 2).val ∧ b.val / 16 < K
      · rw [if_pos h', if_pos ⟨h'.1, by omega⟩]
      · rw [if_neg h', if_neg (by omega)]

/-- The sign words after `K` trips. -/
theorem loop13 (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (K : ℕ) (hK : K ≤ 16) (a : Fin 32) (r : Fin 64) (b : Fin 2048) :
    arg13.view.read (Elt Ideal) (arg13.view.writes (Elt Ideal) f13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).2.1) (ix3 a r b)
      = if a.val = 4 * (i 1).val + (i 2).val ∧ b.val / 128 < K then tposeWord (signT (tile i arg4 arg10 h2 X4 X10 ⟨b.val / 128, by rw [trips1]; omega⟩)) r ⟨b.val % 128, by omega⟩
        else arg13.view.read (Elt Ideal) f13 (ix3 a r b) := by
  induction K with
  | zero => rw [if_neg (by omega)]; rfl
  | succ K ih =>
    rw [pb_k0_t1_succ (k := ⟨K, by rw [trips1]; omega⟩)]
    dsimp only
    rw [View.writes_append]
    refine (trip13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 ⟨K, by rw [trips1]; omega⟩ _ _ _ _ _ _ a r b).trans ?_
    by_cases h : a.val = 4 * (i 1).val + (i 2).val ∧ b.val / 128 = K
    · rw [if_pos h, if_pos ⟨h.1, by omega⟩]
      obtain ⟨_, rfl⟩ := h
      rfl
    · rw [if_neg h, ih (by omega)]
      by_cases h' : a.val = 4 * (i 1).val + (i 2).val ∧ b.val / 128 < K
      · rw [if_pos h', if_pos ⟨h'.1, by omega⟩]
      · rw [if_neg h', if_neg (by omega)]

/-- The running maximum after `K` trips, by what lies above it. -/
theorem loop14 (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (K : ℕ) (hK : K ≤ 16) (g : Fin 8) (t : Fin 256) (z : EReal) :
    arg14.view.read (Elt Ideal) (arg14.view.writes (Elt Ideal) f14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).2.2.1) (ix2 g t) ≤ z
      ↔ arg14.view.read (Elt Ideal) f14 (ix2 g t) ≤ z ∧ ∀ k : Fin k0_t1_loop.trips, k.val < K →
        blkMax (tile i arg4 arg10 h2 X4 X10 k) ⟨g.val, by omega⟩ t ≤ z ∧ blkMax (tile i arg4 arg10 h2 X4 X10 k) ⟨8 + g.val, by omega⟩ t ≤ z := by
  induction K with
  | zero => exact ⟨fun h => ⟨h, fun k hk => absurd hk (by omega)⟩, fun h => h.1⟩
  | succ K ih =>
    rw [pb_k0_t1_succ (k := ⟨K, by rw [trips1]; omega⟩)]
    dsimp only
    rw [View.writes_append]
    have e := trip14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 ⟨K, by rw [trips1]; omega⟩ (arg12.view.writes (Elt Ideal) f12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).1) (arg13.view.writes (Elt Ideal) f13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).2.1)
      (arg14.view.writes (Elt Ideal) f14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).2.2.1) (arg15.view.writes (Elt Ideal) f15 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).2.2.2.1) (arg16.view.writes (Elt Ideal) f16 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 K).2.2.2.2) g t
    refine (iff_of_eq (congrArg (· ≤ z) e)).trans ?_
    rw [max_le_iff, max_le_iff, ih (by omega)]
    constructor
    · rintro ⟨⟨h0, hk⟩, h1⟩
      refine ⟨h0, fun k hk' => ?_⟩
      rcases Nat.lt_succ_iff_lt_or_eq.mp hk' with h | h
      · exact hk k h
      · have : k = ⟨K, by rw [trips1]; omega⟩ := Fin.ext h
        rw [this]; exact h1
    · rintro ⟨h0, hk⟩
      exact ⟨⟨h0, fun k h => hk k (by omega)⟩, hk _ (Nat.lt_succ_self K)⟩

end Cert.KernelIdeal.Hand
end
-- ==== Proof.FieldTrip.lean ====
module

public import proofs.«01_k».proof.Proof.SignTrip

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The rounding sum of eight rows of a tile: the bit pattern of the scaled magnitude, plus the scaled random byte. -/
def sumV (w8 : FVec Ideal S8x256 .f32) (s : FVec Ideal S1x256 .f32) (p8 : FVec Ideal S8x256 .f32) : IVec S8x256 32 :=
  have a : FVec Ideal S8x256 .f32 := mulf (absf w8) (broadcastTo S8x256 s broadcasts_S1x256_S8x256)
  have g : FVec Ideal S8x256 .f32 := addf a (maximumf a (broadcast S8x256 (Scalar.ofBits (F := Ideal) .f32 0x41000000#32)))
  addi (minsi (minsi (minsi (addi (fptosi 32 (ceil (mulf g (broadcast S8x256 (Scalar.ofBits (F := Ideal) .f32 0x49800000#32))))) (broadcast S8x256 1082130432#32)) (addi (fptosi 32 (ceil (mulf g (broadcast S8x256 (Scalar.ofBits (F := Ideal) .f32 0x49000000#32))))) (broadcast S8x256 1090519040#32))) (minsi (addi (fptosi 32 (ceil (mulf g (broadcast S8x256 (Scalar.ofBits (F := Ideal) .f32 0x48800000#32))))) (broadcast S8x256 1098907648#32)) (addi (fptosi 32 (ceil (mulf g (broadcast S8x256 (Scalar.ofBits (F := Ideal) .f32 0x48000000#32))))) (broadcast S8x256 1107296256#32)))) (addi (fptosi 32 (ceil (mulf g (broadcast S8x256 (Scalar.ofBits (F := Ideal) .f32 0x47800000#32))))) (broadcast S8x256 1115684864#32)))
    (addi (fptosi 32 (addf p8 (broadcast S8x256 (Scalar.ofBits (F := Ideal) .f32 0x4B7F5FFF#32)))) (broadcast S8x256 1249902592#32))

/-- One entry of the rounding sum. -/
def sumS (x s p : EReal) : BitVec 32 := sumV (fun _ => x) (fun _ => s) (fun _ => p) (ix2 0 0)

theorem sumV_apply (w8 : FVec Ideal S8x256 .f32) (s : FVec Ideal S1x256 .f32) (p8 : FVec Ideal S8x256 .f32) (i : Fin 8) (t : Fin 256) :
    sumV w8 s p8 (ix2 i t) = sumS (w8 (ix2 i t)) (s (ix2 0 t)) (p8 (ix2 i t)) := by
  unfold sumS sumV
  pointwise

/-- The sixteen rounded halves of two groups of eight rows. -/
def halfV (a b : IVec S8x256 32) : IVec S16x256 16 :=
  have v : IVec S16x256 32 := concatenate S16x256 0 [⟨S8x256, a⟩, ⟨S8x256, b⟩] concatenates_S8x256_S8x256_S16x256_d0
  trunci 16 (minsi (shrui (addi v (addi (andi (shrui v (broadcast S16x256 16#32)) (broadcast S16x256 1#32)) (broadcast S16x256 32767#32))) (broadcast S16x256 16#32)) k0_pay124) natLt_16_32

/-- One rounded half. -/
def halfS (x : BitVec 32) : BitVec 16 :=
  have y : BitVec 32 := (x + ((x >>> 16 &&& 1#32) + 32767#32)) >>> 16
  (if y.slt 36415#32 then y else 36415#32).setWidth 16

theorem halfV_apply (a b : IVec S8x256 32) (p : Fin 16) (t : Fin 256) :
    halfV a b (ix2 p t) = halfS (if h : p.val < 8 then a (ix2 (⟨p.val, h⟩ : Fin 8) t) else b (ix2 (⟨p.val - 8, by omega⟩ : Fin 8) t)) := by
  unfold halfV halfS
  dsimp only
  pointwise [k0_pay124]
  generalize (if h : p.val < 8 then a (ix2 (⟨p.val, h⟩ : Fin 8) t) else b (ix2 (⟨p.val - 8, by omega⟩ : Fin 8) t)) = z
  rfl

/-- The field word of two groups of sixteen halves. -/
def fieldV (e o : IVec S16x256 16) : IVec S8x256 32 :=
  shapeCast S8x256 (ori (shrui (andi (bitcast S8x256 32 o bitcasts_S16x256_w16_S8x256_w32) (broadcast S8x256 62915520#32)) (broadcast S8x256 2#32))
    (shrui (andi (bitcast S8x256 32 e bitcasts_S16x256_w16_S8x256_w32) (broadcast S8x256 62915520#32)) (broadcast S8x256 6#32))) shapeCasts_S8x256_S8x256

/-- The rounded half of channel `b % 8`, first half of the rows of block `b / 8`. -/
def fldE (w p : S256x256.Idx → EReal) (s : Fin 16 → Fin 256 → EReal) (b : Fin 128) (t : Fin 256) : BitVec 16 :=
  halfS (sumS (w (ix2 (⟨16 * (b.val / 8) + b.val % 8, by omega⟩ : Fin 256) t)) (s ⟨b.val / 8, by omega⟩ t) (p (ix2 (⟨16 * (b.val / 8) + b.val % 8, by omega⟩ : Fin 256) t)))

/-- The same for the second half of the rows. -/
def fldO (w p : S256x256.Idx → EReal) (s : Fin 16 → Fin 256 → EReal) (b : Fin 128) (t : Fin 256) : BitVec 16 :=
  halfS (sumS (w (ix2 (⟨16 * (b.val / 8) + 8 + b.val % 8, by omega⟩ : Fin 256) t)) (s ⟨b.val / 8, by omega⟩ t) (p (ix2 (⟨16 * (b.val / 8) + 8 + b.val % 8, by omega⟩ : Fin 256) t)))

/-- The field words of a transformed tile: word row `r` holds halves `2r` (low) and `2r + 1` (high). -/
def fieldT (w p : S256x256.Idx → EReal) (s : Fin 16 → Fin 256 → EReal) : S64x256.Idx → BitVec 32 := fun y =>
  have h0 : (y 0).val < 64 := (y 0).isLt
  (((fldO w p s ⟨2 * (y 0).val + 1, by omega⟩ (y 1) ++ fldO w p s ⟨2 * (y 0).val, by omega⟩ (y 1)) &&& 62915520#32) >>> 2)
    ||| (((fldE w p s ⟨2 * (y 0).val + 1, by omega⟩ (y 1) ++ fldE w p s ⟨2 * (y 0).val, by omega⟩ (y 1)) &&& 62915520#32) >>> 6)

/-- A rounding sum gathered from two groups of eight rows, sixteen apart. -/
theorem sum_even (w p : FVec Ideal S256x256 .f32) (s : Fin 16 → Fin 256 → EReal) (q j : ℕ) (s1 : S256x256.Slices ![32 * q, 0] S8x256) (s3 : S256x256.Slices ![32 * q + 16, 0] S8x256)
    (s0 s0' : FVec Ideal S1x256 .f32) (hq : q < 8) (hs0 : ∀ t, s0 (ix2 0 t) = s ⟨2 * q, by omega⟩ t) (hs1 : ∀ t, s0' (ix2 0 t) = s ⟨2 * q + 1, by omega⟩ t)
    (hj : j < 16) (t : Fin 256) (b : Fin 128) (hb : b.val = 16 * q + j) :
    halfS (if h : j < 8 then sumV (extractStridedSlice S8x256 ![32 * q, 0] w s1) s0 (extractStridedSlice S8x256 ![32 * q, 0] p s1) (ix2 (⟨j, h⟩ : Fin 8) t)
      else sumV (extractStridedSlice S8x256 ![32 * q + 16, 0] w s3) s0' (extractStridedSlice S8x256 ![32 * q + 16, 0] p s3) (ix2 (⟨j - 8, by omega⟩ : Fin 8) t))
      = fldE w p s b t := by
  have ew := cat_even w q j s1 s3 hj t b hb
  have ep := cat_even p q j s1 s3 hj t b hb
  unfold fldE
  rw [← ew, ← ep]
  refine congrArg halfS ?_
  split_ifs with h
  · rw [sumV_apply, hs0]
    exact congrArg (fun n => sumS _ (s n t) _) (Fin.ext (by simp only; omega))
  · rw [sumV_apply, hs1]
    exact congrArg (fun n => sumS _ (s n t) _) (Fin.ext (by simp only; omega))

theorem sum_odd (w p : FVec Ideal S256x256 .f32) (s : Fin 16 → Fin 256 → EReal) (q j : ℕ) (s1 : S256x256.Slices ![32 * q + 8, 0] S8x256) (s3 : S256x256.Slices ![32 * q + 24, 0] S8x256)
    (s0 s0' : FVec Ideal S1x256 .f32) (hq : q < 8) (hs0 : ∀ t, s0 (ix2 0 t) = s ⟨2 * q, by omega⟩ t) (hs1 : ∀ t, s0' (ix2 0 t) = s ⟨2 * q + 1, by omega⟩ t)
    (hj : j < 16) (t : Fin 256) (b : Fin 128) (hb : b.val = 16 * q + j) :
    halfS (if h : j < 8 then sumV (extractStridedSlice S8x256 ![32 * q + 8, 0] w s1) s0 (extractStridedSlice S8x256 ![32 * q + 8, 0] p s1) (ix2 (⟨j, h⟩ : Fin 8) t)
      else sumV (extractStridedSlice S8x256 ![32 * q + 24, 0] w s3) s0' (extractStridedSlice S8x256 ![32 * q + 24, 0] p s3) (ix2 (⟨j - 8, by omega⟩ : Fin 8) t))
      = fldO w p s b t := by
  have ew := cat_odd w q j s1 s3 hj t b hb
  have ep := cat_odd p q j s1 s3 hj t b hb
  unfold fldO
  rw [← ew, ← ep]
  refine congrArg halfS ?_
  split_ifs with h
  · rw [sumV_apply, hs0]
    exact congrArg (fun n => sumS _ (s n t) _) (Fin.ext (by simp only; omega))
  · rw [sumV_apply, hs1]
    exact congrArg (fun n => sumS _ (s n t) _) (Fin.ext (by simp only; omega))

/-- One stored piece of the field words, at any tile, any random rows and any scales. -/
theorem field_piece (w p : FVec Ideal S256x256 .f32) (s : Fin 16 → Fin 256 → EReal) (q o1 o2 o3 o4 : ℕ) (h1 : o1 = 32 * q) (h2 : o2 = 32 * q + 8) (h3 : o3 = 32 * q + 16)
    (h4 : o4 = 32 * q + 24) (hq : q < 8) (s1 : S256x256.Slices ![o1, 0] S8x256) (s2 : S256x256.Slices ![o2, 0] S8x256)
    (s3 : S256x256.Slices ![o3, 0] S8x256) (s4 : S256x256.Slices ![o4, 0] S8x256)
    (s0 s0' : FVec Ideal S1x256 .f32) (hs0 : ∀ t, s0 (ix2 0 t) = s ⟨2 * q, by omega⟩ t) (hs1 : ∀ t, s0' (ix2 0 t) = s ⟨2 * q + 1, by omega⟩ t)
    (x : S8x256.Idx) (y : S64x256.Idx) (hy : ∀ a, (y a).val = (![8 * q, 0] : Fin 2 → ℕ) a + 1 * (x a).val) :
    fieldV (halfV (sumV (extractStridedSlice S8x256 ![o1, 0] w s1) s0 (extractStridedSlice S8x256 ![o1, 0] p s1)) (sumV (extractStridedSlice S8x256 ![o3, 0] w s3) s0' (extractStridedSlice S8x256 ![o3, 0] p s3)))
      (halfV (sumV (extractStridedSlice S8x256 ![o2, 0] w s2) s0 (extractStridedSlice S8x256 ![o2, 0] p s2)) (sumV (extractStridedSlice S8x256 ![o4, 0] w s4) s0' (extractStridedSlice S8x256 ![o4, 0] p s4))) x = fieldT w p s y := by
  subst h1 h2 h3 h4
  have e0 : (y 0).val = 8 * q + (x 0).val := by have := hy 0; simp at this; omega
  have e1 : y 1 = x 1 := Fin.ext (by have := hy 1; simp at this; omega)
  have h1 : (x 0).val < 8 := (x 0).isLt
  unfold fieldV fieldT
  dsimp only
  idx_vars x
  pointwise
  simp only [bc_16_32, halfV_apply]
  have l1 : (2 * (y 0).val + 1) = 16 * q + (2 * x0.val + 1) := by omega
  have l0 : (2 * (y 0).val) = 16 * q + (2 * x0.val) := by omega
  rw [sum_even w p s q (2 * x0.val + 1) s1 s3 s0 s0' hq hs0 hs1 (by omega) x1 ⟨2 * (y 0).val + 1, by omega⟩ l1, sum_even w p s q (2 * x0.val) s1 s3 s0 s0' hq hs0 hs1 (by omega) x1 ⟨2 * (y 0).val, by omega⟩ l0,
    sum_odd w p s q (2 * x0.val + 1) s2 s4 s0 s0' hq hs0 hs1 (by omega) x1 ⟨2 * (y 0).val + 1, by omega⟩ l1, sum_odd w p s q (2 * x0.val) s2 s4 s0 s0' hq hs0 hs1 (by omega) x1 ⟨2 * (y 0).val, by omega⟩ l0, e1]
  rfl

/-- The transformed tile of trip `k` of the second loop. -/
def tile2 (i : grid0.Coords) (arg4 : Memref sig .tc .vmem S256x4096 .bf16) (arg10 : Memref sig .tc .vmem S256x256 .bf16) (h4 : k0_cond4 i = 1#1) (X4 : BufTy.Contents (Elt Ideal) arg4.view.ty) (X10 : BufTy.Contents (Elt Ideal) arg10.view.ty) (k : Fin k0_t2_loop.trips) : S256x256.Idx → EReal :=
  trip_k0_t2.sl.r (F := Ideal) i arg4 arg10 h4 X4 X10 k

/-- The scaled random rows of trip `k`. -/
def rnd2 (i : grid0.Coords) (arg5 : Memref sig .tc .vmem S256x4096 .i8) (arg11 : Memref sig .tc .vmem S256x256 .bf16) (h4 : k0_cond4 i = 1#1) (X5 : BufTy.Contents (Elt Ideal) arg5.view.ty) (X11 : BufTy.Contents (Elt Ideal) arg11.view.ty) (k : Fin k0_t2_loop.trips) : S256x256.Idx → EReal :=
  trip_k0_t2.sl.r_1 (F := Ideal) i arg5 arg11 h4 X5 X11 k

theorem trips2 : k0_t2_loop.trips = 16 := by decide

/-- The scales of trip `k`, one row per block. -/
def scl2 (arg17 : Memref sig .tc .vmem S256x256 .f32) (X17 : BufTy.Contents (Elt Ideal) arg17.view.ty) (k : Fin k0_t2_loop.trips) (n : Fin 16) (t : Fin 256) : EReal :=
  have hk : k.val < 16 := lt_of_lt_of_eq k.isLt trips2
  arg17.view.read (Elt Ideal) X17 (ix2 (⟨16 * k.val + n.val, by omega⟩ : Fin 256) t)

/-- The rows of scales the trip reads. -/
theorem scl_even (i : grid0.Coords) (arg17 : Memref sig .tc .vmem S256x256 .f32) (h4 : k0_cond4 i = 1#1) (X17 : BufTy.Contents (Elt Ideal) arg17.view.ty) (k : Fin k0_t2_loop.trips) (q : Fin 8) (t : Fin 256) :
    View.readAt (Elt Ideal) arg17.view (Rect.unit (s := S256x256) (k0_off9 k (BitVec.ofNat 32 (2 * q.val))) S1x256.size (k0_off9_inb i k h4 q)).toLoadRect X17 (ix2 0 t) = scl2 arg17 X17 k ⟨2 * q.val, by omega⟩ t := by
  show arg17.view.read (Elt Ideal) X17 _ = arg17.view.read (Elt Ideal) X17 _
  congr 1
  have e := k0_off9_eq k q
  funext a
  match a with
  | ⟨0, _⟩ => exact Fin.ext (by show k0_off9 k (BitVec.ofNat 32 (2 * q.val)) 0 + 1 * 0 = 16 * k.val + 2 * q.val; rw [e]; rfl)
  | ⟨1, _⟩ => exact Fin.ext (by show k0_off9 k (BitVec.ofNat 32 (2 * q.val)) 1 + 1 * t.val = t.val; rw [e]; show 0 + 1 * t.val = t.val; omega)

theorem scl_odd (i : grid0.Coords) (arg17 : Memref sig .tc .vmem S256x256 .f32) (h4 : k0_cond4 i = 1#1) (X17 : BufTy.Contents (Elt Ideal) arg17.view.ty) (k : Fin k0_t2_loop.trips) (q : Fin 8) (t : Fin 256) :
    View.readAt (Elt Ideal) arg17.view (Rect.unit (s := S256x256) (k0_off10 k (BitVec.ofNat 32 (2 * q.val))) S1x256.size (k0_off10_inb i k h4 q)).toLoadRect X17 (ix2 0 t) = scl2 arg17 X17 k ⟨2 * q.val + 1, by omega⟩ t := by
  show arg17.view.read (Elt Ideal) X17 _ = arg17.view.read (Elt Ideal) X17 _
  congr 1
  have e := k0_off10_eq k q
  funext a
  match a with
  | ⟨0, _⟩ => exact Fin.ext (by show k0_off10 k (BitVec.ofNat 32 (2 * q.val)) 0 + 1 * 0 = 16 * k.val + (2 * q.val + 1); rw [e]; show (16 * k.val + 2 * q.val + 1) + 1 * 0 = _; omega)
  | ⟨1, _⟩ => exact Fin.ext (by show k0_off10 k (BitVec.ofNat 32 (2 * q.val)) 1 + 1 * t.val = t.val; rw [e]; show 0 + 1 * t.val = t.val; omega)

/-- The field words as one trip of the second loop leaves them. -/
theorem HW16b_apply (i : grid0.Coords) (arg4 : Memref sig .tc .vmem S256x4096 .bf16) (arg5 : Memref sig .tc .vmem S256x4096 .i8) (arg10 : Memref sig .tc .vmem S256x256 .bf16) (arg11 : Memref sig .tc .vmem S256x256 .bf16) (arg17 : Memref sig .tc .vmem S256x256 .f32) (h4 : k0_cond4 i = 1#1) (X4 : BufTy.Contents (Elt Ideal) arg4.view.ty) (X5 : BufTy.Contents (Elt Ideal) arg5.view.ty) (X10 : BufTy.Contents (Elt Ideal) arg10.view.ty) (X11 : BufTy.Contents (Elt Ideal) arg11.view.ty) (X17 : BufTy.Contents (Elt Ideal) arg17.view.ty) (k : Fin k0_t2_loop.trips) (y : S64x256.Idx) :
    View.canon (trip_k0_t2.sl.HW_arg16_8 (F := Ideal) i arg4 arg5 arg10 arg11 arg17 h4 X4 X5 X10 X11 X17 k) y = fieldT (tile2 i arg4 arg10 h4 X4 X10 k) (rnd2 i arg5 arg11 h4 X5 X11 k) (scl2 arg17 X17 k) y := by
  refine View.canon_apply_of_pieces _ _ ?_ y ?_
  · unfold tile2 rnd2
    unfold trip_k0_t2.sl.HW_arg16_8
    unfold trip_k0_t2.sl.v1973 trip_k0_t2.sl.v1970 trip_k0_t2.sl.v1969 trip_k0_t2.sl.v1968 trip_k0_t2.sl.r_128 trip_k0_t2.sl.r_135 trip_k0_t2.sl.r_136 trip_k0_t2.sl.r_137 trip_k0_t2.sl.r_138 trip_k0_t2.sl.r_139 trip_k0_t2.sl.r_140 trip_k0_t2.sl.r_141 trip_k0_t2.sl.r_115 trip_k0_t2.sl.r_118 trip_k0_t2.sl.r_119 trip_k0_t2.sl.r_120 trip_k0_t2.sl.r_121 trip_k0_t2.sl.r_100 trip_k0_t2.sl.r_105 trip_k0_t2.sl.r_106 trip_k0_t2.sl.r_87 trip_k0_t2.sl.r_88 trip_k0_t2.sl.r_63 trip_k0_t2.sl.r_23 trip_k0_t2.sl.r_30 trip_k0_t2.sl.r_31 trip_k0_t2.sl.r_32 trip_k0_t2.sl.r_33 trip_k0_t2.sl.r_34 trip_k0_t2.sl.r_35 trip_k0_t2.sl.r_36 trip_k0_t2.sl.r_11 trip_k0_t2.sl.r_13 trip_k0_t2.sl.r_14 trip_k0_t2.sl.r_15 trip_k0_t2.sl.r_167 trip_k0_t2.sl.r_168 trip_k0_t2.sl.r_125 trip_k0_t2.sl.r_126 trip_k0_t2.sl.r_127 trip_k0_t2.sl.r_129 trip_k0_t2.sl.r_130 trip_k0_t2.sl.r_131 trip_k0_t2.sl.r_132 trip_k0_t2.sl.r_133 trip_k0_t2.sl.r_134 trip_k0_t2.sl.r_114 trip_k0_t2.sl.r_116 trip_k0_t2.sl.r_117 trip_k0_t2.sl.r_95 trip_k0_t2.sl.r_96 trip_k0_t2.sl.r_97 trip_k0_t2.sl.r_98 trip_k0_t2.sl.r_99 trip_k0_t2.sl.r_103 trip_k0_t2.sl.r_104 trip_k0_t2.sl.r_83 trip_k0_t2.sl.r_84 trip_k0_t2.sl.r_85 trip_k0_t2.sl.r_86 trip_k0_t2.sl.r_79 trip_k0_t2.sl.r_51 trip_k0_t2.sl.r_57 trip_k0_t2.sl.r_58 trip_k0_t2.sl.r_59 trip_k0_t2.sl.r_60 trip_k0_t2.sl.r_61 trip_k0_t2.sl.r_62 trip_k0_t2.sl.r_21 trip_k0_t2.sl.r_22 trip_k0_t2.sl.r_24 trip_k0_t2.sl.r_25 trip_k0_t2.sl.r_26 trip_k0_t2.sl.r_27 trip_k0_t2.sl.r_28 trip_k0_t2.sl.r_29 trip_k0_t2.sl.r_7 trip_k0_t2.sl.r_8 trip_k0_t2.sl.r_9 trip_k0_t2.sl.r_10 trip_k0_t2.sl.r_2 trip_k0_t2.sl.r_12 trip_k0_t2.sl.r_157 trip_k0_t2.sl.r_162 trip_k0_t2.sl.r_163 trip_k0_t2.sl.r_164 trip_k0_t2.sl.r_165 trip_k0_t2.sl.r_166 trip_k0_t2.sl.r_124 trip_k0_t2.sl.r_123 trip_k0_t2.sl.r_122 trip_k0_t2.sl.r_111 trip_k0_t2.sl.r_112 trip_k0_t2.sl.r_113 trip_k0_t2.sl.r_107 trip_k0_t2.sl.r_91 trip_k0_t2.sl.r_92 trip_k0_t2.sl.r_93 trip_k0_t2.sl.r_94 trip_k0_t2.sl.r_101 trip_k0_t2.sl.r_102 trip_k0_t2.sl.r_90 trip_k0_t2.sl.r_80 trip_k0_t2.sl.r_81 trip_k0_t2.sl.r_82 trip_k0_t2.sl.r_72 trip_k0_t2.sl.r_73 trip_k0_t2.sl.r_74 trip_k0_t2.sl.r_75 trip_k0_t2.sl.r_76 trip_k0_t2.sl.r_77 trip_k0_t2.sl.r_78 trip_k0_t2.sl.r_44 trip_k0_t2.sl.r_45 trip_k0_t2.sl.r_46 trip_k0_t2.sl.r_47 trip_k0_t2.sl.r_48 trip_k0_t2.sl.r_49 trip_k0_t2.sl.r_50 trip_k0_t2.sl.r_52 trip_k0_t2.sl.r_53 trip_k0_t2.sl.r_54 trip_k0_t2.sl.r_55 trip_k0_t2.sl.r_56 trip_k0_t2.sl.r_19 trip_k0_t2.sl.r_20 trip_k0_t2.sl.r_16 trip_k0_t2.sl.r_4 trip_k0_t2.sl.r_5 trip_k0_t2.sl.r_6 trip_k0_t2.sl.r_3 trip_k0_t2.sl.r_150 trip_k0_t2.sl.r_151 trip_k0_t2.sl.r_152 trip_k0_t2.sl.r_153 trip_k0_t2.sl.r_154 trip_k0_t2.sl.r_155 trip_k0_t2.sl.r_156 trip_k0_t2.sl.r_158 trip_k0_t2.sl.r_159 trip_k0_t2.sl.r_160 trip_k0_t2.sl.r_161 trip_k0_t2.sl.r_109 trip_k0_t2.sl.r_110 trip_k0_t2.sl.r_108 trip_k0_t2.sl.r_89 trip_k0_t2.sl.r_64 trip_k0_t2.sl.r_66 trip_k0_t2.sl.r_67 trip_k0_t2.sl.r_68 trip_k0_t2.sl.r_69 trip_k0_t2.sl.r_70 trip_k0_t2.sl.r_71 trip_k0_t2.sl.r_65 trip_k0_t2.sl.r_39 trip_k0_t2.sl.r_40 trip_k0_t2.sl.r_41 trip_k0_t2.sl.r_42 trip_k0_t2.sl.r_43 trip_k0_t2.sl.r_38 trip_k0_t2.sl.r_18 trip_k0_t2.sl.r_17 trip_k0_t2.sl.r_144 trip_k0_t2.sl.r_145 trip_k0_t2.sl.r_146 trip_k0_t2.sl.r_147 trip_k0_t2.sl.r_148 trip_k0_t2.sl.r_149 trip_k0_t2.sl.r_143 trip_k0_t2.sl.r_142 trip_k0_t2.sl.r_37 trip_k0_t2.sl.cst_116 trip_k0_t2.sl.cst_294 trip_k0_t2.sl.cst_404 trip_k0_t2.sl.cst_580
    unfold trip_k0_t2.sl.r trip_k0_t2.sl.r_1
    have hs0_0 : ∀ t : Fin 256, (View.readAt (Elt Ideal) arg17.view (Rect.unit (s := S256x256) (k0_off9 k 0#32) S1x256.size (k0_off9_inb i k h4 ⟨0, by decide⟩)).toLoadRect X17) (ix2 0 t) = scl2 arg17 X17 k ⟨0, by decide⟩ t := fun t => scl_even i arg17 h4 X17 k ⟨0, by decide⟩ t
    generalize View.readAt (Elt Ideal) arg17.view (Rect.unit (s := S256x256) (k0_off9 k 0#32) S1x256.size (k0_off9_inb i k h4 ⟨0, by decide⟩)).toLoadRect X17 = s0_0 at hs0_0 ⊢
    have hs1_0 : ∀ t : Fin 256, (View.readAt (Elt Ideal) arg17.view (Rect.unit (s := S256x256) (k0_off10 k 0#32) S1x256.size (k0_off10_inb i k h4 ⟨0, by decide⟩)).toLoadRect X17) (ix2 0 t) = scl2 arg17 X17 k ⟨1, by decide⟩ t := fun t => scl_odd i arg17 h4 X17 k ⟨0, by decide⟩ t
    generalize View.readAt (Elt Ideal) arg17.view (Rect.unit (s := S256x256) (k0_off10 k 0#32) S1x256.size (k0_off10_inb i k h4 ⟨0, by decide⟩)).toLoadRect X17 = s1_0 at hs1_0 ⊢
    have hs0_1 : ∀ t : Fin 256, (View.readAt (Elt Ideal) arg17.view (Rect.unit (s := S256x256) (k0_off9 k 2#32) S1x256.size (k0_off9_inb i k h4 ⟨1, by decide⟩)).toLoadRect X17) (ix2 0 t) = scl2 arg17 X17 k ⟨2, by decide⟩ t := fun t => scl_even i arg17 h4 X17 k ⟨1, by decide⟩ t
    generalize View.readAt (Elt Ideal) arg17.view (Rect.unit (s := S256x256) (k0_off9 k 2#32) S1x256.size (k0_off9_inb i k h4 ⟨1, by decide⟩)).toLoadRect X17 = s0_1 at hs0_1 ⊢
    have hs1_1 : ∀ t : Fin 256, (View.readAt (Elt Ideal) arg17.view (Rect.unit (s := S256x256) (k0_off10 k 2#32) S1x256.size (k0_off10_inb i k h4 ⟨1, by decide⟩)).toLoadRect X17) (ix2 0 t) = scl2 arg17 X17 k ⟨3, by decide⟩ t := fun t => scl_odd i arg17 h4 X17 k ⟨1, by decide⟩ t
    generalize View.readAt (Elt Ideal) arg17.view (Rect.unit (s := S256x256) (k0_off10 k 2#32) S1x256.size (k0_off10_inb i k h4 ⟨1, by decide⟩)).toLoadRect X17 = s1_1 at hs1_1 ⊢
    have hs0_2 : ∀ t : Fin 256, (View.readAt (Elt Ideal) arg17.view (Rect.unit (s := S256x256) (k0_off9 k 4#32) S1x256.size (k0_off9_inb i k h4 ⟨2, by decide⟩)).toLoadRect X17) (ix2 0 t) = scl2 arg17 X17 k ⟨4, by decide⟩ t := fun t => scl_even i arg17 h4 X17 k ⟨2, by decide⟩ t
    generalize View.readAt (Elt Ideal) arg17.view (Rect.unit (s := S256x256) (k0_off9 k 4#32) S1x256.size (k0_off9_inb i k h4 ⟨2, by decide⟩)).toLoadRect X17 = s0_2 at hs0_2 ⊢
    have hs1_2 : ∀ t : Fin 256, (View.readAt (Elt Ideal) arg17.view (Rect.unit (s := S256x256) (k0_off10 k 4#32) S1x256.size (k0_off10_inb i k h4 ⟨2, by decide⟩)).toLoadRect X17) (ix2 0 t) = scl2 arg17 X17 k ⟨5, by decide⟩ t := fun t => scl_odd i arg17 h4 X17 k ⟨2, by decide⟩ t
    generalize View.readAt (Elt Ideal) arg17.view (Rect.unit (s := S256x256) (k0_off10 k 4#32) S1x256.size (k0_off10_inb i k h4 ⟨2, by decide⟩)).toLoadRect X17 = s1_2 at hs1_2 ⊢
    have hs0_3 : ∀ t : Fin 256, (View.readAt (Elt Ideal) arg17.view (Rect.unit (s := S256x256) (k0_off9 k 6#32) S1x256.size (k0_off9_inb i k h4 ⟨3, by decide⟩)).toLoadRect X17) (ix2 0 t) = scl2 arg17 X17 k ⟨6, by decide⟩ t := fun t => scl_even i arg17 h4 X17 k ⟨3, by decide⟩ t
    generalize View.readAt (Elt Ideal) arg17.view (Rect.unit (s := S256x256) (k0_off9 k 6#32) S1x256.size (k0_off9_inb i k h4 ⟨3, by decide⟩)).toLoadRect X17 = s0_3 at hs0_3 ⊢
    have hs1_3 : ∀ t : Fin 256, (View.readAt (Elt Ideal) arg17.view (Rect.unit (s := S256x256) (k0_off10 k 6#32) S1x256.size (k0_off10_inb i k h4 ⟨3, by decide⟩)).toLoadRect X17) (ix2 0 t) = scl2 arg17 X17 k ⟨7, by decide⟩ t := fun t => scl_odd i arg17 h4 X17 k ⟨3, by decide⟩ t
    generalize View.readAt (Elt Ideal) arg17.view (Rect.unit (s := S256x256) (k0_off10 k 6#32) S1x256.size (k0_off10_inb i k h4 ⟨3, by decide⟩)).toLoadRect X17 = s1_3 at hs1_3 ⊢
    have hs0_4 : ∀ t : Fin 256, (View.readAt (Elt Ideal) arg17.view (Rect.unit (s := S256x256) (k0_off9 k 8#32) S1x256.size (k0_off9_inb i k h4 ⟨4, by decide⟩)).toLoadRect X17) (ix2 0 t) = scl2 arg17 X17 k ⟨8, by decide⟩ t := fun t => scl_even i arg17 h4 X17 k ⟨4, by decide⟩ t
    generalize View.readAt (Elt Ideal) arg17.view (Rect.unit (s := S256x256) (k0_off9 k 8#32) S1x256.size (k0_off9_inb i k h4 ⟨4, by decide⟩)).toLoadRect X17 = s0_4 at hs0_4 ⊢
    have hs1_4 : ∀ t : Fin 256, (View.readAt (Elt Ideal) arg17.view (Rect.unit (s := S256x256) (k0_off10 k 8#32) S1x256.size (k0_off10_inb i k h4 ⟨4, by decide⟩)).toLoadRect X17) (ix2 0 t) = scl2 arg17 X17 k ⟨9, by decide⟩ t := fun t => scl_odd i arg17 h4 X17 k ⟨4, by decide⟩ t
    generalize View.readAt (Elt Ideal) arg17.view (Rect.unit (s := S256x256) (k0_off10 k 8#32) S1x256.size (k0_off10_inb i k h4 ⟨4, by decide⟩)).toLoadRect X17 = s1_4 at hs1_4 ⊢
    have hs0_5 : ∀ t : Fin 256, (View.readAt (Elt Ideal) arg17.view (Rect.unit (s := S256x256) (k0_off9 k 10#32) S1x256.size (k0_off9_inb i k h4 ⟨5, by decide⟩)).toLoadRect X17) (ix2 0 t) = scl2 arg17 X17 k ⟨10, by decide⟩ t := fun t => scl_even i arg17 h4 X17 k ⟨5, by decide⟩ t
    generalize View.readAt (Elt Ideal) arg17.view (Rect.unit (s := S256x256) (k0_off9 k 10#32) S1x256.size (k0_off9_inb i k h4 ⟨5, by decide⟩)).toLoadRect X17 = s0_5 at hs0_5 ⊢
    have hs1_5 : ∀ t : Fin 256, (View.readAt (Elt Ideal) arg17.view (Rect.unit (s := S256x256) (k0_off10 k 10#32) S1x256.size (k0_off10_inb i k h4 ⟨5, by decide⟩)).toLoadRect X17) (ix2 0 t) = scl2 arg17 X17 k ⟨11, by decide⟩ t := fun t => scl_odd i arg17 h4 X17 k ⟨5, by decide⟩ t
    generalize View.readAt (Elt Ideal) arg17.view (Rect.unit (s := S256x256) (k0_off10 k 10#32) S1x256.size (k0_off10_inb i k h4 ⟨5, by decide⟩)).toLoadRect X17 = s1_5 at hs1_5 ⊢
    have hs0_6 : ∀ t : Fin 256, (View.readAt (Elt Ideal) arg17.view (Rect.unit (s := S256x256) (k0_off9 k 12#32) S1x256.size (k0_off9_inb i k h4 ⟨6, by decide⟩)).toLoadRect X17) (ix2 0 t) = scl2 arg17 X17 k ⟨12, by decide⟩ t := fun t => scl_even i arg17 h4 X17 k ⟨6, by decide⟩ t
    generalize View.readAt (Elt Ideal) arg17.view (Rect.unit (s := S256x256) (k0_off9 k 12#32) S1x256.size (k0_off9_inb i k h4 ⟨6, by decide⟩)).toLoadRect X17 = s0_6 at hs0_6 ⊢
    have hs1_6 : ∀ t : Fin 256, (View.readAt (Elt Ideal) arg17.view (Rect.unit (s := S256x256) (k0_off10 k 12#32) S1x256.size (k0_off10_inb i k h4 ⟨6, by decide⟩)).toLoadRect X17) (ix2 0 t) = scl2 arg17 X17 k ⟨13, by decide⟩ t := fun t => scl_odd i arg17 h4 X17 k ⟨6, by decide⟩ t
    generalize View.readAt (Elt Ideal) arg17.view (Rect.unit (s := S256x256) (k0_off10 k 12#32) S1x256.size (k0_off10_inb i k h4 ⟨6, by decide⟩)).toLoadRect X17 = s1_6 at hs1_6 ⊢
    have hs0_7 : ∀ t : Fin 256, (View.readAt (Elt Ideal) arg17.view (Rect.unit (s := S256x256) (k0_off9 k 14#32) S1x256.size (k0_off9_inb i k h4 ⟨7, by decide⟩)).toLoadRect X17) (ix2 0 t) = scl2 arg17 X17 k ⟨14, by decide⟩ t := fun t => scl_even i arg17 h4 X17 k ⟨7, by decide⟩ t
    generalize View.readAt (Elt Ideal) arg17.view (Rect.unit (s := S256x256) (k0_off9 k 14#32) S1x256.size (k0_off9_inb i k h4 ⟨7, by decide⟩)).toLoadRect X17 = s0_7 at hs0_7 ⊢
    have hs1_7 : ∀ t : Fin 256, (View.readAt (Elt Ideal) arg17.view (Rect.unit (s := S256x256) (k0_off10 k 14#32) S1x256.size (k0_off10_inb i k h4 ⟨7, by decide⟩)).toLoadRect X17) (ix2 0 t) = scl2 arg17 X17 k ⟨15, by decide⟩ t := fun t => scl_odd i arg17 h4 X17 k ⟨7, by decide⟩ t
    generalize View.readAt (Elt Ideal) arg17.view (Rect.unit (s := S256x256) (k0_off10 k 14#32) S1x256.size (k0_off10_inb i k h4 ⟨7, by decide⟩)).toLoadRect X17 = s1_7 at hs1_7 ⊢
    generalize scl2 arg17 X17 k = s at *
    generalize View.readAt (Elt Ideal) arg10.view (Rect.unit ![0, 0] S256x256.size inb_S256x256_S256x256_0_0).toLoadRect X10 = a
    generalize View.readAt (Elt Ideal) arg4.view (Rect.unit (s := S256x4096) (k0_off8 k) S256x256.size (k0_off8_inb i k h4)).toLoadRect X4 = b
    generalize View.readAt (Elt Ideal) arg11.view (Rect.unit ![0, 0] S256x256.size inb_S256x256_S256x256_0_0).toLoadRect X11 = a'
    generalize View.readAt (Elt Ideal) arg5.view (Rect.unit (s := S256x4096) (k0_off8 k) S256x256.size (k0_off8_inb i k h4)).toLoadRect X5 = b'
    unfold k0_pay127 k0_pay126 k0_pay125
    dsimp only
    generalize k0_pay122 a b = r
    generalize k0_pay123 a' b' = p
    refine List.forall_mem_cons.2 ⟨fun x => field_piece r p s 7 224 232 240 248 rfl rfl rfl rfl (by decide) slices_S256x256_o224_0_S8x256 slices_S256x256_o232_0_S8x256 slices_S256x256_o240_0_S8x256 slices_S256x256_o248_0_S8x256 s0_7 s1_7 hs0_7 hs1_7 x _ (fun a => rfl), ?_⟩
    refine List.forall_mem_cons.2 ⟨fun x => field_piece r p s 6 192 200 208 216 rfl rfl rfl rfl (by decide) slices_S256x256_o192_0_S8x256 slices_S256x256_o200_0_S8x256 slices_S256x256_o208_0_S8x256 slices_S256x256_o216_0_S8x256 s0_6 s1_6 hs0_6 hs1_6 x _ (fun a => rfl), ?_⟩
    refine List.forall_mem_cons.2 ⟨fun x => field_piece r p s 5 160 168 176 184 rfl rfl rfl rfl (by decide) slices_S256x256_o160_0_S8x256 slices_S256x256_o168_0_S8x256 slices_S256x256_o176_0_S8x256 slices_S256x256_o184_0_S8x256 s0_5 s1_5 hs0_5 hs1_5 x _ (fun a => rfl), ?_⟩
    refine List.forall_mem_cons.2 ⟨fun x => field_piece r p s 4 128 136 144 152 rfl rfl rfl rfl (by decide) slices_S256x256_o128_0_S8x256 slices_S256x256_o136_0_S8x256 slices_S256x256_o144_0_S8x256 slices_S256x256_o152_0_S8x256 s0_4 s1_4 hs0_4 hs1_4 x _ (fun a => rfl), ?_⟩
    refine List.forall_mem_cons.2 ⟨fun x => field_piece r p s 3 96 104 112 120 rfl rfl rfl rfl (by decide) slices_S256x256_o96_0_S8x256 slices_S256x256_o104_0_S8x256 slices_S256x256_o112_0_S8x256 slices_S256x256_o120_0_S8x256 s0_3 s1_3 hs0_3 hs1_3 x _ (fun a => rfl), ?_⟩
    refine List.forall_mem_cons.2 ⟨fun x => field_piece r p s 2 64 72 80 88 rfl rfl rfl rfl (by decide) slices_S256x256_o64_0_S8x256 slices_S256x256_o72_0_S8x256 slices_S256x256_o80_0_S8x256 slices_S256x256_o88_0_S8x256 s0_2 s1_2 hs0_2 hs1_2 x _ (fun a => rfl), ?_⟩
    refine List.forall_mem_cons.2 ⟨fun x => field_piece r p s 1 32 40 48 56 rfl rfl rfl rfl (by decide) slices_S256x256_o32_0_S8x256 slices_S256x256_o40_0_S8x256 slices_S256x256_o48_0_S8x256 slices_S256x256_o56_0_S8x256 s0_1 s1_1 hs0_1 hs1_1 x _ (fun a => rfl), ?_⟩
    refine List.forall_mem_cons.2 ⟨fun x => field_piece r p s 0 0 8 16 24 rfl rfl rfl rfl (by decide) slices_S256x256_o0_0_S8x256 slices_S256x256_o8_0_S8x256 slices_S256x256_o16_0_S8x256 slices_S256x256_o24_0_S8x256 s0_0 s1_0 hs0_0 hs1_0 x _ (fun a => rfl), ?_⟩
    exact fun p hp => absurd hp List.not_mem_nil
  · exact View.cover_of_tiledL _ ![8, 256] (by unfold trip_k0_t2.sl.HW_arg16_8; rfl) y

end Cert.KernelIdeal.Hand
end
-- ==== Proof.Loop2.lean ====
module

public import proofs.«01_k».proof.Proof.FieldTrip
public import Idealize.ShloMosaic.Lib.WritesUnit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem step_lt (i : grid0.Coords) : 4 * (i 1).val + (i 2).val < 32 := by
  have h1 : (i 1).val < 8 := (i 1).isLt
  have h2 : (i 2).val < 4 := (i 2).isLt
  omega

theorem col_lt (k : Fin k0_t2_loop.trips) (b : Fin 128) : 128 * k.val + b.val < 2048 := by
  have hk : k.val < 16 := lt_of_lt_of_eq k.isLt trips2
  omega

/-- Four packed bytes from four field bytes and four sign bytes. -/
def codeWord (fb sg : BitVec 32) : BitVec 32 := (fb - 286331153#32) ||| ((fb + 1717986918#32) &&& sg)

/-- One stored byte of the codes, tokens 0..127. -/
theorem code_lo (i : grid0.Coords) (arg4 : Memref sig .tc .vmem S256x4096 .bf16) (arg5 : Memref sig .tc .vmem S256x4096 .i8) (arg10 : Memref sig .tc .vmem S256x256 .bf16) (arg11 : Memref sig .tc .vmem S256x256 .bf16) (arg13 : Memref sig .tc .vmem S32x64x2048 .i32) (arg16 : Memref sig .tc .vmem S64x256 .i32) (arg17 : Memref sig .tc .vmem S256x256 .f32) (h4 : k0_cond4 i = 1#1) (X4 : BufTy.Contents (Elt Ideal) arg4.view.ty) (X5 : BufTy.Contents (Elt Ideal) arg5.view.ty) (X10 : BufTy.Contents (Elt Ideal) arg10.view.ty) (X11 : BufTy.Contents (Elt Ideal) arg11.view.ty) (X13 : BufTy.Contents (Elt Ideal) arg13.view.ty) (X17 : BufTy.Contents (Elt Ideal) arg17.view.ty) (k : Fin k0_t2_loop.trips) (p' b : Fin 128) :
    trip_k0_t2.sl.v1991 (F := Ideal) i arg4 arg5 arg10 arg11 arg13 arg16 arg17 h4 X4 X5 X10 X11 X13 X17 k (ix2 p' b)
      = (codeWord (tposeWord (fieldT (tile2 i arg4 arg10 h4 X4 X10 k) (rnd2 i arg5 arg11 h4 X5 X11 k) (scl2 arg17 X17 k)) ⟨p'.val / 4, by omega⟩ b)
          (arg13.view.read (Elt Ideal) X13 (ix3 (⟨4 * (i 1).val + (i 2).val, step_lt i⟩ : Fin 32) (⟨p'.val / 4, by omega⟩ : Fin 64) (⟨128 * k.val + b.val, col_lt k b⟩ : Fin 2048)))).extractLsb' (8 * (p'.val % 4)) 8 := by
  unfold trip_k0_t2.sl.v1991 trip_k0_t2.sl.v1990
  rw [bc_32_8]
  refine congrArg (BitVec.extractLsb' _ _) ?_
  refine congrArg₂ codeWord ?_ ?_
  · unfold trip_k0_t2.sl.v1980 trip_k0_t2.sl.v1979 trip_k0_t2.sl.v1978 trip_k0_t2.sl.v1977
    rw [tpose_apply]
    unfold trip_k0_t2.sl.v1976
    rw [View.readCov_eq_canon']
    unfold tposeWord
    refine congrArg word4 (funext fun q => ?_)
    simp only [HW16b_apply]
    generalize tile2 i arg4 arg10 h4 X4 X10 k = g
    generalize rnd2 i arg5 arg11 h4 X5 X11 k = p
    generalize scl2 arg17 X17 k = s
    exact congrArg (fun y => BitVec.extractLsb' (16 * (b.val % 2)) 8 (fieldT g p s y)) (funext fun a => by
      match a with
      | ⟨0, _⟩ => exact Fin.ext (by show 0 + 1 * (b.val / 2) = b.val / 2; omega)
      | ⟨1, _⟩ => exact Fin.ext (by show 0 + 1 * (4 * (p'.val / 4) + q.val) = 4 * (p'.val / 4) + q.val; omega))
  · unfold trip_k0_t2.sl.v1984
    pointwise
    show arg13.view.read (Elt Ideal) X13 _ = arg13.view.read (Elt Ideal) X13 _
    congr 1
    have e := k0_off11_eq i k
    funext a
    match a with
    | ⟨0, _⟩ => exact Fin.ext (by show k0_off11 i k 0 + 1 * 0 = _; rw [e]; rfl)
    | ⟨1, _⟩ => exact Fin.ext (by show k0_off11 i k 1 + 1 * (p'.val / 4) = _; rw [e]; show 0 + 1 * (p'.val / 4) = p'.val / 4; omega)
    | ⟨2, _⟩ => exact Fin.ext (by show k0_off11 i k 2 + 1 * b.val = _; rw [e]; show 128 * k.val + 1 * b.val = 128 * k.val + b.val; omega)

/-- One stored byte of the codes, tokens 128..255. -/
theorem code_hi (i : grid0.Coords) (arg4 : Memref sig .tc .vmem S256x4096 .bf16) (arg5 : Memref sig .tc .vmem S256x4096 .i8) (arg10 : Memref sig .tc .vmem S256x256 .bf16) (arg11 : Memref sig .tc .vmem S256x256 .bf16) (arg13 : Memref sig .tc .vmem S32x64x2048 .i32) (arg16 : Memref sig .tc .vmem S64x256 .i32) (arg17 : Memref sig .tc .vmem S256x256 .f32) (h4 : k0_cond4 i = 1#1) (X4 : BufTy.Contents (Elt Ideal) arg4.view.ty) (X5 : BufTy.Contents (Elt Ideal) arg5.view.ty) (X10 : BufTy.Contents (Elt Ideal) arg10.view.ty) (X11 : BufTy.Contents (Elt Ideal) arg11.view.ty) (X13 : BufTy.Contents (Elt Ideal) arg13.view.ty) (X17 : BufTy.Contents (Elt Ideal) arg17.view.ty) (k : Fin k0_t2_loop.trips) (p' b : Fin 128) :
    trip_k0_t2.sl.v2009 (F := Ideal) i arg4 arg5 arg10 arg11 arg13 arg16 arg17 h4 X4 X5 X10 X11 X13 X17 k (ix2 p' b)
      = (codeWord (tposeWord (fieldT (tile2 i arg4 arg10 h4 X4 X10 k) (rnd2 i arg5 arg11 h4 X5 X11 k) (scl2 arg17 X17 k)) ⟨32 + p'.val / 4, by omega⟩ b)
          (arg13.view.read (Elt Ideal) X13 (ix3 (⟨4 * (i 1).val + (i 2).val, step_lt i⟩ : Fin 32) (⟨32 + p'.val / 4, by omega⟩ : Fin 64) (⟨128 * k.val + b.val, col_lt k b⟩ : Fin 2048)))).extractLsb' (8 * (p'.val % 4)) 8 := by
  unfold trip_k0_t2.sl.v2009 trip_k0_t2.sl.v2008
  rw [bc_32_8]
  refine congrArg (BitVec.extractLsb' _ _) ?_
  refine congrArg₂ codeWord ?_ ?_
  · unfold trip_k0_t2.sl.v1998 trip_k0_t2.sl.v1997 trip_k0_t2.sl.v1996 trip_k0_t2.sl.v1995
    rw [tpose_apply]
    unfold trip_k0_t2.sl.v1994
    rw [View.readCov_eq_canon']
    unfold tposeWord
    refine congrArg word4 (funext fun q => ?_)
    simp only [HW16b_apply]
    generalize tile2 i arg4 arg10 h4 X4 X10 k = g
    generalize rnd2 i arg5 arg11 h4 X5 X11 k = p
    generalize scl2 arg17 X17 k = s
    exact congrArg (fun y => BitVec.extractLsb' (16 * (b.val % 2)) 8 (fieldT g p s y)) (funext fun a => by
      match a with
      | ⟨0, _⟩ => exact Fin.ext (by show 0 + 1 * (b.val / 2) = b.val / 2; omega)
      | ⟨1, _⟩ => exact Fin.ext (by show 128 + 1 * (4 * (p'.val / 4) + q.val) = 4 * (32 + p'.val / 4) + q.val; omega))
  · unfold trip_k0_t2.sl.v2002
    pointwise
    show arg13.view.read (Elt Ideal) X13 _ = arg13.view.read (Elt Ideal) X13 _
    congr 1
    have e := k0_off13_eq i k
    funext a
    match a with
    | ⟨0, _⟩ => exact Fin.ext (by show k0_off13 i k 0 + 1 * 0 = _; rw [e]; rfl)
    | ⟨1, _⟩ => exact Fin.ext (by show k0_off13 i k 1 + 1 * (p'.val / 4) = _; rw [e]; show 32 + 1 * (p'.val / 4) = 32 + p'.val / 4; omega)
    | ⟨2, _⟩ => exact Fin.ext (by show k0_off13 i k 2 + 1 * b.val = _; rw [e]; show 128 * k.val + 1 * b.val = 128 * k.val + b.val; omega)

variable (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (v1 : BitVec 32) (h4 : k0_cond4 i = 1#1) (X4 : BufTy.Contents (Elt Ideal) arg4.view.ty) (X5 : BufTy.Contents (Elt Ideal) arg5.view.ty) (X10 : BufTy.Contents (Elt Ideal) arg10.view.ty) (X11 : BufTy.Contents (Elt Ideal) arg11.view.ty) (X13 : BufTy.Contents (Elt Ideal) arg13.view.ty) (X17 : BufTy.Contents (Elt Ideal) arg17.view.ty)

/-- What one trip writes to the codes: the trip's 128 columns. -/
theorem trip7 (k : Fin k0_t2_loop.trips) (f7 : BufTy.Contents (Elt Ideal) arg7.view.ty) (f16 : BufTy.Contents (Elt Ideal) arg16.view.ty) (G : BufTy.Contents (Elt Ideal) arg7.view.ty) (tok : Fin 256) (b : Fin 2048) :
    arg7.view.read (Elt Ideal) (arg7.view.writes (Elt Ideal) G ((trip_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h4 X4 X5 X10 X11 X13 X17 k).1 f7 f16)) (ix2 tok b)
      = if b.val / 128 = k.val then (codeWord (tposeWord (fieldT (tile2 i arg4 arg10 h4 X4 X10 k) (rnd2 i arg5 arg11 h4 X5 X11 k) (scl2 arg17 X17 k)) ⟨tok.val / 4, by omega⟩ ⟨b.val % 128, by omega⟩) (arg13.view.read (Elt Ideal) X13 (ix3 (⟨4 * (i 1).val + (i 2).val, step_lt i⟩ : Fin 32) (⟨tok.val / 4, by omega⟩ : Fin 64) b))).extractLsb' (8 * (tok.val % 4)) 8
        else arg7.view.read (Elt Ideal) G (ix2 tok b) := by
  unfold trip_k0_t2
  dsimp only
  by_cases hc : b.val / 128 = k.val
  · rw [if_pos hc]
    by_cases ht : tok.val < 128
    · rw [View.read_writes_cons_unit_of_not_mem _ _ _ _ _ _ (k0_off14_eq k) 0 (Or.inl (by show tok.val < 128; exact ht))]
      rw [View.read_writes_cons_unit_of_mem _ _ _ _ _ _ (ix2 (⟨tok.val, ht⟩ : Fin 128) (⟨b.val % 128, by omega⟩ : Fin 128)) (k0_off12_eq k) (by
        intro a'; match a' with
        | ⟨0, _⟩ => show tok.val = 0 + tok.val; omega
        | ⟨1, _⟩ => show b.val = 128 * k.val + b.val % 128; omega)]
      refine (code_lo i arg4 arg5 arg10 arg11 arg13 arg16 arg17 h4 X4 X5 X10 X11 X13 X17 k ⟨tok.val, ht⟩ ⟨b.val % 128, by omega⟩).trans ?_
      have e : (⟨128 * k.val + b.val % 128, col_lt k ⟨b.val % 128, by omega⟩⟩ : Fin 2048) = b := Fin.ext (by show 128 * k.val + b.val % 128 = b.val; omega)
      exact congrArg (fun z => (codeWord _ (arg13.view.read (Elt Ideal) X13 (ix3 _ _ z))).extractLsb' _ 8) e
    · rw [View.read_writes_cons_unit_of_mem _ _ _ _ _ _ (ix2 (⟨tok.val - 128, by omega⟩ : Fin 128) (⟨b.val % 128, by omega⟩ : Fin 128)) (k0_off14_eq k) (by
        intro a'; match a' with
        | ⟨0, _⟩ => show tok.val = 128 + (tok.val - 128); omega
        | ⟨1, _⟩ => show b.val = 128 * k.val + b.val % 128; omega)]
      refine (code_hi i arg4 arg5 arg10 arg11 arg13 arg16 arg17 h4 X4 X5 X10 X11 X13 X17 k ⟨tok.val - 128, by omega⟩ ⟨b.val % 128, by omega⟩).trans ?_
      have e : (⟨128 * k.val + b.val % 128, col_lt k ⟨b.val % 128, by omega⟩⟩ : Fin 2048) = b := Fin.ext (by show 128 * k.val + b.val % 128 = b.val; omega)
      have e1 : (⟨32 + (tok.val - 128) / 4, by omega⟩ : Fin 64) = ⟨tok.val / 4, by omega⟩ := Fin.ext (by simp only; omega)
      have e2 : (tok.val - 128) % 4 = tok.val % 4 := by omega
      simp only [e, e1, e2]
  · rw [if_neg hc]
    have h1 : b.val < 128 * k.val ∨ 128 * k.val + 128 ≤ b.val := by omega
    rw [View.read_writes_cons_unit_of_not_mem _ _ _ _ _ _ (k0_off14_eq k) 1 h1, View.read_writes_cons_unit_of_not_mem _ _ _ _ _ _ (k0_off12_eq k) 1 h1]
    rfl

/-- The codes after `K` trips. -/
theorem loop7 (f7 : BufTy.Contents (Elt Ideal) arg7.view.ty) (f16 : BufTy.Contents (Elt Ideal) arg16.view.ty) (K : ℕ) (hK : K ≤ 16) (tok : Fin 256) (b : Fin 2048) :
    arg7.view.read (Elt Ideal) (arg7.view.writes (Elt Ideal) f7 (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h4 X4 X5 X10 X11 X13 X17 f7 f16 K).1) (ix2 tok b)
      = if b.val / 128 < K then (codeWord (tposeWord (fieldT (tile2 i arg4 arg10 h4 X4 X10 ⟨b.val / 128, by rw [trips2]; omega⟩) (rnd2 i arg5 arg11 h4 X5 X11 ⟨b.val / 128, by rw [trips2]; omega⟩) (scl2 arg17 X17 ⟨b.val / 128, by rw [trips2]; omega⟩)) ⟨tok.val / 4, by omega⟩ ⟨b.val % 128, by omega⟩) (arg13.view.read (Elt Ideal) X13 (ix3 (⟨4 * (i 1).val + (i 2).val, step_lt i⟩ : Fin 32) (⟨tok.val / 4, by omega⟩ : Fin 64) b))).extractLsb' (8 * (tok.val % 4)) 8
        else arg7.view.read (Elt Ideal) f7 (ix2 tok b) := by
  induction K with
  | zero => rw [if_neg (by omega)]; rfl
  | succ K ih =>
    rw [pb_k0_t2_succ (k := ⟨K, by rw [trips2]; omega⟩)]
    dsimp only
    rw [View.writes_append]
    refine (trip7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h4 X4 X5 X10 X11 X13 X17 ⟨K, by rw [trips2]; omega⟩ _ _ _ tok b).trans ?_
    by_cases h : b.val / 128 = K
    · rw [if_pos h, if_pos (by omega)]
      subst h
      rfl
    · rw [if_neg h, ih (by omega)]
      by_cases h' : b.val / 128 < K
      · rw [if_pos h', if_pos (by omega)]
      · rw [if_neg h', if_neg (by omega)]

end Cert.KernelIdeal.Hand
end
-- ==== Proof.Consts.lean ====
module

public import Idealize.ShloMosaic.Lib.Pointwise
public import Idealize.ShloMosaic.PureOps.Ideal

@[expose] public section

set_option maxRecDepth 16384
set_option maxHeartbeats 1000000

noncomputable section

namespace Cert.Consts

open Idealize.ShloMosaic

/-- The reals that the programs' constant words denote. -/
theorem negInf : Ideal.ofBits FTy.f32 4286578688#32 = ⊥ := by
  simp [Ideal.ofBits, Ideal.ieee]
theorem c_half : Ideal.ofBits FTy.f32 0x3F000000#32 = ((1 / 2 : ℝ) : EReal) := by
  simp [Ideal.ofBits, Ideal.ieee, -EReal.coe_mul]; norm_num
theorem c_two : Ideal.ofBits FTy.f32 0x40000000#32 = ((2 : ℝ) : EReal) := by
  simp [Ideal.ofBits, Ideal.ieee, -EReal.coe_mul]; norm_num
theorem c_four : Ideal.ofBits FTy.f32 0x40800000#32 = ((4 : ℝ) : EReal) := by
  simp [Ideal.ofBits, Ideal.ieee, -EReal.coe_mul]; norm_num
theorem c_six : Ideal.ofBits FTy.f32 0x40C00000#32 = ((6 : ℝ) : EReal) := by
  simp [Ideal.ofBits, Ideal.ieee, -EReal.coe_mul]; norm_num
theorem c_negSix : Ideal.ofBits FTy.f32 0xC0C00000#32 = ((-6 : ℝ) : EReal) := by
  simp [Ideal.ofBits, Ideal.ieee, -EReal.coe_mul, -EReal.coe_neg]; norm_num
theorem c_eight : Ideal.ofBits FTy.f32 0x41000000#32 = ((8 : ℝ) : EReal) := by
  simp [Ideal.ofBits, Ideal.ieee, -EReal.coe_mul]; norm_num
theorem c_256 : Ideal.ofBits FTy.f32 0x43800000#32 = ((256 : ℝ) : EReal) := by
  simp [Ideal.ofBits, Ideal.ieee, -EReal.coe_mul]; norm_num
theorem c_2688 : Ideal.ofBits FTy.f32 1160249344#32 = ((2688 : ℝ) : EReal) := by
  simp [Ideal.ofBits, Ideal.ieee, -EReal.coe_mul]; norm_num
theorem c_e3 : Ideal.ofBits FTy.f32 0x49800000#32 = ((1048576 : ℝ) : EReal) := by
  simp [Ideal.ofBits, Ideal.ieee, -EReal.coe_mul]; norm_num
theorem c_e4 : Ideal.ofBits FTy.f32 0x49000000#32 = ((524288 : ℝ) : EReal) := by
  simp [Ideal.ofBits, Ideal.ieee, -EReal.coe_mul]; norm_num
theorem c_e5 : Ideal.ofBits FTy.f32 0x48800000#32 = ((262144 : ℝ) : EReal) := by
  simp [Ideal.ofBits, Ideal.ieee, -EReal.coe_mul]; norm_num
theorem c_e6 : Ideal.ofBits FTy.f32 0x48000000#32 = ((131072 : ℝ) : EReal) := by
  simp [Ideal.ofBits, Ideal.ieee, -EReal.coe_mul]; norm_num
theorem c_e7 : Ideal.ofBits FTy.f32 0x47800000#32 = ((65536 : ℝ) : EReal) := by
  simp [Ideal.ofBits, Ideal.ieee, -EReal.coe_mul]; norm_num
theorem c_base : Ideal.ofBits FTy.f32 0x4B7F5FFF#32 = ((16736255 : ℝ) : EReal) := by
  simp [Ideal.ofBits, Ideal.ieee, -EReal.coe_mul]
theorem c_negShift : Ideal.ofBits FTy.f32 3330277376#32 = ((-16384 : ℝ) : EReal) := by
  simp [Ideal.ofBits, Ideal.ieee, -EReal.coe_mul, -EReal.coe_neg]; norm_num

end Cert.Consts
end
-- ==== Proof.Blocks.lean ====
module

public import proofs.«01_k».proof.Proof.Loop1
public import proofs.«01_k».proof.Proof.Loop2
public import proofs.«01_k».proof.Proof.Consts

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A read of a unit-stride rectangle, entry by entry. -/
theorem readAt_unit_apply {sp : Space} {S : Shape} {e : EltTy} (M : Memref sig .tc sp S e) (off size : Fin S.rank → ℕ) (inb) (X : BufTy.Contents (Elt Ideal) M.view.ty)
    (off' : Fin S.rank → ℕ) (ho : off = off') (x) (y : S.Idx) (h : ∀ a, (y a).val = off' a + (x a).val) :
    View.readAt (Elt Ideal) M.view (Rect.unit (s := S) off size inb).toLoadRect X x = M.view.read (Elt Ideal) X y := by
  subst ho
  show M.view.read (Elt Ideal) X _ = _
  congr 1
  funext a
  exact Fin.ext (by show off a + 1 * (x a).val = (y a).val; rw [h]; omega)

/-- Tile `k` of a block of rows transformed: row `r` of `R` against channels `256 k ..` of token `t`. -/
def wTile (R : S256x256.Idx → EReal) (x : S256x4096.Idx → EReal) (k : Fin 16) : S256x256.Idx → EReal := fun y =>
  ∑ j : Fin 256, R (ix2 (y 0) j) * x (ix2 (y 1) (⟨256 * k.val + j.val, by omega⟩ : Fin 4096))

/-- Tile `k` of the random bytes under the scaling permutation `P`. -/
def pTile (P : S256x256.Idx → EReal) (rd : S256x4096.Idx → BitVec 8) (k : Fin 16) : S256x256.Idx → EReal := fun y =>
  ∑ j : Fin 256, P (ix2 (y 0) j) * FloatOps.uitofp (F := Ideal) .bf16 (rd (ix2 (y 1) (⟨256 * k.val + j.val, by omega⟩ : Fin 4096)))

/-- The first loop's tile from the blocks read. -/
theorem tile_eq (i : grid0.Coords) (arg4 : Memref sig .tc .vmem S256x4096 .bf16) (arg10 : Memref sig .tc .vmem S256x256 .bf16) (h2 : k0_cond2 i = 1#1) (X4 : BufTy.Contents (Elt Ideal) arg4.view.ty) (X10 : BufTy.Contents (Elt Ideal) arg10.view.ty) (k : Fin k0_t1_loop.trips) :
    tile i arg4 arg10 h2 X4 X10 k = wTile (arg10.view.read (Elt Ideal) X10) (arg4.view.read (Elt Ideal) X4) ⟨k.val, lt_of_lt_of_eq k.isLt trips1⟩ := by
  funext y
  unfold tile trip_k0_t1.sl.r wTile
  idx_vars y
  pointwise [k0_pay19]
  refine Finset.sum_congr rfl fun j _ => congrArg₂ (· * ·) ?_ ?_
  · exact readAt_unit_apply arg10 ![0, 0] _ _ X10 _ rfl _ _ (by intro a; match a with | ⟨0, _⟩ => show y0.val = 0 + y0.val; omega | ⟨1, _⟩ => show j.val = 0 + j.val; omega)
  · exact readAt_unit_apply arg4 (k0_off1 k) _ _ X4 _ (k0_off1_eq k) _ _ (by intro a; match a with | ⟨0, _⟩ => show y1.val = 0 + y1.val; omega | ⟨1, _⟩ => show 256 * k.val + j.val = 256 * k.val + j.val; rfl)

/-- The second loop's tile from the blocks read. -/
theorem tile2_eq (i : grid0.Coords) (arg4 : Memref sig .tc .vmem S256x4096 .bf16) (arg10 : Memref sig .tc .vmem S256x256 .bf16) (h4 : k0_cond4 i = 1#1) (X4 : BufTy.Contents (Elt Ideal) arg4.view.ty) (X10 : BufTy.Contents (Elt Ideal) arg10.view.ty) (k : Fin k0_t2_loop.trips) :
    tile2 i arg4 arg10 h4 X4 X10 k = wTile (arg10.view.read (Elt Ideal) X10) (arg4.view.read (Elt Ideal) X4) ⟨k.val, lt_of_lt_of_eq k.isLt trips2⟩ := by
  funext y
  unfold tile2 trip_k0_t2.sl.r wTile
  idx_vars y
  pointwise [k0_pay122]
  refine Finset.sum_congr rfl fun j _ => congrArg₂ (· * ·) ?_ ?_
  · exact readAt_unit_apply arg10 ![0, 0] _ _ X10 _ rfl _ _ (by intro a; match a with | ⟨0, _⟩ => show y0.val = 0 + y0.val; omega | ⟨1, _⟩ => show j.val = 0 + j.val; omega)
  · exact readAt_unit_apply arg4 (k0_off8 k) _ _ X4 _ (k0_off8_eq k) _ _ (by intro a; match a with | ⟨0, _⟩ => show y1.val = 0 + y1.val; omega | ⟨1, _⟩ => show 256 * k.val + j.val = 256 * k.val + j.val; rfl)

/-- The second loop's random rows from the blocks read. -/
theorem rnd2_eq (i : grid0.Coords) (arg5 : Memref sig .tc .vmem S256x4096 .i8) (arg11 : Memref sig .tc .vmem S256x256 .bf16) (h4 : k0_cond4 i = 1#1) (X5 : BufTy.Contents (Elt Ideal) arg5.view.ty) (X11 : BufTy.Contents (Elt Ideal) arg11.view.ty) (k : Fin k0_t2_loop.trips) :
    rnd2 i arg5 arg11 h4 X5 X11 k = pTile (arg11.view.read (Elt Ideal) X11) (arg5.view.read (Elt Ideal) X5) ⟨k.val, lt_of_lt_of_eq k.isLt trips2⟩ := by
  funext y
  unfold rnd2 trip_k0_t2.sl.r_1 pTile
  idx_vars y
  pointwise [k0_pay123]
  refine Finset.sum_congr rfl fun j _ => congrArg₂ (· * ·) ?_ (congrArg _ ?_)
  · exact readAt_unit_apply arg11 ![0, 0] _ _ X11 _ rfl _ _ (by intro a; match a with | ⟨0, _⟩ => show y0.val = 0 + y0.val; omega | ⟨1, _⟩ => show j.val = 0 + j.val; omega)
  · exact readAt_unit_apply arg5 (k0_off8 k) _ _ X5 _ (k0_off8_eq k) _ _ (by intro a; match a with | ⟨0, _⟩ => show y1.val = 0 + y1.val; omega | ⟨1, _⟩ => show 256 * k.val + j.val = 256 * k.val + j.val; rfl)

/-- The channel a row of the transform matrix reads: even channels of a block first, odd channels after. -/
def chan (a : Fin 256) : Fin 256 := ⟨16 * (a.val / 16) + 2 * (a.val % 8) + (a.val / 8) % 2, by omega⟩

theorem pay12_apply (a b : Fin 256) : k0_pay12 (ix2 a b) = BitVec.ofNat 32 (chan a).val := by
  pointwise [k0_pay12]
  revert a
  decide +kernel

/-- The parity of the common bits of two channels of a block. -/
def parW (m : BitVec 32) : BitVec 32 := (m ^^^ (m.sshiftRight 1) ^^^ (m.sshiftRight 2) ^^^ (m.sshiftRight 3)) &&& 1#32

theorem pay13_apply (a b : Fin 256) : k0_pay13 (ix2 a b) = parW (BitVec.ofNat 32 (chan a).val &&& BitVec.ofNat 32 b.val &&& 15#32) := by
  pointwise [k0_pay13]
  rw [pay12_apply]
  generalize BitVec.ofNat 32 (chan a).val = x
  generalize BitVec.ofNat 32 b.val = y
  rfl

theorem pay14_apply (a b : Fin 256) : k0_pay14 (ix2 a b) = BitVec.ofNat 32 (b.val % 16) := by
  pointwise [k0_pay14]
  revert b
  decide +kernel

theorem same_block : ∀ a b : Fin 256, (IntOp.cmpi CmpIPredicate.eq (IntOp.shrsi ArithUnit.vector (BitVec.ofNat 32 (chan a).val) 4#32)
        (IntOp.shrsi ArithUnit.vector (BitVec.ofNat 32 b.val) 4#32)) = if a.val / 16 = b.val / 16 then 1#1 else 0#1 := by
  have h : ∀ a : Fin 256, IntOp.shrsi ArithUnit.vector (BitVec.ofNat 32 a.val) 4#32 = BitVec.ofNat 32 (a.val / 16) := by decide +kernel
  have h' : ∀ a b : Fin 16, IntOp.cmpi CmpIPredicate.eq (BitVec.ofNat 32 a.val) (BitVec.ofNat 32 b.val) = if a.val = b.val then 1#1 else 0#1 := by decide +kernel
  intro a b
  rw [h, h]
  have e : (chan a).val / 16 = a.val / 16 := by unfold chan; simp only; omega
  rw [e]
  exact h' ⟨a.val / 16, by omega⟩ ⟨b.val / 16, by omega⟩

theorem same_chan : ∀ a b : Fin 256, IntOp.cmpi CmpIPredicate.eq (BitVec.ofNat 32 a.val) (BitVec.ofNat 32 b.val) = if a.val = b.val then 1#1 else 0#1 := by
  intro a b
  have e : BitVec.ofNat 32 a.val = BitVec.ofNat 32 b.val ↔ a.val = b.val := by
    rw [← BitVec.toNat_inj, BitVec.toNat_ofNat, BitVec.toNat_ofNat, Nat.mod_eq_of_lt (by omega), Nat.mod_eq_of_lt (by omega)]
  by_cases h : a.val = b.val
  · rw [if_pos h, h]
    unfold IntOp.cmpi
    simp
  · rw [if_neg h]
    show BitVec.ofBool (BitVec.ofNat 32 a.val == BitVec.ofNat 32 b.val) = 0#1
    rw [beq_eq_false_iff_ne.2 (fun q => h (e.1 q))]
    rfl

/-- The transform matrix: within a block, the scaled Hadamard entry times the sign. -/
def Rmat (sg : Fin 16 → EReal) : S256x256.Idx → EReal := fun y =>
  if (y 0).val / 16 = (y 1).val / 16 then
    (1 - Ideal.ofBits .f32 1073741824#32 * FloatOps.sitofp (F := Ideal) .f32 (parW (BitVec.ofNat 32 (chan (y 0)).val &&& BitVec.ofNat 32 (y 1).val &&& 15#32)))
      * Ideal.ofBits .f32 1048576000#32 * sg ⟨(y 1).val % 16, Nat.mod_lt _ (by decide)⟩
  else 0

/-- The scaling permutation. -/
def Pmat : S256x256.Idx → EReal := fun y => if (chan (y 0)).val = (y 1).val then Ideal.ofBits .f32 3330277376#32 else 0

theorem pick (sg : Fin 16 → EReal) (n : Fin 16) :
    Scalar.select (IntOp.cmpi CmpIPredicate.eq (BitVec.ofNat 32 n.val) 15#32) (sg 15)
          (Scalar.select (IntOp.cmpi CmpIPredicate.eq (BitVec.ofNat 32 n.val) 14#32) (sg 14)
            (Scalar.select (IntOp.cmpi CmpIPredicate.eq (BitVec.ofNat 32 n.val) 13#32) (sg 13)
              (Scalar.select (IntOp.cmpi CmpIPredicate.eq (BitVec.ofNat 32 n.val) 12#32) (sg 12)
                (Scalar.select (IntOp.cmpi CmpIPredicate.eq (BitVec.ofNat 32 n.val) 11#32) (sg 11)
                  (Scalar.select (IntOp.cmpi CmpIPredicate.eq (BitVec.ofNat 32 n.val) 10#32) (sg 10)
                    (Scalar.select (IntOp.cmpi CmpIPredicate.eq (BitVec.ofNat 32 n.val) 9#32) (sg 9)
                      (Scalar.select (IntOp.cmpi CmpIPredicate.eq (BitVec.ofNat 32 n.val) 8#32) (sg 8)
                        (Scalar.select (IntOp.cmpi CmpIPredicate.eq (BitVec.ofNat 32 n.val) 7#32) (sg 7)
                          (Scalar.select (IntOp.cmpi CmpIPredicate.eq (BitVec.ofNat 32 n.val) 6#32) (sg 6)
                            (Scalar.select (IntOp.cmpi CmpIPredicate.eq (BitVec.ofNat 32 n.val) 5#32) (sg 5)
                              (Scalar.select (IntOp.cmpi CmpIPredicate.eq (BitVec.ofNat 32 n.val) 4#32) (sg 4)
                                (Scalar.select (IntOp.cmpi CmpIPredicate.eq (BitVec.ofNat 32 n.val) 3#32) (sg 3)
                                  (Scalar.select (IntOp.cmpi CmpIPredicate.eq (BitVec.ofNat 32 n.val) 2#32) (sg 2)
                                    (Scalar.select (IntOp.cmpi CmpIPredicate.eq (BitVec.ofNat 32 n.val) 1#32) (sg 1)
                                      (Scalar.select (IntOp.cmpi CmpIPredicate.eq (BitVec.ofNat 32 n.val) 0#32) (sg 0)
                                        0))))))))))))))) = sg n := by
  obtain ⟨n, hn⟩ := n
  interval_cases n <;> rfl

/-- The stored transform matrix, from the sixteen signs. -/
theorem pay18_apply (sg : Fin 16 → EReal) (a b : Fin 256) :
    k0_pay1 (F := Ideal) (k0_pay18 k0_pay12 (iota .tc S256x256 32 [1] iota_S256x256_d1_w32) k0_pay13 k0_pay14 (k0_pay17 k0_pay14 (k0_pay15 (sg 0) (sg 1)) k0_pay16 (sg 2) (sg 3) (sg 4) (sg 5) (sg 6) (sg 7) (sg 8) (sg 9) (sg 10))
      (sg 11) (sg 12) (sg 13) (sg 14) (sg 15)) (ix2 a b) = Rmat sg (ix2 a b) := by
  pointwise [k0_pay1, k0_pay18, k0_pay17, k0_pay16, k0_pay15]
  rw [pay12_apply, pay13_apply, pay14_apply, same_block]
  rw [pick sg ⟨b.val % 16, Nat.mod_lt _ (by decide)⟩]
  unfold Rmat
  show _ = if a.val / 16 = b.val / 16 then _ else _
  split_ifs <;> rfl

/-- The stored scaling permutation. -/
theorem pay2_apply (a b : Fin 256) :
    k0_pay2 (F := Ideal) k0_pay12 (iota .tc S256x256 32 [1] iota_S256x256_d1_w32) (ix2 a b) = Pmat (ix2 a b) := by
  pointwise [k0_pay2]
  rw [pay12_apply, same_chan]
  unfold Pmat
  show _ = if (chan a).val = b.val then _ else _
  split_ifs <;> rfl

theorem fold_max_const {ι : Type} [Fintype ι] [Nonempty ι] (b v : EReal) (h : b ≤ v) : Finset.fold max b (fun _ : ι => v) Finset.univ = v := by
  refine le_antisymm ((Finset.fold_max_le _).2 ⟨h, fun _ _ => le_rfl⟩) ((Finset.le_fold_max _).2 (Or.inr ⟨Classical.arbitrary _, Finset.mem_univ _, le_rfl⟩))

theorem negInf : Ideal.ofBits .f32 4286578688#32 = ⊥ := Cert.Consts.negInf

/-- The greatest entry of the running maximum. -/
def gmOf (g : S8x256.Idx → EReal) : EReal := Finset.fold max ⊥ (fun x : Fin 8 × Fin 256 => g (ix2 x.1 x.2)) Finset.univ

/-- The tensor scale from the greatest magnitude. -/
def tsOf (a : EReal) : EReal := if 0 < a then Ideal.div a (Ideal.ofBits .f32 1160249344#32) else 1

theorem pay5_apply (g : FVec Ideal S8x256 .f32) (a : Fin 8) (b : Fin 256) : k0_pay5 (F := Ideal) g (ix2 a b) = tsOf (gmOf g) := by
  pointwise [k0_pay5]
  rw [negInf]
  rfl

theorem pay6_apply (g : FVec Ideal S8x256 .f32) (a : Fin 8) (b : Fin 256) : k0_pay6 (F := Ideal) g (ix2 a b) = tsOf (gmOf g) := by
  pointwise [k0_pay6]
  exact pay5_apply g a b

theorem pay7_eq (g : FVec Ideal S8x256 .f32) : k0_pay7 (F := Ideal) g = tsOf (gmOf g) := by
  pointwise [k0_pay7]
  simp only [pay5_apply, negInf]
  exact fold_max_const _ _ bot_le

/-- A block's scale from its maximum and the tensor scale. -/
def sbOf (ts am : EReal) : EReal := Ideal.div am (Ideal.ofBits .f32 1086324736#32 * ts)

/-- A block's factor: eight over its scale times the tensor scale, where that is positive. -/
def invOf (ts am : EReal) : EReal :=
  if 0 < sbOf ts am * ts then Ideal.div (Ideal.ofBits .f32 1090519040#32) (if 0 < sbOf ts am * ts then sbOf ts am * ts else 1) else 0

theorem pay9_apply (v17 : FVec Ideal S1x256 .f32) (v19 : FVec Ideal S1x256x256 .f32) (a : Fin 256) (b : Fin 256) :
    k0_pay9 (F := Ideal) v17 v19 (ix2 a b) = sbOf (v17 (ix2 0 b)) (v19 (ix3 0 a b)) := by
  pointwise [k0_pay9, k0_pay8]
  rfl

theorem pay10_apply (v17 : FVec Ideal S1x256 .f32) (v19 : FVec Ideal S1x256x256 .f32) (a : Fin 256) (b : Fin 256) :
    k0_pay10 (F := Ideal) v17 v19 (ix2 a b) = invOf (v17 (ix2 0 b)) (v19 (ix3 0 a b)) := by
  pointwise [k0_pay10, k0_pay8]
  rfl

theorem pay11_apply (v : FVec Ideal S256x256 .f32) (a : Fin 256) (b : Fin 256) : k0_pay11 (F := Ideal) v (ix2 a b) = v (ix2 b a) := by
  pointwise [k0_pay11]

theorem pay4_apply (v : FVec Ideal S1x256x256 .f32) (a : Fin 256) (b : Fin 256) : k0_pay4 (F := Ideal) v (ix2 a b) = v (ix3 0 b a) := by
  pointwise [k0_pay4]

theorem pay3_apply (a : Fin 8) (b : Fin 256) : k0_pay3 (F := Ideal) (ix2 a b) = 0 := by
  pointwise [k0_pay3]

/-- A step's block maxima. -/
def amB (R : S256x256.Idx → EReal) (x : S256x4096.Idx → EReal) (b t : Fin 256) : EReal :=
  blkMax (wTile R x ⟨b.val / 16, by omega⟩) ⟨b.val % 16, by omega⟩ t

/-- A step's sign words. -/
def sgB (R : S256x256.Idx → EReal) (x : S256x4096.Idx → EReal) (r : Fin 64) (b : Fin 2048) : BitVec 32 :=
  tposeWord (signT (wTile R x ⟨b.val / 128, by omega⟩)) r ⟨b.val % 128, by omega⟩

/-- A step's packed codes, from its factors and sign words. -/
def codeB (R P : S256x256.Idx → EReal) (x : S256x4096.Idx → EReal) (rd : S256x4096.Idx → BitVec 8) (inv : Fin 256 → Fin 256 → EReal)
    (sg : Fin 64 → Fin 2048 → BitVec 32) (tok : Fin 256) (b : Fin 2048) : BitVec 8 :=
  (codeWord (tposeWord (fieldT (wTile R x ⟨b.val / 128, by omega⟩) (pTile P rd ⟨b.val / 128, by omega⟩) (fun n t => inv ⟨16 * (b.val / 128) + n.val, by omega⟩ t))
    ⟨tok.val / 4, by omega⟩ ⟨b.val % 128, by omega⟩) (sg ⟨tok.val / 4, by omega⟩ b)).extractLsb' (8 * (tok.val % 4)) 8

end Cert.KernelIdeal.Hand
end
-- ==== Proof.Phase.lean ====
module

public import proofs.«01_k».proof.Proof.Blocks

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The step a point names. -/
def stp (i : grid0.Coords) : Fin 32 := ⟨4 * (i 1).val + (i 2).val, step_lt i⟩

theorem gmOf_le (g : S8x256.Idx → EReal) (z : EReal) : gmOf g ≤ z ↔ ∀ a b, g (ix2 a b) ≤ z := by
  unfold gmOf
  rw [Finset.fold_max_le]
  exact ⟨fun h a b => h.2 (a, b) (Finset.mem_univ _), fun h => ⟨bot_le, fun x _ => h x.1 x.2⟩⟩

variable (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (v1 : BitVec 32) (X4 : BufTy.Contents (Elt Ideal) arg4.view.ty) (X5 : BufTy.Contents (Elt Ideal) arg5.view.ty) (X10 : BufTy.Contents (Elt Ideal) arg10.view.ty) (X11 : BufTy.Contents (Elt Ideal) arg11.view.ty) (X13 : BufTy.Contents (Elt Ideal) arg13.view.ty) (X17 : BufTy.Contents (Elt Ideal) arg17.view.ty)
  (f7 : BufTy.Contents (Elt Ideal) arg7.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (n : ℕ) (hn : n = 16)

include hn

/-- The block maxima after the first phase's loop: this step's blocks new, the others kept. -/
theorem ph12 (h2 : k0_cond2 i = 1#1) (a : Fin 32) (b t : Fin 256) :
    arg12.view.read (Elt Ideal) (arg12.view.writes (Elt Ideal) f12 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 n).1) (ix3 a b t)
      = if a = stp i then amB (arg10.view.read (Elt Ideal) X10) (arg4.view.read (Elt Ideal) X4) b t else arg12.view.read (Elt Ideal) f12 (ix3 a b t) := by
  subst hn
  rw [loop12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 16 le_rfl a b t]
  by_cases h : a = stp i
  · rw [if_pos h, if_pos ⟨congrArg Fin.val h, by omega⟩, tile_eq]
    rfl
  · rw [if_neg h, if_neg (fun q => h (Fin.ext q.1))]

/-- The sign words after the first phase's loop. -/
theorem ph13 (h2 : k0_cond2 i = 1#1) (a : Fin 32) (r : Fin 64) (b : Fin 2048) :
    arg13.view.read (Elt Ideal) (arg13.view.writes (Elt Ideal) f13 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 n).2.1) (ix3 a r b)
      = if a = stp i then sgB (arg10.view.read (Elt Ideal) X10) (arg4.view.read (Elt Ideal) X4) r b else arg13.view.read (Elt Ideal) f13 (ix3 a r b) := by
  subst hn
  rw [loop13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 16 le_rfl a r b]
  by_cases h : a = stp i
  · rw [if_pos h, if_pos ⟨congrArg Fin.val h, by omega⟩, tile_eq]
    rfl
  · rw [if_neg h, if_neg (fun q => h (Fin.ext q.1))]

/-- The running maximum after the first phase's loop takes in this step's block maxima. -/
theorem ph14 (h2 : k0_cond2 i = 1#1) (z : EReal) :
    gmOf (arg14.view.read (Elt Ideal) (arg14.view.writes (Elt Ideal) f14 (pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 n).2.2.1)) ≤ z
      ↔ gmOf (arg14.view.read (Elt Ideal) f14) ≤ z ∧ ∀ b t, amB (arg10.view.read (Elt Ideal) X10) (arg4.view.read (Elt Ideal) X4) b t ≤ z := by
  subst hn
  rw [gmOf_le, gmOf_le]
  have L := fun g t => loop14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h2 X4 X10 f12 f13 f14 f15 f16 16 le_rfl g t z
  constructor
  · intro h
    refine ⟨fun g t => ((L g t).1 (h g t)).1, fun b t => ?_⟩
    have hk : b.val / 16 < k0_t1_loop.trips := by rw [trips1]; omega
    have hb := b.isLt
    unfold amB
    by_cases h8 : b.val % 16 < 8
    · have q := (((L ⟨b.val % 16, h8⟩ t).1 (h _ t)).2 ⟨b.val / 16, hk⟩ (by show b.val / 16 < 16; omega)).1
      rw [tile_eq] at q
      exact q
    · have q := (((L ⟨b.val % 16 - 8, by omega⟩ t).1 (h _ t)).2 ⟨b.val / 16, hk⟩ (by show b.val / 16 < 16; omega)).2
      rw [tile_eq] at q
      have e : (⟨8 + (b.val % 16 - 8), by omega⟩ : Fin 16) = ⟨b.val % 16, by omega⟩ := Fin.ext (by simp only; omega)
      exact (congrArg (fun w => blkMax _ w t) e.symm).trans_le q
  · rintro ⟨h, h'⟩ g t
    refine (L g t).2 ⟨h g t, fun k hk => ?_⟩
    rw [tile_eq]
    have hg := g.isLt
    have A : ∀ r : Fin 16, blkMax (wTile (arg10.view.read (Elt Ideal) X10) (arg4.view.read (Elt Ideal) X4) ⟨k.val, lt_of_lt_of_eq k.isLt trips1⟩) r t ≤ z := by
      intro r
      have q := h' ⟨16 * k.val + r.val, by omega⟩ t
      unfold amB at q
      have e : (⟨(16 * k.val + r.val) % 16, by omega⟩ : Fin 16) = r := Fin.ext (by simp only; omega)
      have e' : (⟨(16 * k.val + r.val) / 16, by omega⟩ : Fin 16) = ⟨k.val, lt_of_lt_of_eq k.isLt trips1⟩ := Fin.ext (by simp only; omega)
      simp only [e, e'] at q
      exact q
    exact ⟨A _, A _⟩

/-- The codes after the second phase's loop. -/
theorem ph7 (h4 : k0_cond4 i = 1#1) (tok : Fin 256) (b : Fin 2048) :
    arg7.view.read (Elt Ideal) (arg7.view.writes (Elt Ideal) f7 (pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h4 X4 X5 X10 X11 X13 X17 f7 f16 n).1) (ix2 tok b)
      = codeB (arg10.view.read (Elt Ideal) X10) (arg11.view.read (Elt Ideal) X11) (arg4.view.read (Elt Ideal) X4) (arg5.view.read (Elt Ideal) X5) (fun n t => arg17.view.read (Elt Ideal) X17 (ix2 n t)) (fun r b => arg13.view.read (Elt Ideal) X13 (ix3 (stp i) r b)) tok b := by
  subst hn
  rw [loop7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 h4 X4 X5 X10 X11 X13 X17 f7 f16 16 le_rfl tok b, if_pos (by omega), tile2_eq, rnd2_eq]
  rfl

end Cert.KernelIdeal.Hand
end
-- ==== Proof.Runs.lean ====
module

public import proofs.«01_k».proof.Proof.Phase
public import proofs.«01_k».proof.Proof.KernelIdealFrame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- What a point of the first phase leaves: the block maxima out, its step's maxima and sign words kept, the running
    maximum raised to take them in. -/
structure Ph1 (i : grid0.Coords) (R : S256x256.Idx → EReal) (x : S256x4096.Idx → EReal) (r6 : S256x256.Idx → EReal) (o12 n12 : S32x256x256.Idx → EReal)
    (o13 n13 : S32x64x2048.Idx → BitVec 32) (gm gm' : EReal) : Prop where
  amax : ∀ a b, r6 (ix2 a b) = amB R x b a
  maxs : ∀ a b t, n12 (ix3 a b t) = if a = stp i then amB R x b t else o12 (ix3 a b t)
  signs : ∀ a r b, n13 (ix3 a r b) = if a = stp i then sgB R x r b else o13 (ix3 a r b)
  run : ∀ z, gm' ≤ z ↔ gm ≤ z ∧ ∀ b t, amB R x b t ≤ z

/-- What a point of the second phase leaves: the codes and the block scales. -/
structure Ph2 (i : grid0.Coords) (R P : S256x256.Idx → EReal) (x : S256x4096.Idx → EReal) (rd : S256x4096.Idx → BitVec 8) (ts : EReal)
    (o12 : S32x256x256.Idx → EReal) (o13 : S32x64x2048.Idx → BitVec 32) (r7 : S256x2048.Idx → BitVec 8) (r8 : S256x256.Idx → EReal) : Prop where
  codes : ∀ tok b, r7 (ix2 tok b) = codeB R P x rd (fun n t => invOf ts (o12 (ix3 (stp i) n t))) (fun r b => o13 (ix3 (stp i) r b)) tok b
  scales : ∀ a b, r8 (ix2 a b) = sbOf ts (o12 (ix3 (stp i) b a))

theorem full2 {sp : Space} {m n : ℕ} {e : EltTy} (M : Memref sig .tc sp ⟨2, ![m, n]⟩ e) (f : BufTy.Contents (Elt Ideal) M.view.ty) (inb)
    (p : (Rect.unit (s := ⟨2, ![m, n]⟩) ![0, 0] ![m, n] inb).shape.Idx → Elt Ideal e) (a : Fin m) (b : Fin n) :
    M.view.read (Elt Ideal) (M.view.writes (Elt Ideal) f [⟨Rect.unit ![0, 0] ![m, n] inb, p⟩]) (ix2 a b) = p (ix2 a b) := by
  refine View.read_writes_cons_unit_of_mem (s := ⟨2, ![m, n]⟩) (off' := ![0, 0]) M.view f inb p [] (ix2 a b) (ix2 a b) rfl ?_
  intro a'
  match a' with
  | ⟨0, _⟩ => show a.val = 0 + a.val; omega
  | ⟨1, _⟩ => show b.val = 0 + b.val; omega

/-- A load of a whole rank-2 buffer. -/
theorem load2 {sp : Space} {m n : ℕ} {e : EltTy} (M : Memref sig .tc sp ⟨2, ![m, n]⟩ e) (f : BufTy.Contents (Elt Ideal) M.view.ty) (p : ℕ) (inb') (a : Fin p) (b : Fin n) (h : a.val < m) :
    View.readAt (Elt Ideal) M.view (Rect.unit (s := ⟨2, ![m, n]⟩) ![0, 0] ![p, n] inb').toLoadRect f (ix2 a b) = M.view.read (Elt Ideal) f (ix2 (⟨a.val, h⟩ : Fin m) b) :=
  readAt_unit_apply M ![0, 0] _ _ f _ rfl (ix2 a b) (ix2 (⟨a.val, h⟩ : Fin m) b) (by
    intro a'; match a' with
    | ⟨0, _⟩ => show a.val = 0 + a.val; omega
    | ⟨1, _⟩ => show b.val = 0 + b.val; omega)

/-- A step's plane of the kept block maxima. -/
theorem plane12 (i : grid0.Coords) (off : Fin 3 → ℕ) (ho : off = ![4 * (i 1).val + (i 2).val, 0, 0]) (arg12 : Memref sig .tc .vmem S32x256x256 .f32) (f : BufTy.Contents (Elt Ideal) arg12.view.ty) (inb) (a b : Fin 256) :
    View.readAt (Elt Ideal) arg12.view (Rect.unit (s := S32x256x256) off S1x256x256.size inb).toLoadRect f (ix3 (0 : Fin 1) a b)
      = arg12.view.read (Elt Ideal) f (ix3 (stp i) a b) :=
  readAt_unit_apply arg12 off _ _ f _ ho (ix3 (0 : Fin 1) a b) (ix3 (stp i) a b) (by
    intro a'; match a' with
    | ⟨0, _⟩ => show 4 * (i 1).val + (i 2).val = 4 * (i 1).val + (i 2).val + 0; omega
    | ⟨1, _⟩ => show a.val = 0 + a.val; omega
    | ⟨2, _⟩ => show b.val = 0 + b.val; omega)

theorem signs_congr (a0 a1 a2 a3 a4 a5 a6 a7 a8 a9 a10 a11 a12 a13 a14 a15 b0 b1 b2 b3 b4 b5 b6 b7 b8 b9 b10 b11 b12 b13 b14 b15 : EReal) (y : S256x256.Idx) (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    k0_pay1 (F := Ideal) (k0_pay18 k0_pay12 (iota .tc S256x256 32 [1] iota_S256x256_d1_w32) k0_pay13 k0_pay14 (k0_pay17 k0_pay14 (k0_pay15 a0 a1) k0_pay16 a2 a3 a4 a5 a6 a7 a8 a9 a10) a11 a12 a13 a14 a15) y = k0_pay1 (F := Ideal) (k0_pay18 k0_pay12 (iota .tc S256x256 32 [1] iota_S256x256_d1_w32) k0_pay13 k0_pay14 (k0_pay17 k0_pay14 (k0_pay15 b0 b1) k0_pay16 b2 b3 b4 b5 b6 b7 b8 b9 b10) b11 b12 b13 b14 b15) y := by
  subst h0 h1 h2 h3 h4 h5 h6 h7 h8 h9 h10 h11 h12 h13 h14 h15
  rfl

theorem load1 (arg3 : Memref sig .tc .smem S16 .f32) (f : BufTy.Contents (Elt Ideal) arg3.view.ty) (j : ℕ) (hj : j < 16) (inb) (x) :
    View.readAt (Elt Ideal) arg3.view (Rect.unit (s := S16) ![j] ![1] inb).toLoadRect f x = arg3.view.read (Elt Ideal) f (ix1 (⟨j, hj⟩ : Fin 16)) :=
  readAt_unit_apply arg3 ![j] _ _ f _ rfl x _ (by
    intro a'; match a' with
    | ⟨0, _⟩ => show j = j + (x 0).val; have := (x 0).isLt; change (x 0).val < 1 at this; omega)

/-- The body at the first point runs, and what it leaves. -/
theorem runA (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : cond1 i = 1#1) (h2 : k0_cond2 i = 1#1) (h3 : ¬ k0_cond3 i = 1#1) (h4 : ¬ k0_cond4 i = 1#1) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := Ideal)) Variants.none (c : Thread nD τ) none) Set.univ (cc0_nvfp4_rht (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(∃ (g6 : BufTy.Contents (Elt Ideal) arg6.view.ty) (g10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty),
      pt c arg3 f3 ∗ pt c arg4 f4 ∗ pt c arg5 f5 ∗ pt c arg6 g6 ∗ pt c arg7 f7 ∗ pt c arg8 f8 ∗ pt c arg9 f9 ∗ pt c arg10 g10 ∗ pt c arg11 g11 ∗ pt c arg12 g12 ∗ pt c arg13 g13 ∗ pt c arg14 g14 ∗ pt c arg15 g15 ∗ pt c arg16 g16 ∗ pt c arg17 f17 ∗ pt c arg18 f18 ∗ pt c arg19 f19 ∗ ⌜(arg10.view.read (Elt Ideal) g10) = Rmat (fun j => (arg3.view.read (Elt Ideal) f3) (ix1 j)) ∧ (arg11.view.read (Elt Ideal) g11) = Pmat ∧ Ph1 i (arg10.view.read (Elt Ideal) g10) (arg4.view.read (Elt Ideal) f4) (arg6.view.read (Elt Ideal) g6) (arg12.view.read (Elt Ideal) f12) (arg12.view.read (Elt Ideal) g12) (arg13.view.read (Elt Ideal) f13) (arg13.view.read (Elt Ideal) g13) 0 (gmOf (arg14.view.read (Elt Ideal) g14))⌝)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  iexists _
  iexists _
  iexists _
  iexists _
  iexists _
  iexists _
  iexists _
  iexists _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  ipureintro
  have e10 : (arg10.view.read (Elt Ideal) (arg10.view.writes (Elt Ideal) arg10.view.junk (runA.sl.H10_1 arg3 f3))) = Rmat (fun j => (arg3.view.read (Elt Ideal) f3) (ix1 j)) := by
    funext y
    idx_vars y
    refine (full2 arg10 _ _ _ y0 y1).trans ?_
    refine Eq.trans ?_ (pay18_apply (fun j => (arg3.view.read (Elt Ideal) f3) (ix1 j)) y0 y1)
    exact signs_congr _ _ _ _ _ _ _ _ _ _ _ _ _ _ _ _ _ _ _ _ _ _ _ _ _ _ _ _ _ _ _ _ _ (load1 arg3 f3 0 (by decide) _ _) (load1 arg3 f3 1 (by decide) _ _) (load1 arg3 f3 2 (by decide) _ _) (load1 arg3 f3 3 (by decide) _ _) (load1 arg3 f3 4 (by decide) _ _) (load1 arg3 f3 5 (by decide) _ _) (load1 arg3 f3 6 (by decide) _ _) (load1 arg3 f3 7 (by decide) _ _) (load1 arg3 f3 8 (by decide) _ _) (load1 arg3 f3 9 (by decide) _ _) (load1 arg3 f3 10 (by decide) _ _) (load1 arg3 f3 11 (by decide) _ _) (load1 arg3 f3 12 (by decide) _ _) (load1 arg3 f3 13 (by decide) _ _) (load1 arg3 f3 14 (by decide) _ _) (load1 arg3 f3 15 (by decide) _ _)
  refine ⟨e10, ?_, ?_⟩
  · funext y
    idx_vars y
    refine (full2 arg11 _ _ _ y0 y1).trans ?_
    exact pay2_apply y0 y1
  refine ⟨fun a b => ?_, fun a b t => ph12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 a b t, fun a r b => ph13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 a r b, fun z => ?_⟩
  · refine (full2 arg6 _ _ _ a b).trans ?_
    rw [pay4_apply]
    refine (plane12 i _ (k0_off6_eq i) arg12 _ _ b a).trans ?_
    refine (ph12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 (stp i) b a).trans ?_
    rw [if_pos rfl]
  · rw [View.writes_append]
    refine (ph14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 z).trans ?_
    have e0 : gmOf (arg14.view.read (Elt Ideal) (arg14.view.writes (Elt Ideal) arg14.view.junk (runA.sl.H14_1))) = 0 := by
      refine le_antisymm ((gmOf_le _ _).2 fun a b => ?_) ?_
      · refine ((full2 arg14 _ _ _ a b).trans (pay3_apply a b)).le
      · refine le_trans (((full2 arg14 _ _ _ 0 0).trans (pay3_apply 0 0)).ge) ((gmOf_le _ _).1 le_rfl 0 0)
    rw [e0]

/-- The body at another point of the first phase runs, and what it leaves. -/
theorem runB (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : k0_cond2 i = 1#1) (h3 : ¬ k0_cond3 i = 1#1) (h4 : ¬ k0_cond4 i = 1#1) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := Ideal)) Variants.none (c : Thread nD τ) none) Set.univ (cc0_nvfp4_rht (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(∃ (g6 : BufTy.Contents (Elt Ideal) arg6.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (g16 : BufTy.Contents (Elt Ideal) arg16.view.ty),
      pt c arg3 f3 ∗ pt c arg4 f4 ∗ pt c arg5 f5 ∗ pt c arg6 g6 ∗ pt c arg7 f7 ∗ pt c arg8 f8 ∗ pt c arg9 f9 ∗ pt c arg10 f10 ∗ pt c arg11 f11 ∗ pt c arg12 g12 ∗ pt c arg13 g13 ∗ pt c arg14 g14 ∗ pt c arg15 g15 ∗ pt c arg16 g16 ∗ pt c arg17 f17 ∗ pt c arg18 f18 ∗ pt c arg19 f19 ∗ ⌜Ph1 i (arg10.view.read (Elt Ideal) f10) (arg4.view.read (Elt Ideal) f4) (arg6.view.read (Elt Ideal) g6) (arg12.view.read (Elt Ideal) f12) (arg12.view.read (Elt Ideal) g12) (arg13.view.read (Elt Ideal) f13) (arg13.view.read (Elt Ideal) g13) (gmOf (arg14.view.read (Elt Ideal) f14)) (gmOf (arg14.view.read (Elt Ideal) g14))⌝)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  iexists _
  iexists _
  iexists _
  iexists _
  iexists _
  iexists _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  ipureintro
  refine ⟨fun a b => ?_, fun a b t => ph12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 a b t, fun a r b => ph13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 a r b, fun z => ph14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 z⟩
  refine (full2 arg6 _ _ _ a b).trans ?_
  rw [pay4_apply]
  refine (plane12 i _ (k0_off6_eq i) arg12 _ _ b a).trans ?_
  refine (ph12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ rfl h2 (stp i) b a).trans ?_
  rw [if_pos rfl]

/-- The body at the first point of the second phase runs, and what it leaves. -/
theorem runC (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : ¬ k0_cond2 i = 1#1) (h3 : k0_cond3 i = 1#1) (h4 : k0_cond4 i = 1#1) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := Ideal)) Variants.none (c : Thread nD τ) none) Set.univ (cc0_nvfp4_rht (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(∃ (g7 : BufTy.Contents (Elt Ideal) arg7.view.ty) (g8 : BufTy.Contents (Elt Ideal) arg8.view.ty) (g9 : BufTy.Contents (Elt Ideal) arg9.view.ty) (g16 : BufTy.Contents (Elt Ideal) arg16.view.ty) (g17 : BufTy.Contents (Elt Ideal) arg17.view.ty) (g18 : BufTy.Contents (Elt Ideal) arg18.view.ty) (g19 : BufTy.Contents (Elt Ideal) arg19.view.ty),
      pt c arg3 f3 ∗ pt c arg4 f4 ∗ pt c arg5 f5 ∗ pt c arg6 f6 ∗ pt c arg7 g7 ∗ pt c arg8 g8 ∗ pt c arg9 g9 ∗ pt c arg10 f10 ∗ pt c arg11 f11 ∗ pt c arg12 f12 ∗ pt c arg13 f13 ∗ pt c arg14 f14 ∗ pt c arg15 f15 ∗ pt c arg16 g16 ∗ pt c arg17 g17 ∗ pt c arg18 g18 ∗ pt c arg19 g19 ∗ ⌜(∀ a b, (arg18.view.read (Elt Ideal) g18) (ix2 a b) = tsOf (gmOf (arg14.view.read (Elt Ideal) f14))) ∧ (arg9.view.read (Elt Ideal) g9) (ix1 0) = tsOf (gmOf (arg14.view.read (Elt Ideal) f14)) ∧ Ph2 i (arg10.view.read (Elt Ideal) f10) (arg11.view.read (Elt Ideal) f11) (arg4.view.read (Elt Ideal) f4) (arg5.view.read (Elt Ideal) f5) (tsOf (gmOf (arg14.view.read (Elt Ideal) f14))) (arg12.view.read (Elt Ideal) f12) (arg13.view.read (Elt Ideal) f13) (arg7.view.read (Elt Ideal) g7) (arg8.view.read (Elt Ideal) g8)⌝)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  iexists _
  iexists _
  iexists _
  iexists _
  iexists _
  iexists _
  iexists _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  ipureintro
  have e14 : View.readAt (Elt Ideal) arg14.view (Rect.unit (s := S8x256) ![0, 0] S8x256.size inb_S8x256_S8x256_0_0).toLoadRect f14 = (arg14.view.read (Elt Ideal) f14) := by
    funext y
    idx_vars y
    exact load2 arg14 f14 8 _ y0 y1 y0.isLt
  have e18 : ∀ (X : BufTy.Contents (Elt Ideal) arg18.view.ty) (a : Fin 8) (b : Fin 256), (arg18.view.read (Elt Ideal) (arg18.view.writes (Elt Ideal) X (runC.sl.H18_1 arg14 f14))) (ix2 a b) = tsOf (gmOf (arg14.view.read (Elt Ideal) f14)) := by
    intro X a b
    refine (full2 arg18 _ _ _ a b).trans ((pay6_apply _ a b).trans ?_)
    rw [e14]
  have e17 : ∀ b : Fin 256, runC.sl.v17 arg14 arg18 f14 (ix2 0 b) = tsOf (gmOf (arg14.view.read (Elt Ideal) f14)) := by
    intro b
    exact (load2 arg18 _ 1 _ 0 b (by decide)).trans (e18 _ _ b)
  have e19 : ∀ (X : BufTy.Contents (Elt Ideal) arg19.view.ty) (a b : Fin 256), (arg19.view.read (Elt Ideal) (arg19.view.writes (Elt Ideal) X (runC.sl.H19_1 i arg12 arg14 arg18 h4 f12 f14))) (ix2 a b) = sbOf (tsOf (gmOf (arg14.view.read (Elt Ideal) f14))) ((arg12.view.read (Elt Ideal) f12) (ix3 (stp i) a b)) := by
    intro X a b
    refine (full2 arg19 _ _ _ a b).trans ((pay9_apply _ _ a b).trans ?_)
    exact congrArg₂ sbOf (e17 b) (plane12 i _ (k0_off7_eq i) arg12 _ _ a b)
  have e17' : ∀ (X : BufTy.Contents (Elt Ideal) arg17.view.ty) (a b : Fin 256), (arg17.view.read (Elt Ideal) (arg17.view.writes (Elt Ideal) X (runC.sl.H17_1 i arg12 arg14 arg18 h4 f12 f14))) (ix2 a b) = invOf (tsOf (gmOf (arg14.view.read (Elt Ideal) f14))) ((arg12.view.read (Elt Ideal) f12) (ix3 (stp i) a b)) := by
    intro X a b
    refine (full2 arg17 _ _ _ a b).trans ((pay10_apply _ _ a b).trans ?_)
    exact congrArg₂ invOf (e17 b) (plane12 i _ (k0_off7_eq i) arg12 _ _ a b)
  refine ⟨fun a b => e18 _ a b, ?_, ?_, fun a b => ?_⟩
  · refine (View.read_writes_cons_unit_of_mem _ _ _ _ _ _ (ix1 0) rfl (by intro a'; match a' with | ⟨0, _⟩ => rfl)).trans ?_
    refine (pay7_eq _).trans ?_
    rw [e14]
  · intro tok b
    refine (ph7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ rfl h4 tok b).trans ?_
    exact congrArg (fun inv => codeB _ _ _ _ inv _ tok b) (funext fun n => funext fun t => e17' _ n t)
  · refine (full2 arg8 _ _ _ a b).trans ((pay11_apply _ a b).trans ?_)
    exact (load2 arg19 _ 256 _ b a b.isLt).trans (e19 _ b a)

/-- The body at another point of the second phase runs, and what it leaves. -/
theorem runD (c : Dev nD) (i : grid0.Coords) (arg3 : Memref sig .tc .smem S16 .f32) (harg3 : arg3.IsWhole) (arg4 : Memref sig .tc .vmem S256x4096 .bf16) (harg4 : arg4.IsWhole) (arg5 : Memref sig .tc .vmem S256x4096 .i8) (harg5 : arg5.IsWhole) (arg6 : Memref sig .tc .vmem S256x256 .f32) (harg6 : arg6.IsWhole) (arg7 : Memref sig .tc .vmem S256x2048 .i8) (harg7 : arg7.IsWhole) (arg8 : Memref sig .tc .vmem S256x256 .fp8e4m3) (harg8 : arg8.IsWhole) (arg9 : Memref sig .tc .smem S1 .f32) (harg9 : arg9.IsWhole) (arg10 : Memref sig .tc .vmem S256x256 .bf16) (harg10 : arg10.IsWhole) (arg11 : Memref sig .tc .vmem S256x256 .bf16) (harg11 : arg11.IsWhole) (arg12 : Memref sig .tc .vmem S32x256x256 .f32) (harg12 : arg12.IsWhole) (arg13 : Memref sig .tc .vmem S32x64x2048 .i32) (harg13 : arg13.IsWhole) (arg14 : Memref sig .tc .vmem S8x256 .f32) (harg14 : arg14.IsWhole) (arg15 : Memref sig .tc .vmem S2x128x128 .f32) (harg15 : arg15.IsWhole) (arg16 : Memref sig .tc .vmem S64x256 .i32) (harg16 : arg16.IsWhole) (arg17 : Memref sig .tc .vmem S256x256 .f32) (harg17 : arg17.IsWhole) (arg18 : Memref sig .tc .vmem S8x256 .f32) (harg18 : arg18.IsWhole) (arg19 : Memref sig .tc .vmem S256x256 .f32) (harg19 : arg19.IsWhole) (h1 : ¬ cond1 i = 1#1) (h2 : ¬ k0_cond2 i = 1#1) (h3 : ¬ k0_cond3 i = 1#1) (h4 : k0_cond4 i = 1#1) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (ts : EReal) (hts : ∀ a b, (arg18.view.read (Elt Ideal) f18) (ix2 a b) = ts) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19)
    ⊢ wp frame (wpE (defs₀ (F := Ideal)) Variants.none (c : Thread nD τ) none) Set.univ (cc0_nvfp4_rht (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(∃ (g7 : BufTy.Contents (Elt Ideal) arg7.view.ty) (g8 : BufTy.Contents (Elt Ideal) arg8.view.ty) (g16 : BufTy.Contents (Elt Ideal) arg16.view.ty) (g17 : BufTy.Contents (Elt Ideal) arg17.view.ty) (g19 : BufTy.Contents (Elt Ideal) arg19.view.ty),
      pt c arg3 f3 ∗ pt c arg4 f4 ∗ pt c arg5 f5 ∗ pt c arg6 f6 ∗ pt c arg7 g7 ∗ pt c arg8 g8 ∗ pt c arg9 f9 ∗ pt c arg10 f10 ∗ pt c arg11 f11 ∗ pt c arg12 f12 ∗ pt c arg13 f13 ∗ pt c arg14 f14 ∗ pt c arg15 f15 ∗ pt c arg16 g16 ∗ pt c arg17 g17 ∗ pt c arg18 f18 ∗ pt c arg19 g19 ∗ ⌜Ph2 i (arg10.view.read (Elt Ideal) f10) (arg11.view.read (Elt Ideal) f11) (arg4.view.read (Elt Ideal) f4) (arg5.view.read (Elt Ideal) f5) ts (arg12.view.read (Elt Ideal) f12) (arg13.view.read (Elt Ideal) f13) (arg7.view.read (Elt Ideal) g7) (arg8.view.read (Elt Ideal) g8)⌝)) := by
  simp only [cc0_nvfp4_rht_eq_skeleton]
  unfold cc0_nvfp4_rht_skel
  iintro ⟨H3, H4, H5, H6, H7, H8, H9, H10, H11, H12, H13, H14, H15, H16, H17, H18, H19⟩
  sl_exec
  sl_step
  iexists _
  iexists _
  iexists _
  iexists _
  iexists _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  ipureintro
  have e17 : ∀ b : Fin 256, View.readAt (Elt Ideal) arg18.view (Rect.unit (s := S8x256) ![0, 0] S1x256.size inb_S8x256_S1x256_0_0).toLoadRect f18 (ix2 0 b) = ts := by
    intro b
    exact (load2 arg18 _ 1 _ 0 b (by decide)).trans (hts _ b)
  have e19 : ∀ (X : BufTy.Contents (Elt Ideal) arg19.view.ty) (a b : Fin 256), (arg19.view.read (Elt Ideal) (arg19.view.writes (Elt Ideal) X (runD.sl.H19_1 i arg12 arg18 h4 f12 f18))) (ix2 a b) = sbOf ts ((arg12.view.read (Elt Ideal) f12) (ix3 (stp i) a b)) := by
    intro X a b
    refine (full2 arg19 _ _ _ a b).trans ((pay9_apply _ _ a b).trans ?_)
    exact congrArg₂ sbOf (e17 b) (plane12 i _ (k0_off7_eq i) arg12 _ _ a b)
  have e17' : ∀ (X : BufTy.Contents (Elt Ideal) arg17.view.ty) (a b : Fin 256), (arg17.view.read (Elt Ideal) (arg17.view.writes (Elt Ideal) X (runD.sl.H17_1 i arg12 arg18 h4 f12 f18))) (ix2 a b) = invOf ts ((arg12.view.read (Elt Ideal) f12) (ix3 (stp i) a b)) := by
    intro X a b
    refine (full2 arg17 _ _ _ a b).trans ((pay10_apply _ _ a b).trans ?_)
    exact congrArg₂ invOf (e17 b) (plane12 i _ (k0_off7_eq i) arg12 _ _ a b)
  refine ⟨?_, fun a b => ?_⟩
  · intro tok b
    refine (ph7 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ rfl h4 tok b).trans ?_
    exact congrArg (fun inv => codeB _ _ _ _ inv _ tok b) (funext fun n => funext fun t => e17' _ n t)
  · refine (full2 arg8 _ _ _ a b).trans ((pay11_apply _ a b).trans ?_)
    exact (load2 arg19 _ 256 _ b a b.isLt).trans (e19 _ b a)

end Cert.KernelIdeal.Hand
end
-- ==== Proof.Spec.lean ====
module

public import proofs.«01_k».proof.Proof.Runs
public import Idealize.ShloMosaic.Lib.Pipeline.ValueKit
public import Idealize.ShloMosaic.Lib.Pipeline.TableIdle

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (X : S2048x16384.Idx → EReal) (RD : S2048x16384.Idx → BitVec 8) (SG : S16.Idx → EReal)

/-- Step `s`'s block of an array over tokens and channels. -/
def blkS {α : Type} (X : S2048x16384.Idx → α) (s : Fin 32) : S256x4096.Idx → α := fun y =>
  X (ix2 (⟨256 * (s.val / 4) + (y 0).val, by have h : (y 0).val < 256 := (y 0).isLt; omega⟩ : Fin 2048)
    (⟨4096 * (s.val % 4) + (y 1).val, by have h : (y 1).val < 4096 := (y 1).isLt; omega⟩ : Fin 16384))

/-- The transform matrix of the signs. -/
def RM : S256x256.Idx → EReal := Rmat (fun j => SG (ix1 j))

/-- Step `s`'s block maxima: block `b` of token `t`. -/
def AM (s : Fin 32) (b t : Fin 256) : EReal := amB (RM SG) (blkS X s) b t

/-- Step `s`'s sign words. -/
def SW (s : Fin 32) (r : Fin 64) (b : Fin 2048) : BitVec 32 := sgB (RM SG) (blkS X s) r b

/-- The greatest magnitude, no less than zero. -/
def GM : EReal := max 0 (Finset.univ.sup fun p : Fin 32 × Fin 256 × Fin 256 => AM X SG p.1 p.2.1 p.2.2)

theorem GM_le (z : EReal) : GM X SG ≤ z ↔ 0 ≤ z ∧ ∀ s b t, AM X SG s b t ≤ z := by
  unfold GM
  rw [max_le_iff, Finset.sup_le_iff]
  exact ⟨fun h => ⟨h.1, fun s b t => h.2 (s, b, t) (Finset.mem_univ _)⟩, fun h => ⟨h.1, fun p _ => h.2 p.1 p.2.1 p.2.2⟩⟩

/-- The tensor scale. -/
def TS : EReal := tsOf (GM X SG)

/-- Step `s`'s block scales and packed codes. -/
def SB (s : Fin 32) (b t : Fin 256) : EReal := sbOf (TS X SG) (AM X SG s b t)
def CO (s : Fin 32) (tok : Fin 256) (b : Fin 2048) : BitVec 8 :=
  codeB (RM SG) Pmat (blkS X s) (blkS RD s) (fun n t => invOf (TS X SG) (AM X SG s n t)) (SW X SG s) tok b

/-- What the kernel's scratch holds before point `n`. -/
structure Inv (n : ℕ) (r10 r11 : S256x256.Idx → EReal) (r12 : S32x256x256.Idx → EReal) (r13 : S32x64x2048.Idx → BitVec 32)
    (r14 r18 : S8x256.Idx → EReal) : Prop where
  mats : 1 ≤ n → r10 = RM SG ∧ r11 = Pmat
  maxs : ∀ s : Fin 32, s.val < n → ∀ b t, r12 (ix3 s b t) = AM X SG s b t
  signs : ∀ s : Fin 32, s.val < n → ∀ r b, r13 (ix3 s r b) = SW X SG s r b
  run : 1 ≤ n → n ≤ 32 → ∀ z, gmOf r14 ≤ z ↔ 0 ≤ z ∧ ∀ s : Fin 32, s.val < n → ∀ b t, AM X SG s b t ≤ z
  scale : 33 ≤ n → ∀ a b, r18 (ix2 a b) = TS X SG

theorem inv_zero (r10 r11 r12 r13 r14 r18) : Inv X SG 0 r10 r11 r12 r13 r14 r18 :=
  ⟨fun h => absurd h (by omega), fun s h => absurd h (by omega), fun s h => absurd h (by omega), fun h => absurd h (by omega), fun h => absurd h (by omega)⟩

variable {X SG}

theorem inv_A {i : grid0.Coords} (hs : (stp i).val = 0) {r10 r11 r6 o12 n12 o13 n13 r14 r18} {x : S256x4096.Idx → EReal}
    (hx : x = blkS X (stp i)) (h10 : r10 = RM SG) (h11 : r11 = Pmat) (h : Ph1 i r10 x r6 o12 n12 o13 n13 0 (gmOf r14)) :
    Inv X SG 1 r10 r11 n12 n13 r14 r18 := by
  subst hx h10
  have e : ∀ s : Fin 32, s.val < 1 → s = stp i := fun s h => Fin.ext (by omega)
  refine ⟨fun _ => ⟨rfl, h11⟩, fun s q b t => ?_, fun s q r b => ?_, fun _ _ z => ?_, fun q => absurd q (by omega)⟩
  · rw [h.maxs, if_pos (e s q), e s q]; rfl
  · rw [h.signs, if_pos (e s q), e s q]; rfl
  · rw [h.run]
    exact and_congr_right fun _ => ⟨fun q s hs b t => by rw [e s hs]; exact q b t, fun q b t => q (stp i) (by omega) b t⟩

theorem inv_B {i : grid0.Coords} {n : ℕ} (hn : 1 ≤ n) (hs : (stp i).val = n) {r10 r11 r6 o12 n12 o13 n13 o14 r14 r18} {x : S256x4096.Idx → EReal}
    (hx : x = blkS X (stp i)) (h0 : Inv X SG n r10 r11 o12 o13 o14 r18) (h : Ph1 i r10 x r6 o12 n12 o13 n13 (gmOf o14) (gmOf r14)) :
    Inv X SG (n + 1) r10 r11 n12 n13 r14 r18 := by
  have h10 := (h0.mats hn).1
  have h11 := (h0.mats hn).2
  subst hx h10
  have hlt := (stp i).isLt
  refine ⟨fun _ => ⟨rfl, h11⟩, fun s q b t => ?_, fun s q r b => ?_, fun _ hn' z => ?_, fun q => absurd q (by omega)⟩
  · rw [h.maxs]
    by_cases e : s = stp i
    · rw [if_pos e, e]; rfl
    · rw [if_neg e]
      exact h0.maxs s (by have := fun q => e (Fin.ext q); omega) b t
  · rw [h.signs]
    by_cases e : s = stp i
    · rw [if_pos e, e]; rfl
    · rw [if_neg e]
      exact h0.signs s (by have := fun q => e (Fin.ext q); omega) r b
  · rw [h.run, h0.run hn (by omega)]
    constructor
    · rintro ⟨⟨q0, q1⟩, q2⟩
      refine ⟨q0, fun s hs' b t => ?_⟩
      by_cases e : s = stp i
      · rw [e]; exact q2 b t
      · exact q1 s (by have := fun q => e (Fin.ext q); omega) b t
    · rintro ⟨q0, q1⟩
      exact ⟨⟨q0, fun s hs' => q1 s (by omega)⟩, fun b t => q1 (stp i) (by omega) b t⟩

theorem inv_ts {r10 r11 r12 r13 r14 r18} (h0 : Inv X SG 32 r10 r11 r12 r13 r14 r18) : tsOf (gmOf r14) = TS X SG := by
  unfold TS
  congr 1
  refine eq_of_forall_ge_iff fun z => ?_
  rw [h0.run (by omega) le_rfl, GM_le]
  exact and_congr_right fun _ => ⟨fun q s => q s s.isLt, fun q s _ => q s⟩

theorem inv_C {r10 r11 r12 r13 r14 r14' r18 r18'} (h0 : Inv X SG 32 r10 r11 r12 r13 r14 r18) (h : ∀ a b, r18' (ix2 a b) = TS X SG) :
    Inv X SG 33 r10 r11 r12 r13 r14' r18' :=
  ⟨fun _ => h0.mats (by omega), fun s _ => h0.maxs s s.isLt, fun s _ => h0.signs s s.isLt, fun _ q => absurd q (by omega), fun _ => h⟩

theorem inv_D {n : ℕ} (hn : 33 ≤ n) {r10 r11 r12 r13 r14 r14' r18} (h0 : Inv X SG n r10 r11 r12 r13 r14 r18) :
    Inv X SG (n + 1) r10 r11 r12 r13 r14' r18 :=
  ⟨fun _ => h0.mats (by omega), fun s _ => h0.maxs s (by omega), fun s _ => h0.signs s (by omega), fun _ q => absurd q (by omega), fun _ => h0.scale (by omega)⟩

theorem amax_of {i : grid0.Coords} {r10 r6 o12 n12 o13 n13} {gm gm' : EReal} {x : S256x4096.Idx → EReal}
    (hx : x = blkS X (stp i)) (h10 : r10 = RM SG) (h : Ph1 i r10 x r6 o12 n12 o13 n13 gm gm') (s : Fin 32) (hs : s = stp i) :
    r6 = fun y : S256x256.Idx => AM X SG s (y 1) (y 0) := by
  subst hx h10 hs
  funext y
  idx_vars y
  exact h.amax y0 y1

theorem codes_of {i : grid0.Coords} {n : ℕ} (hn : 32 ≤ n) {r10 r11 o12 o13 r14 r18 r7 r8} {x : S256x4096.Idx → EReal} {rd : S256x4096.Idx → BitVec 8} {RD : S2048x16384.Idx → BitVec 8}
    (hx : x = blkS X (stp i)) (hr : rd = blkS RD (stp i)) (h0 : Inv X SG n r10 r11 o12 o13 r14 r18) {ts : EReal} (hts : ts = TS X SG)
    (h : Ph2 i r10 r11 x rd ts o12 o13 r7 r8) (s : Fin 32) (hs : s = stp i) :
    (r7 = fun y : S256x2048.Idx => CO X RD SG s (y 0) (y 1)) ∧ r8 = fun y : S256x256.Idx => SB X SG s (y 1) (y 0) := by
  have h10 := (h0.mats (by omega)).1
  have h11 := (h0.mats (by omega)).2
  have hm := h0.maxs (stp i) (by have := (stp i).isLt; omega)
  have hw := h0.signs (stp i) (by have := (stp i).isLt; omega)
  subst hx hr hts hs h10 h11
  constructor
  · funext y
    idx_vars y
    refine (h.codes y0 y1).trans ?_
    simp only [hm, hw]
    rfl
  · funext y
    idx_vars y
    refine (h.scales y0 y1).trans ?_
    rw [hm]
    rfl

/-! The points: the step, the phase, and which windows are stored at them. -/

theorem points : ∀ t : Fin cfg0.N, (stp (grid0.coords t)).val = t.val % 32 ∧ (k0_cond2 (grid0.coords t) = 1#1 → t.val < 32) ∧ (k0_cond4 (grid0.coords t) = 1#1 → 32 ≤ t.val)
    ∧ (cond1 (grid0.coords t) = 1#1 ↔ t.val = 0) ∧ (k0_cond3 (grid0.coords t) = 1#1 ↔ t.val = 32) := by
  decide +kernel

theorem idle3 : ∀ t : Fin cfg0.N, cfg0.idle 3 (cfg0.grid.coords t) = decide (32 ≤ t.val) := by decide +kernel
theorem idle4 : ∀ t : Fin cfg0.N, cfg0.idle 4 (cfg0.grid.coords t) = decide (t.val < 32) := by decide +kernel
theorem idle5 : ∀ t : Fin cfg0.N, cfg0.idle 5 (cfg0.grid.coords t) = decide (t.val < 32) := by decide +kernel
theorem idle6 : ∀ t : Fin cfg0.N, cfg0.idle 6 (cfg0.grid.coords t) = decide (t.val ≠ 32) := by decide +kernel
theorem flush3 : ∀ t : Fin cfg0.N, (cfg0.win 3).flush t = decide (t.val < 31 ∨ t.val = 63) := by decide +kernel
theorem flush4 : ∀ t : Fin cfg0.N, (cfg0.win 4).flush t = decide (32 ≤ t.val) := by decide +kernel
theorem flush5 : ∀ t : Fin cfg0.N, (cfg0.win 5).flush t = decide (32 ≤ t.val) := by decide +kernel
theorem flush6 : ∀ t : Fin cfg0.N, (cfg0.win 6).flush t = decide (t.val = 63) := by decide +kernel

theorem N_eq : cfg0.N = 64 := by decide +kernel

theorem fresh3 : ∀ n, n ≤ cfg0.N → cfg0.fresh 3 n = decide (n < 32 ∨ n = 64) :=
  cfg0.fresh_tab 3 _ (by decide) (fun t => by rw [idle3, flush3]; revert t; decide +kernel)
theorem fresh6 : ∀ n, n ≤ cfg0.N → cfg0.fresh 6 n = decide (n < 33 ∨ n = 64) :=
  cfg0.fresh_tab 6 _ (by decide) (fun t => by rw [idle6, flush6]; revert t; decide +kernel)
theorem fresh4 : ∀ n, n ≤ cfg0.N → cfg0.fresh 4 n = true :=
  cfg0.fresh_tab 4 (fun _ => true) rfl (fun t => by rw [idle4, flush4]; revert t; decide +kernel)
theorem fresh5 : ∀ n, n ≤ cfg0.N → cfg0.fresh 5 n = true :=
  cfg0.fresh_tab 5 (fun _ => true) rfl (fun t => by rw [idle5, flush5]; revert t; decide +kernel)

/-! The blocks of the arrays. -/

variable (m : (ℓ : Loc nD τ sig) → Buf (Elt Ideal) ℓ)

theorem index0 : ∀ t : Fin cfg0.N, win0_0.index t = ![0] := by decide +kernel
theorem index1 : ∀ t : Fin cfg0.N, win0_1.index t = ![(t.val % 32) / 4, (t.val % 32) % 4] := by decide +kernel
theorem index2 : ∀ t : Fin cfg0.N, 32 ≤ t.val → win0_2.index t = ![(t.val % 32) / 4, (t.val % 32) % 4] := by decide +kernel

theorem iblk0 (c : Dev nD) (t : Fin cfg0.N) : iblk (F := Ideal) m c 0 t = (V m c main_arg1 : S16.Idx → EReal) := by
  funext y
  blk_ext [iblk, index0 t]
theorem iblk1 (c : Dev nD) (t : Fin cfg0.N) : iblk (F := Ideal) m c 1 t = blkS (V m c main_v0 : S2048x16384.Idx → EReal) (stp (grid0.coords t)) := by
  funext y
  have := (points t).1
  unfold blkS
  blk_ext [iblk, index1 t]
theorem iblk2 (c : Dev nD) (t : Fin cfg0.N) (ht : 32 ≤ t.val) : iblk (F := Ideal) m c 2 t = blkS (V m c main_v1 : S2048x16384.Idx → BitVec 8) (stp (grid0.coords t)) := by
  funext y
  have := (points t).1
  unfold blkS
  blk_ext [iblk, index2 t ht]

end Cert.KernelIdeal.Hand
end
-- ==== Proof.Value.lean ====
module

public import proofs.«01_k».proof.Proof.Spec

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

local notation "𝕄" => MT nD τ sig Unit (Elt Ideal) ℕ (UR sig nD τ) ℕ

/-- The activations, the rounding bytes and the signs, as the region finds them. -/
def X (c : Dev nD) : S2048x16384.Idx → EReal := V m c main_v0
def RD (c : Dev nD) : S2048x16384.Idx → BitVec 8 := V m c main_v1
def SG (c : Dev nD) : S16.Idx → EReal := V m c main_arg1

/-- The last step of the first phase not after `t`. -/
def s1 (t : Fin cfg0.N) : Fin 32 := ⟨min t.val 31, by omega⟩
/-- The step of `t` in its phase. -/
def s2 (t : Fin cfg0.N) : Fin 32 := stp (grid0.coords t)

/-- The invariant of the scratch before point `n`. -/
def Phi (c : Dev nD) (n : ℕ) : sProp 𝕄 :=
  iprop((∃ (f10 : BufTy.Contents (Elt Ideal) (Memref.whole cc0_scratch0).view.ty) (f11 : BufTy.Contents (Elt Ideal) (Memref.whole cc0_scratch1).view.ty) (f12 : BufTy.Contents (Elt Ideal) (Memref.whole cc0_scratch2).view.ty) (f13 : BufTy.Contents (Elt Ideal) (Memref.whole cc0_scratch3).view.ty) (f14 : BufTy.Contents (Elt Ideal) (Memref.whole cc0_scratch4).view.ty) (f15 : BufTy.Contents (Elt Ideal) (Memref.whole cc0_scratch5).view.ty) (f16 : BufTy.Contents (Elt Ideal) (Memref.whole cc0_scratch6).view.ty) (f17 : BufTy.Contents (Elt Ideal) (Memref.whole cc0_scratch7).view.ty) (f18 : BufTy.Contents (Elt Ideal) (Memref.whole cc0_scratch8).view.ty) (f19 : BufTy.Contents (Elt Ideal) (Memref.whole cc0_scratch9).view.ty), pt c (Memref.whole cc0_scratch0) f10 ∗ pt c (Memref.whole cc0_scratch1) f11 ∗ pt c (Memref.whole cc0_scratch2) f12 ∗ pt c (Memref.whole cc0_scratch3) f13 ∗ pt c (Memref.whole cc0_scratch4) f14 ∗ pt c (Memref.whole cc0_scratch5) f15 ∗ pt c (Memref.whole cc0_scratch6) f16 ∗ pt c (Memref.whole cc0_scratch7) f17 ∗ pt c (Memref.whole cc0_scratch8) f18 ∗ pt c (Memref.whole cc0_scratch9) f19 ∗ ⌜Inv (X m c) (SG m c) (n) ((Memref.whole cc0_scratch0).view.read (Elt Ideal) f10) ((Memref.whole cc0_scratch1).view.read (Elt Ideal) f11) ((Memref.whole cc0_scratch2).view.read (Elt Ideal) f12) ((Memref.whole cc0_scratch3).view.read (Elt Ideal) f13) ((Memref.whole cc0_scratch4).view.read (Elt Ideal) f14) ((Memref.whole cc0_scratch8).view.read (Elt Ideal) f18)⌝) ∗ (∃ r, prngReg c r))

/-- The proof data: what every window's buffer holds after every point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun y : S256x256.Idx => AM (X m c) (SG m c) (s1 t) (y 1) (y 0)
    | ⟨4, _⟩ => fun y : S256x2048.Idx => CO (X m c) (RD m c) (SG m c) (s2 t) (y 0) (y 1)
    | ⟨5, _⟩ => fun y : S256x256.Idx => SB (X m c) (SG m c) (s2 t) (y 1) (y 0)
    | ⟨6, _⟩ => fun _ : S1.Idx => TS (X m c) (SG m c)
  Φ t := Phi m c t.val
  q _ := fullShare
  owed _ := 0

theorem A_eq (c : Dev nD) (w : Fin cfg0.W) : (dats m 0 c).A w = V m c (Pipeline.arrRef spec0 w) := by
  dsimp only [dats]

/-- What the body leaves of a window at a point: its contents after the point, or, where the window is idle, what it found. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leave_live (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ leaves m c w t := by
  unfold leaves
  rw [h]
theorem leave_idle (c : Dev nD) (w : Fin cfg0.W) (t : Fin cfg0.N) (h : cfg0.idle w (cfg0.grid.coords t) = true) (d)
    (hf : (cfg0.win w).flush t = true → (dats m 0 c).before w t d = (dats m 0 c).after w t) :
    owns (c : Thread nD τ) ((cfg0.win w).stage (cfg0.slots t w)) fullShare ((dats m 0 c).before w t d) ⊢ leaves m c w t := by
  unfold leaves
  rw [h]
  cases e : (cfg0.win w).flush t
  · iintro H
    iexists d
    iexact H
  · simp only []
    rw [hf e]

/-- Where an idle window is written back its buffer holds what its last storing point left. -/
theorem keep3 (c : Dev nD) (t : Fin cfg0.N) (ht : 32 ≤ t.val) (d) : (dats m 0 c).before 3 t d = (dats m 0 c).after 3 t := by
  have hN := N_eq
  have hlt := t.isLt
  have e : ∀ t : Fin cfg0.N, ∀ h, 32 ≤ t.val → (dats m 0 c).after 3 t = (dats m 0 c).after 3 ⟨t.val - 1, h⟩ := fun t h q => by
    have : s1 t = s1 ⟨t.val - 1, h⟩ := by unfold s1; apply Fin.ext; simp only; omega
    show (fun y : S256x256.Idx => AM (X m c) (SG m c) (s1 t) (y 1) (y 0)) = (fun y : S256x256.Idx => AM (X m c) (SG m c) (s1 ⟨t.val - 1, h⟩) (y 1) (y 0))
    rw [this]
  rw [(dats m 0 c).before_out_traj 3 rfl (fun _ _ => rfl) (fun t _ hi _ => e t _ (by rw [idle3] at hi; exact of_decide_eq_true hi)) _ t rfl d,
    fresh3 _ hlt.le, if_neg (by simp only [decide_eq_true_eq]; omega)]
  exact (e t _ ht).symm
theorem keep6 (c : Dev nD) (t : Fin cfg0.N) (ht : 33 ≤ t.val) (d) : (dats m 0 c).before 6 t d = (dats m 0 c).after 6 t := by
  have hN := N_eq
  have hlt := t.isLt
  rw [(dats m 0 c).before_out_traj 6 rfl (fun _ _ => rfl) (fun t _ _ _ => rfl) _ t rfl d,
    fresh6 _ hlt.le, if_neg (by simp only [decide_eq_true_eq]; omega)]
  rfl

/-- What the body is handed and hands back at a point. -/
def Pre (c : Dev nD) (t : Fin cfg0.N) : sProp 𝕄 :=
  iprop(Phi m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
def Post (c : Dev nD) (t : Fin cfg0.N) : sProp 𝕄 :=
  iprop(Phi m c (t.val + 1) ∗ (dats m 0 c).owesAt () t.succ
    ∗ leaves m c 0 t ∗ leaves m c 1 t ∗ leaves m c 2 t ∗ leaves m c 3 t ∗ leaves m c 4 t ∗ leaves m c 5 t ∗ leaves m c 6 t)

set_option maxHeartbeats 8000000 in
/-- The body at the first point. -/
theorem soundA (c : Dev nD) (t : Fin cfg0.N) (ht : t.val = 0) (h1 :  cond1 (grid0.coords t) = 1#1) (h2 :  k0_cond2 (grid0.coords t) = 1#1) (h3 : ¬ k0_cond3 (grid0.coords t) = 1#1) (h4 : ¬ k0_cond4 (grid0.coords t) = 1#1) :
    Pre m c t ⊢ wp frame (wpE (defs₀ (F := Ideal)) Variants.none c none) Set.univ (bodyAt0 t) (fun _ => Post m c t) := by
  have hN := N_eq
  have hlt := t.isLt
  have hs : (stp (grid0.coords t)).val = t.val % 32 := (points t).1
  unfold Pre Post Phi
  unfold Dat.owesAt Pipeline.owesWithin
  rw [show (dats m 0 c).owed t.castSucc = 0 from rfl, show (dats m 0 c).owed t.succ = 0 from rfl]
  simp only [before0_0_of m (dats m 0 c) (A_eq m c 0) (fun _ => rfl) t, before0_1_of m (dats m 0 c) (A_eq m c 1) (fun _ => rfl) t, before0_2_of m (dats m 0 c) (A_eq m c 2) (fun _ => rfl) t]
  unfold owns
  iintro ⟨⟨⟨%f10, %f11, %f12, %f13, %f14, %f15, %f16, %f17, %f18, %f19, H10, H11, H12, H13, H14, H15, H16, H17, H18, H19, %I⟩, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (wp_wand_r Idealize.ShloMosaic.frame (wpE (defs₀ (F := Ideal)) Variants.none (c : Thread nD τ) none) Set.univ)
  isplitl [H3 H4 H5 H6 H7 H8 H9 H10 H11 H12 H13 H14 H15 H16 H17 H18 H19]
  · have key := runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h2 h3 h4 f3 f4 f5 f6 f7 f8 f9 f10 f11 f12 f13 f14 f15 f16 f17 f18 f19
    iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %u ⟨%g6, %g10, %g11, %g12, %g13, %g14, %g15, %g16, H3, H4, H5, H6, H7, H8, H9, H10, H11, H12, H13, H14, H15, H16, H17, H18, H19, %K⟩
  obtain ⟨K10, K11, K⟩ := K
  have e10 : (Memref.whole cc0_scratch0).view.read (Elt Ideal) g10 = RM (SG m c) := K10.trans (by unfold RM; rw [e3, iblk0]; rfl)
  have I' : Inv (X m c) (SG m c) (t.val + 1) ((Memref.whole cc0_scratch0).view.read (Elt Ideal) g10) ((Memref.whole cc0_scratch1).view.read (Elt Ideal) g11) ((Memref.whole cc0_scratch2).view.read (Elt Ideal) g12) ((Memref.whole cc0_scratch3).view.read (Elt Ideal) g13) ((Memref.whole cc0_scratch4).view.read (Elt Ideal) g14) ((Memref.whole cc0_scratch8).view.read (Elt Ideal) f18) := by
    rw [ht]
    exact inv_A (by omega) (e4.trans (iblk1 m c t)) e10 K11 K
  have o6 := amax_of (e4.trans (iblk1 m c t)) e10 K (s1 t) (Fin.ext (by unfold s1; simp only; omega))
  isplitl [H10 H11 H12 H13 H14 H15 H16 H17 H18 H19 Hg]
  · isplitr [Hg]
    · iexists g10, g11, g12, g13, g14, g15, g16, f17, f18, f19
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      ipureintro; exact I'
    iexact Hg
  isplitl [HW]
  · iexists W; isplitr; · ipureintro; exact fun _ _ => Or.inl trivial
    iexact HW
  isplitl [H3]
  · skip
    iapply (leave_live m c 0 t rfl)
    unfold owns; iexists f3; isplitr; swap; · iexact H3
    ipureintro; exact e3
  isplitl [H4]
  · skip
    iapply (leave_live m c 1 t rfl)
    unfold owns; iexists f4; isplitr; swap; · iexact H4
    ipureintro; exact e4
  isplitl [H5]
  · skip
    iapply (leave_live m c 2 t rfl)
    unfold owns; iexists f5; isplitr; swap; · iexact H5
    ipureintro; exact e5
  isplitl [H6]
  · skip
    iapply (leave_live m c 3 t (by rw [idle3]; exact decide_eq_false (by omega)))
    unfold owns; iexists g6; isplitr; swap; · iexact H6
    ipureintro; exact o6
  isplitl [H7]
  · skip
    iapply (leave_idle m c 4 t (by rw [idle4]; exact decide_eq_true (by omega)) d7 (fun q => absurd (of_decide_eq_true ((flush4 t).symm.trans q)) (by omega)))
    unfold owns; iexists f7; isplitr; swap; · iexact H7
    ipureintro; exact e7
  isplitl [H8]
  · skip
    iapply (leave_idle m c 5 t (by rw [idle5]; exact decide_eq_true (by omega)) d8 (fun q => absurd (of_decide_eq_true ((flush5 t).symm.trans q)) (by omega)))
    unfold owns; iexists f8; isplitr; swap; · iexact H8
    ipureintro; exact e8
  iapply (leave_idle m c 6 t (by rw [idle6]; exact decide_eq_true (by omega)) d9 (fun q => absurd (of_decide_eq_true ((flush6 t).symm.trans q)) (by omega)))
  unfold owns; iexists f9; isplitr; swap; · iexact H9
  ipureintro; exact e9

set_option maxHeartbeats 8000000 in
/-- The body at the other points of the first phase. -/
theorem soundB (c : Dev nD) (t : Fin cfg0.N) (ht : t.val ≠ 0 ∧ t.val < 32) (h1 : ¬ cond1 (grid0.coords t) = 1#1) (h2 :  k0_cond2 (grid0.coords t) = 1#1) (h3 : ¬ k0_cond3 (grid0.coords t) = 1#1) (h4 : ¬ k0_cond4 (grid0.coords t) = 1#1) :
    Pre m c t ⊢ wp frame (wpE (defs₀ (F := Ideal)) Variants.none c none) Set.univ (bodyAt0 t) (fun _ => Post m c t) := by
  have hN := N_eq
  have hlt := t.isLt
  have hs : (stp (grid0.coords t)).val = t.val % 32 := (points t).1
  unfold Pre Post Phi
  unfold Dat.owesAt Pipeline.owesWithin
  rw [show (dats m 0 c).owed t.castSucc = 0 from rfl, show (dats m 0 c).owed t.succ = 0 from rfl]
  simp only [before0_0_of m (dats m 0 c) (A_eq m c 0) (fun _ => rfl) t, before0_1_of m (dats m 0 c) (A_eq m c 1) (fun _ => rfl) t, before0_2_of m (dats m 0 c) (A_eq m c 2) (fun _ => rfl) t]
  unfold owns
  iintro ⟨⟨⟨%f10, %f11, %f12, %f13, %f14, %f15, %f16, %f17, %f18, %f19, H10, H11, H12, H13, H14, H15, H16, H17, H18, H19, %I⟩, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (wp_wand_r Idealize.ShloMosaic.frame (wpE (defs₀ (F := Ideal)) Variants.none (c : Thread nD τ) none) Set.univ)
  isplitl [H3 H4 H5 H6 H7 H8 H9 H10 H11 H12 H13 H14 H15 H16 H17 H18 H19]
  · have key := runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h2 h3 h4 f3 f4 f5 f6 f7 f8 f9 f10 f11 f12 f13 f14 f15 f16 f17 f18 f19
    iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %u ⟨%g6, %g12, %g13, %g14, %g15, %g16, H3, H4, H5, H6, H7, H8, H9, H10, H11, H12, H13, H14, H15, H16, H17, H18, H19, %K⟩
  have I' : Inv (X m c) (SG m c) (t.val + 1) ((Memref.whole cc0_scratch0).view.read (Elt Ideal) f10) ((Memref.whole cc0_scratch1).view.read (Elt Ideal) f11) ((Memref.whole cc0_scratch2).view.read (Elt Ideal) g12) ((Memref.whole cc0_scratch3).view.read (Elt Ideal) g13) ((Memref.whole cc0_scratch4).view.read (Elt Ideal) g14) ((Memref.whole cc0_scratch8).view.read (Elt Ideal) f18) := inv_B (by omega) (by omega) (e4.trans (iblk1 m c t)) I K
  have o6 := amax_of (e4.trans (iblk1 m c t)) (I.mats (by omega)).1 K (s1 t) (Fin.ext (by unfold s1; simp only; omega))
  isplitl [H10 H11 H12 H13 H14 H15 H16 H17 H18 H19 Hg]
  · isplitr [Hg]
    · iexists f10, f11, g12, g13, g14, g15, g16, f17, f18, f19
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      ipureintro; exact I'
    iexact Hg
  isplitl [HW]
  · iexists W; isplitr; · ipureintro; exact fun _ _ => Or.inl trivial
    iexact HW
  isplitl [H3]
  · skip
    iapply (leave_live m c 0 t rfl)
    unfold owns; iexists f3; isplitr; swap; · iexact H3
    ipureintro; exact e3
  isplitl [H4]
  · skip
    iapply (leave_live m c 1 t rfl)
    unfold owns; iexists f4; isplitr; swap; · iexact H4
    ipureintro; exact e4
  isplitl [H5]
  · skip
    iapply (leave_live m c 2 t rfl)
    unfold owns; iexists f5; isplitr; swap; · iexact H5
    ipureintro; exact e5
  isplitl [H6]
  · skip
    iapply (leave_live m c 3 t (by rw [idle3]; exact decide_eq_false (by omega)))
    unfold owns; iexists g6; isplitr; swap; · iexact H6
    ipureintro; exact o6
  isplitl [H7]
  · skip
    iapply (leave_idle m c 4 t (by rw [idle4]; exact decide_eq_true (by omega)) d7 (fun q => absurd (of_decide_eq_true ((flush4 t).symm.trans q)) (by omega)))
    unfold owns; iexists f7; isplitr; swap; · iexact H7
    ipureintro; exact e7
  isplitl [H8]
  · skip
    iapply (leave_idle m c 5 t (by rw [idle5]; exact decide_eq_true (by omega)) d8 (fun q => absurd (of_decide_eq_true ((flush5 t).symm.trans q)) (by omega)))
    unfold owns; iexists f8; isplitr; swap; · iexact H8
    ipureintro; exact e8
  iapply (leave_idle m c 6 t (by rw [idle6]; exact decide_eq_true (by omega)) d9 (fun q => absurd (of_decide_eq_true ((flush6 t).symm.trans q)) (by omega)))
  unfold owns; iexists f9; isplitr; swap; · iexact H9
  ipureintro; exact e9

set_option maxHeartbeats 8000000 in
/-- The body at the first point of the second phase. -/
theorem soundC (c : Dev nD) (t : Fin cfg0.N) (ht : t.val = 32) (h1 : ¬ cond1 (grid0.coords t) = 1#1) (h2 : ¬ k0_cond2 (grid0.coords t) = 1#1) (h3 :  k0_cond3 (grid0.coords t) = 1#1) (h4 :  k0_cond4 (grid0.coords t) = 1#1) :
    Pre m c t ⊢ wp frame (wpE (defs₀ (F := Ideal)) Variants.none c none) Set.univ (bodyAt0 t) (fun _ => Post m c t) := by
  have hN := N_eq
  have hlt := t.isLt
  have hs : (stp (grid0.coords t)).val = t.val % 32 := (points t).1
  unfold Pre Post Phi
  unfold Dat.owesAt Pipeline.owesWithin
  rw [show (dats m 0 c).owed t.castSucc = 0 from rfl, show (dats m 0 c).owed t.succ = 0 from rfl]
  simp only [before0_0_of m (dats m 0 c) (A_eq m c 0) (fun _ => rfl) t, before0_1_of m (dats m 0 c) (A_eq m c 1) (fun _ => rfl) t, before0_2_of m (dats m 0 c) (A_eq m c 2) (fun _ => rfl) t]
  unfold owns
  iintro ⟨⟨⟨%f10, %f11, %f12, %f13, %f14, %f15, %f16, %f17, %f18, %f19, H10, H11, H12, H13, H14, H15, H16, H17, H18, H19, %I⟩, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (wp_wand_r Idealize.ShloMosaic.frame (wpE (defs₀ (F := Ideal)) Variants.none (c : Thread nD τ) none) Set.univ)
  isplitl [H3 H4 H5 H6 H7 H8 H9 H10 H11 H12 H13 H14 H15 H16 H17 H18 H19]
  · have key := runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h2 h3 h4 f3 f4 f5 f6 f7 f8 f9 f10 f11 f12 f13 f14 f15 f16 f17 f18 f19
    iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %u ⟨%g7, %g8, %g9, %g16, %g17, %g18, %g19, H3, H4, H5, H6, H7, H8, H9, H10, H11, H12, H13, H14, H15, H16, H17, H18, H19, %K⟩
  obtain ⟨K18, K9, K⟩ := K
  have I0 : Inv (X m c) (SG m c) (32) ((Memref.whole cc0_scratch0).view.read (Elt Ideal) f10) ((Memref.whole cc0_scratch1).view.read (Elt Ideal) f11) ((Memref.whole cc0_scratch2).view.read (Elt Ideal) f12) ((Memref.whole cc0_scratch3).view.read (Elt Ideal) f13) ((Memref.whole cc0_scratch4).view.read (Elt Ideal) f14) ((Memref.whole cc0_scratch8).view.read (Elt Ideal) f18) := by rw [← ht]; exact I
  rw [inv_ts I0] at K18 K9 K
  have I' : Inv (X m c) (SG m c) (t.val + 1) ((Memref.whole cc0_scratch0).view.read (Elt Ideal) f10) ((Memref.whole cc0_scratch1).view.read (Elt Ideal) f11) ((Memref.whole cc0_scratch2).view.read (Elt Ideal) f12) ((Memref.whole cc0_scratch3).view.read (Elt Ideal) f13) ((Memref.whole cc0_scratch4).view.read (Elt Ideal) f14) ((Memref.whole cc0_scratch8).view.read (Elt Ideal) g18) := by
    rw [ht]
    exact inv_C I0 K18
  obtain ⟨o7, o8⟩ := codes_of le_rfl (e4.trans (iblk1 m c t)) (e5.trans (iblk2 m c t (by omega))) I0 rfl K (s2 t) rfl
  have o9 : (st0_6 t).view.read (Elt Ideal) g9 = fun _ : S1.Idx => TS (X m c) (SG m c) := by
    funext y
    rw [← K9]
    congr 1
    funext a
    fin_cases a
    exact Subsingleton.elim (α := Fin 1) _ _
  isplitl [H10 H11 H12 H13 H14 H15 H16 H17 H18 H19 Hg]
  · isplitr [Hg]
    · iexists f10, f11, f12, f13, f14, f15, g16, g17, g18, g19
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      ipureintro; exact I'
    iexact Hg
  isplitl [HW]
  · iexists W; isplitr; · ipureintro; exact fun _ _ => Or.inl trivial
    iexact HW
  isplitl [H3]
  · skip
    iapply (leave_live m c 0 t rfl)
    unfold owns; iexists f3; isplitr; swap; · iexact H3
    ipureintro; exact e3
  isplitl [H4]
  · skip
    iapply (leave_live m c 1 t rfl)
    unfold owns; iexists f4; isplitr; swap; · iexact H4
    ipureintro; exact e4
  isplitl [H5]
  · skip
    iapply (leave_live m c 2 t rfl)
    unfold owns; iexists f5; isplitr; swap; · iexact H5
    ipureintro; exact e5
  isplitl [H6]
  · skip
    iapply (leave_idle m c 3 t (by rw [idle3]; exact decide_eq_true (by omega)) d6 (fun _ => keep3 m c t (by omega) _))
    unfold owns; iexists f6; isplitr; swap; · iexact H6
    ipureintro; exact e6
  isplitl [H7]
  · skip
    iapply (leave_live m c 4 t (by rw [idle4]; exact decide_eq_false (by omega)))
    unfold owns; iexists g7; isplitr; swap; · iexact H7
    ipureintro; exact o7
  isplitl [H8]
  · skip
    iapply (leave_live m c 5 t (by rw [idle5]; exact decide_eq_false (by omega)))
    unfold owns; iexists g8; isplitr; swap; · iexact H8
    ipureintro; exact o8
  iapply (leave_live m c 6 t (by rw [idle6]; exact decide_eq_false (by omega)))
  unfold owns; iexists g9; isplitr; swap; · iexact H9
  ipureintro; exact o9

set_option maxHeartbeats 8000000 in
/-- The body at the other points of the second phase. -/
theorem soundD (c : Dev nD) (t : Fin cfg0.N) (ht : 32 < t.val) (h1 : ¬ cond1 (grid0.coords t) = 1#1) (h2 : ¬ k0_cond2 (grid0.coords t) = 1#1) (h3 : ¬ k0_cond3 (grid0.coords t) = 1#1) (h4 :  k0_cond4 (grid0.coords t) = 1#1) :
    Pre m c t ⊢ wp frame (wpE (defs₀ (F := Ideal)) Variants.none c none) Set.univ (bodyAt0 t) (fun _ => Post m c t) := by
  have hN := N_eq
  have hlt := t.isLt
  have hs : (stp (grid0.coords t)).val = t.val % 32 := (points t).1
  unfold Pre Post Phi
  unfold Dat.owesAt Pipeline.owesWithin
  rw [show (dats m 0 c).owed t.castSucc = 0 from rfl, show (dats m 0 c).owed t.succ = 0 from rfl]
  simp only [before0_0_of m (dats m 0 c) (A_eq m c 0) (fun _ => rfl) t, before0_1_of m (dats m 0 c) (A_eq m c 1) (fun _ => rfl) t, before0_2_of m (dats m 0 c) (A_eq m c 2) (fun _ => rfl) t]
  unfold owns
  iintro ⟨⟨⟨%f10, %f11, %f12, %f13, %f14, %f15, %f16, %f17, %f18, %f19, H10, H11, H12, H13, H14, H15, H16, H17, H18, H19, %I⟩, Hg⟩, ⟨%W, -, HW⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  have hts : ∀ a b, (Memref.whole cc0_scratch8).view.read (Elt Ideal) f18 (ix2 a b) = TS (X m c) (SG m c) := I.scale (by omega)
  iapply (wp_wand_r Idealize.ShloMosaic.frame (wpE (defs₀ (F := Ideal)) Variants.none (c : Thread nD τ) none) Set.univ)
  isplitl [H3 H4 H5 H6 H7 H8 H9 H10 H11 H12 H13 H14 H15 H16 H17 H18 H19]
  · have key := runD c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) h1 h2 h3 h4 f3 f4 f5 f6 f7 f8 f9 f10 f11 f12 f13 f14 f15 f16 f17 f18 f19 _ hts
    iapply key
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  iintro %u ⟨%g7, %g8, %g16, %g17, %g19, H3, H4, H5, H6, H7, H8, H9, H10, H11, H12, H13, H14, H15, H16, H17, H18, H19, %K⟩
  have I' : Inv (X m c) (SG m c) (t.val + 1) ((Memref.whole cc0_scratch0).view.read (Elt Ideal) f10) ((Memref.whole cc0_scratch1).view.read (Elt Ideal) f11) ((Memref.whole cc0_scratch2).view.read (Elt Ideal) f12) ((Memref.whole cc0_scratch3).view.read (Elt Ideal) f13) ((Memref.whole cc0_scratch4).view.read (Elt Ideal) f14) ((Memref.whole cc0_scratch8).view.read (Elt Ideal) f18) := inv_D (by omega) I
  obtain ⟨o7, o8⟩ := codes_of (by omega) (e4.trans (iblk1 m c t)) (e5.trans (iblk2 m c t (by omega))) I rfl K (s2 t) rfl
  isplitl [H10 H11 H12 H13 H14 H15 H16 H17 H18 H19 Hg]
  · isplitr [Hg]
    · iexists f10, f11, f12, f13, f14, f15, g16, g17, f18, g19
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      ipureintro; exact I'
    iexact Hg
  isplitl [HW]
  · iexists W; isplitr; · ipureintro; exact fun _ _ => Or.inl trivial
    iexact HW
  isplitl [H3]
  · skip
    iapply (leave_live m c 0 t rfl)
    unfold owns; iexists f3; isplitr; swap; · iexact H3
    ipureintro; exact e3
  isplitl [H4]
  · skip
    iapply (leave_live m c 1 t rfl)
    unfold owns; iexists f4; isplitr; swap; · iexact H4
    ipureintro; exact e4
  isplitl [H5]
  · skip
    iapply (leave_live m c 2 t rfl)
    unfold owns; iexists f5; isplitr; swap; · iexact H5
    ipureintro; exact e5
  isplitl [H6]
  · skip
    iapply (leave_idle m c 3 t (by rw [idle3]; exact decide_eq_true (by omega)) d6 (fun _ => keep3 m c t (by omega) _))
    unfold owns; iexists f6; isplitr; swap; · iexact H6
    ipureintro; exact e6
  isplitl [H7]
  · skip
    iapply (leave_live m c 4 t (by rw [idle4]; exact decide_eq_false (by omega)))
    unfold owns; iexists g7; isplitr; swap; · iexact H7
    ipureintro; exact o7
  isplitl [H8]
  · skip
    iapply (leave_live m c 5 t (by rw [idle5]; exact decide_eq_false (by omega)))
    unfold owns; iexists g8; isplitr; swap; · iexact H8
    ipureintro; exact o8
  iapply (leave_idle m c 6 t (by rw [idle6]; exact decide_eq_true (by omega)) d9 (fun _ => keep6 m c t (by omega) _))
  unfold owns; iexists f9; isplitr; swap; · iexact H9
  ipureintro; exact e9

theorem sound (c : Dev nD) (t : Fin cfg0.N) :
    Pre m c t ⊢ wp frame (wpE (defs₀ (F := Ideal)) Variants.none c none) Set.univ (bodyAt0 t) (fun _ => Post m c t) := by
  obtain ⟨-, p2, p4, p1, p3⟩ := points t
  rcases kinds t with ⟨h1, h2, h3, h4⟩ | ⟨h1, h2, h3, h4⟩ | ⟨h1, h2, h3, h4⟩ | ⟨h1, h2, h3, h4⟩
  · exact soundA m c t (p1.1 h1) h1 h2 h3 h4
  · exact soundB m c t ⟨fun q => h1 (p1.2 q), p2 h2⟩ h1 h2 h3 h4
  · exact soundC m c t (p3.1 h3) h1 h2 h3 h4
  · exact soundD m c t (by have : ¬ t.val = 32 := fun q => h3 (p3.2 q); have := p4 h4; omega) h1 h2 h3 h4

theorem obligation (c : Dev nD) : BodyObligation (dats m 0 c) defs₀ Variants.none () Set.univ := fun t => by
  rw [bigSep_W0, bigSep_W0, defs₀_row]
  exact triple_restated (sound m c t) rfl .rfl fun _ => .rfl

theorem enter (c : Dev nD) : (Pipeline.ΦA spec0 c : sProp 𝕄) ⊢ (dats m 0 c).Φ 0 := by
  rw [show (dats m 0 c).Φ 0 = Phi m c 0 from rfl, phiA_eq]
  unfold Phi
  iintro ⟨⟨⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩, Hg⟩
  isplitr [Hg]
  · iexists f10, f11, f12, f13, f14, f15, f16, f17, f18, f19
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    ipureintro; exact inv_zero _ _ _ _ _ _ _ _
  iexact Hg
theorem exit (c : Dev nD) : (dats m 0 c).Φ (Fin.last cfg0.N) ⊢ (Pipeline.ΦA spec0 c : sProp 𝕄) := by
  rw [show (dats m 0 c).Φ (Fin.last cfg0.N) = Phi m c cfg0.N from rfl, phiA_eq]
  unfold Phi
  iintro ⟨⟨%f10, %f11, %f12, %f13, %f14, %f15, %f16, %f17, %f18, %f19, H10, H11, H12, H13, H14, H15, H16, H17, H18, H19, -⟩, Hg⟩
  isplitr [Hg]
  · isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  iexact Hg

set_option backward.isDefEq.respectTransparency.types false in
/-- The program runs; the four results hold what the pipeline's write-backs leave, the arguments what they held. -/
theorem run_arrays : θ_run defs (onTc (τ := τ) (main (F := Ideal))) ⟨m, fun _ => 0, ρ⟩ (fun r => ∀ c : Dev nD,
      (r.2.mem ((c.tc : Thread nD τ).loc main_v2_0) = (dats m 0 c).arrAt 3 cfg0.N
      ∧ r.2.mem ((c.tc : Thread nD τ).loc main_v2_1) = (dats m 0 c).arrAt 4 cfg0.N
      ∧ r.2.mem ((c.tc : Thread nD τ).loc main_v2_2) = (dats m 0 c).arrAt 5 cfg0.N
      ∧ r.2.mem ((c.tc : Thread nD τ).loc main_v2_3) = (dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨⟨(h c).1 3, (h c).1 4, (h c).1 5, (h c).1 6⟩,
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c)⟩)
    (Pipeline.θ_run_frame_track cfgs (dats m) (0 : Fin 1) launch0 defs₀ Variants.none m ρ main
      (hbody := fun c => (obligation m c).loose) (hshare := fun c => (dats m 0 c).share_full fun _ => rfl)
      (howed := fun _ _ => rfl) (V := V m) (hmain := hmain m Variants.none) (hA := A_eq m) (hin := enter m) (hout := exit m))

end Cert.KernelIdeal.Hand
end
-- ==== Proof.Arrays.lean ====
module

public import proofs.«01_k».proof.Proof.Value

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The step that handles token `tok` and quarter `k` of the channels. -/
def stepAt (tok : ℕ) (h : tok < 2048) (k : ℕ) (hk : k < 4) : Fin 32 := ⟨4 * (tok / 256) + k, by omega⟩

/-- The block maxima, the codes and the block scales as whole arrays. -/
def outM (X : S2048x16384.Idx → EReal) (SG : S16.Idx → EReal) (tok : Fin 2048) (b : Fin 1024) : EReal :=
  AM X SG (stepAt tok tok.isLt (b.val / 256) (by omega)) ⟨b.val % 256, by omega⟩ ⟨tok.val % 256, by omega⟩
def outC (X : S2048x16384.Idx → EReal) (RD : S2048x16384.Idx → BitVec 8) (SG : S16.Idx → EReal) (tok : Fin 2048) (b : Fin 8192) : BitVec 8 :=
  CO X RD SG (stepAt tok tok.isLt (b.val / 2048) (by omega)) ⟨tok.val % 256, by omega⟩ ⟨b.val % 2048, by omega⟩
def outS (X : S2048x16384.Idx → EReal) (SG : S16.Idx → EReal) (tok : Fin 2048) (b : Fin 1024) : EReal :=
  sbOf (TS X SG) (outM X SG tok b)

theorem index3 : ∀ t : Fin cfg0.N, win0_3.index t = ![(min t.val 31) / 4, (min t.val 31) % 4] := by decide +kernel
theorem index4 : ∀ t : Fin cfg0.N, 32 ≤ t.val → win0_4.index t = ![(t.val % 32) / 4, (t.val % 32) % 4] := by decide +kernel
theorem index5 : ∀ t : Fin cfg0.N, 32 ≤ t.val → win0_5.index t = ![(t.val % 32) / 4, (t.val % 32) % 4] := by decide +kernel

theorem final3 (c : Dev nD) : (dats m 0 c).arrAt 3 cfg0.N = fun y : S2048x1024.Idx => outM (X m c) (SG m c) (y 0) (y 1) := by
  refine (dats m 0 c).arrAt_eq_of_covers 3 _ (by decide +kernel) fun t hf y => ?_
  have e := index3 t
  have h0 : (y 0).val < 256 := (y 0).isLt
  have h1 : (y 1).val < 256 := (y 1).isLt
  blk_simp
  show AM (X m c) (SG m c) (s1 t) (y 1) (y 0) = outM (X m c) (SG m c) _ _
  unfold outM
  congr 1
  all_goals apply Fin.ext; (try unfold s1); (try unfold stepAt); blk_simp [e]; (try simp); (try omega)

theorem final4 (c : Dev nD) : (dats m 0 c).arrAt 4 cfg0.N = fun y : S2048x8192.Idx => outC (X m c) (RD m c) (SG m c) (y 0) (y 1) := by
  refine (dats m 0 c).arrAt_eq_of_covers 4 _ (by decide +kernel) fun t hf y => ?_
  have ht : 32 ≤ t.val := of_decide_eq_true ((flush4 t).symm.trans hf)
  have e := index4 t ht
  have hs := (points t).1
  have h0 : (y 0).val < 256 := (y 0).isLt
  have h1 : (y 1).val < 2048 := (y 1).isLt
  blk_simp
  show CO (X m c) (RD m c) (SG m c) (s2 t) (y 0) (y 1) = outC (X m c) (RD m c) (SG m c) _ _
  unfold outC
  congr 1
  all_goals apply Fin.ext; (try unfold stepAt); blk_simp [e, s2, hs]; (try simp); (try omega)

theorem final5 (c : Dev nD) : (dats m 0 c).arrAt 5 cfg0.N = fun y : S2048x1024.Idx => outS (X m c) (SG m c) (y 0) (y 1) := by
  refine (dats m 0 c).arrAt_eq_of_covers 5 _ (by decide +kernel) fun t hf y => ?_
  have ht : 32 ≤ t.val := of_decide_eq_true ((flush5 t).symm.trans hf)
  have e := index5 t ht
  have hs := (points t).1
  have h0 : (y 0).val < 256 := (y 0).isLt
  have h1 : (y 1).val < 256 := (y 1).isLt
  blk_simp
  show sbOf (TS (X m c) (SG m c)) (AM (X m c) (SG m c) (s2 t) (y 1) (y 0)) = outS (X m c) (SG m c) _ _
  unfold outS outM
  congr 2
  all_goals apply Fin.ext; (try unfold stepAt); blk_simp [e, s2, hs]; (try simp); (try omega)

theorem final6 (c : Dev nD) : (dats m 0 c).arrAt 6 cfg0.N = fun y : S1.Idx => TS (X m c) (SG m c) := by
  refine (dats m 0 c).arrAt_eq_of_covers 6 _ (by decide +kernel) fun t hf y => ?_
  blk_simp
  rfl

/-- The program runs; its four results, element by element, and its arguments as they were. -/
theorem run_values : θ_run defs (onTc (τ := τ) (main (F := Ideal))) ⟨m, fun _ => 0, ρ⟩ (fun r => ∀ c : Dev nD,
      (r.2.mem ((c.tc : Thread nD τ).loc main_v2_0) = (fun y : S2048x1024.Idx => outM (X m c) (SG m c) (y 0) (y 1))
      ∧ r.2.mem ((c.tc : Thread nD τ).loc main_v2_1) = (fun y : S2048x8192.Idx => outC (X m c) (RD m c) (SG m c) (y 0) (y 1))
      ∧ r.2.mem ((c.tc : Thread nD τ).loc main_v2_2) = (fun y : S2048x1024.Idx => outS (X m c) (SG m c) (y 0) (y 1))
      ∧ r.2.mem ((c.tc : Thread nD τ).loc main_v2_3) = (fun y : S1.Idx => TS (X m c) (SG m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨⟨(h c).1.1.trans (final3 m c), (h c).1.2.1.trans (final4 m c), (h c).1.2.2.1.trans (final5 m c), (h c).1.2.2.2.trans (final6 m c)⟩, (h c).2⟩)
    (run_arrays m ρ)

/-- The arrays the region finds, as the arguments. -/
theorem X_eq (c : Dev nD) (tok : Fin 2048) (ch : Fin 16384) : X m c (ix2 tok ch) = (m ((c.tc : Thread nD τ).loc main_arg0) : S1x2048x16384.Idx → EReal) (ix3 0 tok ch) := by
  unfold X
  entry_read
  pointwise
theorem RD_eq (c : Dev nD) (tok : Fin 2048) (ch : Fin 16384) : RD m c (ix2 tok ch) = (m ((c.tc : Thread nD τ).loc main_arg2) : S1x2048x16384.Idx → BitVec 8) (ix3 0 tok ch) := by
  unfold RD
  entry_read
  pointwise
theorem SG_eq (c : Dev nD) : SG m c = m ((c.tc : Thread nD τ).loc main_arg1) := V_main_arg1 m c

end Cert.KernelIdeal.Hand
end
-- ==== Proof.Math.lean ====
module

public import Idealize.ShloMosaic.Lib.Pointwise
public import Idealize.ShloMosaic.PureOps.Ideal

@[expose] public section

set_option maxRecDepth 16384
set_option maxHeartbeats 1000000

noncomputable section

namespace Cert.Math

open Idealize.ShloMosaic

variable (X : Fin 2048 → Fin 16384 → EReal) (sg : Fin 16 → EReal)

/-- The parity of the bits that two numbers below sixteen share, as a word. -/
def par (i x : Fin 16) : BitVec 32 :=
  IntOp.andi
    (IntOp.addi
      (IntOp.addi
        (IntOp.addi (IntOp.andi (IntOp.andi (BitVec.ofNat 32 i.val) (BitVec.ofNat 32 x.val)) 1#32)
          (IntOp.andi (IntOp.shrsi ArithUnit.host (IntOp.andi (BitVec.ofNat 32 i.val) (BitVec.ofNat 32 x.val)) 1#32) 1#32))
        (IntOp.andi (IntOp.shrsi ArithUnit.host (IntOp.andi (BitVec.ofNat 32 i.val) (BitVec.ofNat 32 x.val)) 2#32) 1#32))
      (IntOp.andi (IntOp.shrsi ArithUnit.host (IntOp.andi (BitVec.ofNat 32 i.val) (BitVec.ofNat 32 x.val)) 3#32) 1#32))
    1#32

/-- An entry of the normalised Hadamard matrix: a quarter, negated where the parity is odd. -/
def had (i x : Fin 16) : EReal :=
  Ideal.ofBits FTy.f32 1048576000#32 * (1 - Ideal.ofBits FTy.f32 1073741824#32 * FloatOps.sitofp (F := Ideal) FTy.f32 (par i x))

/-- Channel `i` of block `b` of token `tok`, transformed. -/
def W (tok : Fin 2048) (b : Fin 1024) (i : Fin 16) : EReal :=
  ∑ x : Fin 16, X tok ⟨b.val * 16 + x.val, by omega⟩ * (had i x * sg x)

/-- The magnitude of a value. -/
def mg (x : EReal) : EReal := FloatOps.absf (F := Ideal) (φ := .f32) x

theorem mg_eq (x : EReal) : mg x = max x (-x) := rfl
theorem mg_nonneg (x : EReal) : 0 ≤ mg x := by
  rw [mg_eq, le_max_iff]
  rcases le_total 0 x with h | h
  · exact .inl h
  · exact .inr (by rw [← neg_zero]; exact EReal.neg_le_neg_iff.2 h)

/-- The largest magnitude of a block. -/
def M (tok : Fin 2048) (b : Fin 1024) : EReal := Finset.univ.sup fun i : Fin 16 => mg (W X sg tok b i)

theorem M_le (tok : Fin 2048) (b : Fin 1024) (z : EReal) : M X sg tok b ≤ z ↔ ∀ i, mg (W X sg tok b i) ≤ z := by
  unfold M
  rw [Finset.sup_le_iff]
  exact ⟨fun h i => h i (Finset.mem_univ _), fun h i _ => h i⟩

theorem M_nonneg (tok : Fin 2048) (b : Fin 1024) : 0 ≤ M X sg tok b :=
  (mg_nonneg (W X sg tok b 0)).trans ((M_le X sg tok b _).1 le_rfl 0)

/-- The largest magnitude of all. -/
def G : EReal := Finset.univ.sup fun p : Fin 2048 × Fin 1024 => M X sg p.1 p.2

theorem G_le (z : EReal) : G X sg ≤ z ↔ ∀ tok b, M X sg tok b ≤ z := by
  unfold G
  simp only [Finset.sup_le_iff, Finset.mem_univ, true_imp_iff, Prod.forall]

/-- The tensor scale. -/
def T : EReal := if 0 < G X sg then Ideal.div (G X sg) (Ideal.ofBits .f32 1160249344#32) else 1

/-- The scale of a block. -/
def S (tok : Fin 2048) (b : Fin 1024) : EReal := Ideal.div (M X sg tok b) (Ideal.ofBits .f32 1086324736#32 * T X sg)

end Cert.Math
end
-- ==== Proof.Tie.lean ====
module

public import proofs.«01_k».proof.Proof.Arrays
public import proofs.«01_k».proof.Proof.Math

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (X : S2048x16384.Idx → EReal) (RD : S2048x16384.Idx → BitVec 8) (SG : S16.Idx → EReal)

/-- The array of activations by token and channel; the signs by channel. -/
def ofArr {α : Type} (X : S2048x16384.Idx → α) : Fin 2048 → Fin 16384 → α := fun t c => X (ix2 t c)
def ofSg (SG : S16.Idx → EReal) : Fin 16 → EReal := fun j => SG (ix1 j)

/-- The channel of its block that row `a` of a tile holds. -/
def rowCh (a : Fin 256) : Fin 16 := ⟨2 * (a.val % 8) + (a.val / 8) % 2, by omega⟩

theorem and15 (n : ℕ) : BitVec.ofNat 32 n &&& 15#32 = BitVec.ofNat 32 (n % 16) := by
  apply BitVec.eq_of_toNat_eq
  rw [BitVec.toNat_and, BitVec.toNat_ofNat, BitVec.toNat_ofNat (n % 16)]
  show (n % 2^32) &&& 15 = _
  rw [show (15 : ℕ) = 2^4 - 1 from rfl, Nat.and_two_pow_sub_one_eq_mod]
  omega

theorem par_table : ∀ i x : Fin 16, parW (BitVec.ofNat 32 i.val &&& BitVec.ofNat 32 x.val) = Cert.Math.par i x := by decide +kernel

theorem par_eq (a : Fin 256) (j : Fin 256) (i x : Fin 16) (hi : (chan a).val % 16 = i.val) (hx : j.val % 16 = x.val) :
    parW (BitVec.ofNat 32 (chan a).val &&& BitVec.ofNat 32 j.val &&& 15#32) = Cert.Math.par i x := by
  rw [← par_table]
  congr 1
  rw [show (BitVec.ofNat 32 (chan a).val &&& BitVec.ofNat 32 j.val &&& 15#32) = (BitVec.ofNat 32 (chan a).val &&& 15#32) &&& (BitVec.ofNat 32 j.val &&& 15#32) from by
      ext k hk; simp only [BitVec.getElem_and]; rcases (15#32)[k] with _ | _ <;> simp,
    and15, and15, hi, hx]

/-- An entry of a transformed tile is the transform of its block, at its row's channel. -/
theorem tile_W (s : Fin 32) (k : Fin 16) (a t : Fin 256) (tok : Fin 2048) (b : Fin 1024) (i : Fin 16)
    (htok : tok.val = 256 * (s.val / 4) + t.val) (hb : b.val = 256 * (s.val % 4) + 16 * k.val + a.val / 16) (hi : i = rowCh a) :
    wTile (RM SG) (blkS X s) k (ix2 a t) = Cert.Math.W (ofArr X) (ofSg SG) tok b i := by
  subst hi
  show ∑ j : Fin 256, (if a.val / 16 = j.val / 16 then _ else 0) * blkS X s (ix2 t (⟨256 * k.val + j.val, by omega⟩ : Fin 4096)) = _
  simp only [ite_mul, zero_mul]
  rw [← Finset.sum_filter]
  unfold Cert.Math.W
  refine (Finset.sum_bij (fun (x : Fin 16) _ => (⟨16 * (a.val / 16) + x.val, by omega⟩ : Fin 256)) ?_ ?_ ?_ ?_).symm
  · intro x _; simp; omega
  · intro x _ y _ h; simp at h; exact Fin.ext h
  · intro j hj
    simp at hj
    exact ⟨⟨j.val % 16, by omega⟩, Finset.mem_univ _, Fin.ext (by simp; omega)⟩
  · intro x _
    have e : (⟨(16 * (a.val / 16) + x.val) % 16, Nat.mod_lt _ (by decide)⟩ : Fin 16) = x := Fin.ext (by show (16 * (a.val / 16) + x.val) % 16 = x.val; omega)
    rw [mul_comm]
    unfold Cert.Math.had
    congr 1
    · rw [← par_eq a ⟨16 * (a.val / 16) + x.val, by omega⟩ (rowCh a) x (by unfold chan rowCh; simp only; omega) (by simp only; omega)]
      show _ = (1 - _) * _ * SG (ix1 ⟨(16 * (a.val / 16) + x.val) % 16, Nat.mod_lt _ (by decide)⟩)
      rw [e, mul_comm (Ideal.ofBits FTy.f32 1048576000#32)]
      rfl
    · unfold ofArr blkS
      congr 1
      blk_ext

/-- A block's maximum is the largest magnitude of its sixteen transformed channels. -/
theorem AM_eq (s : Fin 32) (b t : Fin 256) (tok : Fin 2048) (B : Fin 1024) (htok : tok.val = 256 * (s.val / 4) + t.val) (hb : B.val = 256 * (s.val % 4) + b.val) :
    AM X SG s b t = Cert.Math.M (ofArr X) (ofSg SG) tok B := by
  refine eq_of_forall_ge_iff fun z => ?_
  rw [Cert.Math.M_le]
  unfold AM amB blkMax
  rw [Finset.sup_le_iff]
  have key : ∀ a : Fin 256, a.val / 16 = b.val % 16 → mag (wTile (RM SG) (blkS X s) ⟨b.val / 16, by omega⟩ (ix2 a t)) = Cert.Math.mg (Cert.Math.W (ofArr X) (ofSg SG) tok B (rowCh a)) :=
    fun a ha => congrArg Cert.Math.mg (tile_W X SG s _ a t tok B _ htok (by simp only; omega) rfl)
  constructor
  · intro h i
    have h' := h ⟨i.val / 2, by omega⟩ (Finset.mem_univ _)
    unfold pairMax at h'
    rw [max_le_iff, key _ (by simp only; omega), key _ (by simp only; omega)] at h'
    rcases Nat.mod_two_eq_zero_or_one i.val with e | e
    · have : rowCh ⟨16 * (b.val % 16) + i.val / 2, by omega⟩ = i := Fin.ext (by unfold rowCh; simp only; omega)
      rw [← this]; exact h'.1
    · have : rowCh ⟨16 * (b.val % 16) + 8 + i.val / 2, by omega⟩ = i := Fin.ext (by unfold rowCh; simp only; omega)
      rw [← this]; exact h'.2
  · intro h i _
    unfold pairMax
    rw [max_le_iff, key _ (by simp only; omega), key _ (by simp only; omega)]
    exact ⟨h _, h _⟩

theorem outM_eq (tok : Fin 2048) (b : Fin 1024) : outM X SG tok b = Cert.Math.M (ofArr X) (ofSg SG) tok b :=
  AM_eq X SG _ _ _ _ _ (by unfold stepAt; simp only; omega) (by unfold stepAt; simp only; omega)

theorem GM_eq : GM X SG = Cert.Math.G (ofArr X) (ofSg SG) := by
  refine eq_of_forall_ge_iff fun z => ?_
  rw [GM_le, Cert.Math.G_le]
  constructor
  · rintro ⟨-, h⟩ tok b
    rw [← outM_eq]
    exact h _ _ _
  · intro h
    refine ⟨(Cert.Math.M_nonneg (ofArr X) (ofSg SG) 0 0).trans (h 0 0), fun s b t => ?_⟩
    rw [AM_eq X SG s b t ⟨256 * (s.val / 4) + t.val, by omega⟩ ⟨256 * (s.val % 4) + b.val, by omega⟩ rfl rfl]
    exact h _ _

theorem TS_eq : TS X SG = Cert.Math.T (ofArr X) (ofSg SG) := by
  unfold TS tsOf
  rw [GM_eq]
  rfl

theorem outS_eq (tok : Fin 2048) (b : Fin 1024) : outS X SG tok b = Cert.Math.S (ofArr X) (ofSg SG) tok b := by
  unfold outS sbOf
  rw [outM_eq, TS_eq]
  rfl

end Cert.KernelIdeal.Hand
end
-- ==== Proof.CodeBits.lean ====
module

public import proofs.«01_k».proof.Proof.Loop2

@[expose] public section

set_option maxRecDepth 16384
set_option maxHeartbeats 4000000

noncomputable section

namespace Cert.KernelIdeal.Hand

open Cert.KernelIdeal Idealize.ShloMosaic

theorem word4_and (f g : Fin 4 → BitVec 8) : word4 f &&& word4 g = word4 fun q => f q &&& g q := by
  apply BitVec.eq_of_getLsbD_eq
  intro i hi
  rw [BitVec.getLsbD_and, word4_getLsbD _ _ hi, word4_getLsbD _ _ hi, word4_getLsbD _ _ hi, BitVec.getLsbD_and]

theorem word4_or (f g : Fin 4 → BitVec 8) : word4 f ||| word4 g = word4 fun q => f q ||| g q := by
  apply BitVec.eq_of_getLsbD_eq
  intro i hi
  rw [BitVec.getLsbD_or, word4_getLsbD _ _ hi, word4_getLsbD _ _ hi, word4_getLsbD _ _ hi, BitVec.getLsbD_or]

theorem or_shift (a b k : ℕ) (h : a < 2 ^ k) : a ||| b <<< k = a + b * 2 ^ k := by
  rw [Nat.or_comm, ← Nat.shiftLeft_add_eq_or_of_lt h, Nat.shiftLeft_eq, Nat.add_comm]

theorem word4_toNat (f : Fin 4 → BitVec 8) : (word4 f).toNat = (f 0).toNat + (f 1).toNat * 256 + (f 2).toNat * 65536 + (f 3).toNat * 16777216 := by
  have h0 := (f 0).isLt
  have h1 := (f 1).isLt
  have h2 := (f 2).isLt
  have h3 := (f 3).isLt
  have s : ∀ (a k : ℕ), a * 2 ^ k < 4294967296 → (a <<< k) % 2 ^ 32 = a <<< k := fun a k h => Nat.mod_eq_of_lt (by rw [Nat.shiftLeft_eq]; exact h)
  have w : ∀ x : BitVec 8, (x.setWidth 32).toNat = x.toNat := fun x => by
    rw [BitVec.toNat_setWidth]; exact Nat.mod_eq_of_lt (by have := x.isLt; omega)
  unfold word4
  rw [BitVec.toNat_or, BitVec.toNat_or, BitVec.toNat_or, BitVec.toNat_shiftLeft, BitVec.toNat_shiftLeft, BitVec.toNat_shiftLeft, w, w, w, w,
    s _ 8 (by omega), s _ 16 (by omega), s _ 24 (by omega), or_shift _ _ 8 (by omega), or_shift _ _ 16 (by omega), or_shift _ _ 24 (by omega)]
  simp only [Nat.reducePow]

theorem word4_sub (f : Fin 4 → BitVec 8) (h : ∀ q, 17 ≤ (f q).toNat) : word4 f - 286331153#32 = word4 fun q => f q - 17#8 := by
  have e : ∀ q, (f q - 17#8).toNat = (f q).toNat - 17 := fun q => by
    have := h q
    have := (f q).isLt
    rw [BitVec.toNat_sub]
    show (2 ^ 8 - 17 + (f q).toNat) % 2 ^ 8 = _
    omega
  apply BitVec.eq_of_toNat_eq
  rw [BitVec.toNat_sub, word4_toNat, word4_toNat, e, e, e, e]
  have h0 := h 0
  have h1 := h 1
  have h2 := h 2
  have h3 := h 3
  have l0 := (f 0).isLt
  have l1 := (f 1).isLt
  have l2 := (f 2).isLt
  have l3 := (f 3).isLt
  show (4294967296 - 286331153 + _) % 4294967296 = _
  omega

theorem word4_add (f : Fin 4 → BitVec 8) (h : ∀ q, (f q).toNat ≤ 136) : word4 f + 1717986918#32 = word4 fun q => f q + 102#8 := by
  have e : ∀ q, (f q + 102#8).toNat = (f q).toNat + 102 := fun q => by
    have := h q
    rw [BitVec.toNat_add]
    show ((f q).toNat + 102) % 2 ^ 8 = _
    omega
  apply BitVec.eq_of_toNat_eq
  rw [BitVec.toNat_add, word4_toNat, word4_toNat, e, e, e, e]
  have h0 := h 0
  have h1 := h 1
  have h2 := h 2
  have h3 := h 3
  show (_ + 1717986918) % 4294967296 = _
  omega

/-- The codes of four packed fields under four packed signs, byte by byte. -/
theorem codeWord_word4 (f s : Fin 4 → BitVec 8) (h : ∀ q, 17 ≤ (f q).toNat) (h' : ∀ q, (f q).toNat ≤ 136) :
    codeWord (word4 f) (word4 s) = word4 fun q => (f q - 17#8) ||| ((f q + 102#8) &&& s q) := by
  unfold codeWord
  rw [word4_sub f h, word4_add f h', word4_and, word4_or]

/-- Two four-bit fields, each one more than a code, as a byte. -/
def fbyte (e o : ℕ) : BitVec 8 := BitVec.ofNat 8 ((e + 1) + 16 * (o + 1))
/-- Two signs as the top bits of the two halves of a byte. -/
def sbyte (e o : Bool) : BitVec 8 := (bif o then 128#8 else 0#8) ||| (bif e then 8#8 else 0#8)
/-- A code with its sign: bit three where the code is not zero. -/
def nib (neg : Bool) (n : ℕ) : BitVec 32 := if neg = true ∧ 0 < n then BitVec.ofNat 32 n ||| 8#32 else BitVec.ofNat 32 n
/-- Two signed codes packed. -/
def pack (a b : BitVec 32) : BitVec 8 := (a ||| b <<< 4).setWidth 8

theorem code_table : ∀ (e o : Fin 8) (se so : Bool), (fbyte e.val o.val - 17#8) ||| ((fbyte e.val o.val + 102#8) &&& sbyte se so) = pack (nib se e.val) (nib so o.val) := by
  decide +kernel

theorem fbyte_bounds : ∀ (e o : Fin 8), 17 ≤ (fbyte e.val o.val).toNat ∧ (fbyte e.val o.val).toNat ≤ 136 := by decide +kernel

theorem fbyte_append : ∀ (e o : Fin 8), BitVec.ofNat 4 (o.val + 1) ++ BitVec.ofNat 4 (e.val + 1) = fbyte e.val o.val := by decide +kernel

/-- The four field bits of a half. -/
theorem field_bits (x : BitVec 16) (n : ℕ) (h : x.toNat / 64 = 561 + n) (hn : n ≤ 7) : x.extractLsb' 6 4 = BitVec.ofNat 4 (n + 1) := by
  apply BitVec.eq_of_toNat_eq
  rw [BitVec.extractLsb'_toNat, Nat.shiftRight_eq_div_pow, BitVec.toNat_ofNat]
  omega

theorem field_word (O E : BitVec 32) (x : ℕ) (hx : x < 2) :
    (((O &&& 62915520#32) >>> 2) ||| ((E &&& 62915520#32) >>> 6)).extractLsb' (16 * x) 8 = O.extractLsb' (16 * x + 6) 4 ++ E.extractLsb' (16 * x + 6) 4 := by
  apply BitVec.eq_of_getLsbD_eq
  intro i hi
  rw [BitVec.getLsbD_append]
  interval_cases x <;> interval_cases i <;> simp

theorem half_bits (o0 o1 : BitVec 16) (x : ℕ) (hx : x < 2) : (o1 ++ o0).extractLsb' (16 * x + 6) 4 = (if x = 0 then o0 else o1).extractLsb' 6 4 := by
  apply BitVec.eq_of_getLsbD_eq
  intro i hi
  rw [BitVec.getLsbD_extractLsb', BitVec.getLsbD_extractLsb', BitVec.getLsbD_append]
  rcases (by omega : x = 0 ∨ x = 1) with h | h
  · subst h
    rw [if_pos (by omega), if_pos rfl, Nat.mul_zero, Nat.zero_add]
  · subst h
    rw [if_neg (by omega), if_neg (by omega), show 16 * 1 + 6 + i - 16 = 6 + i by omega]

/-- The field byte of a half of a word. -/
theorem field_byte (e0 e1 o0 o1 : BitVec 16) (x : ℕ) (hx : x < 2) :
    ((((o1 ++ o0) &&& 62915520#32) >>> 2) ||| (((e1 ++ e0) &&& 62915520#32) >>> 6)).extractLsb' (16 * x) 8
      = (if x = 0 then o0 else o1).extractLsb' 6 4 ++ (if x = 0 then e0 else e1).extractLsb' 6 4 := by
  rw [field_word _ _ x hx, half_bits _ _ x hx, half_bits _ _ x hx]

/-- The sign byte of a half of a word. -/
theorem sign_byte : ∀ (e0 e1 o0 o1 : Bool) (x : Fin 2),
    ((((bif o1 then 32768#16 else 0#16) ++ (bif o0 then 32768#16 else 0#16)) >>> 8) ||| (((bif e1 then 32768#16 else 0#16) ++ (bif e0 then 32768#16 else 0#16)) >>> 12) : BitVec 32).extractLsb' (16 * x.val) 8
      = sbyte (if x.val = 0 then e0 else e1) (if x.val = 0 then o0 else o1) := by
  decide +kernel

end Cert.KernelIdeal.Hand
end
-- ==== Proof.CodeMath.lean ====
module

public import proofs.«01_k».proof.Proof.Math
public import proofs.«01_k».proof.Proof.Consts

@[expose] public section

set_option maxRecDepth 16384
set_option maxHeartbeats 2000000

noncomputable section

namespace Cert.Code

open Idealize.ShloMosaic Cert.Consts

/-- The magnitude of a scaled value on the grid's own scale: the code that rounding down gives is its whole part. -/
def grid (a : ℝ) : ℝ := if a < 2 then 2 * a else if a < 4 then a + 2 else a / 2 + 4

/-- The code of a magnitude under stochastic rounding by the byte `r`: its whole part on the grid, one more where the
    rest exceeds the byte's midpoint. -/
def code (a : ℝ) (r : ℕ) : ℕ := ⌊grid a⌋₊ + if (r : ℝ) + 1 / 2 < (grid a - ⌊grid a⌋₊) * 256 then 1 else 0

theorem grid_nonneg {a : ℝ} (h : 0 ≤ a) : 0 ≤ grid a := by
  unfold grid; split_ifs <;> linarith

theorem grid_le {a : ℝ} (h : a ≤ 6) : grid a ≤ 7 := by
  unfold grid; split_ifs <;> linarith

theorem code_le {a : ℝ} (h0 : 0 ≤ a) (h6 : a ≤ 6) (r : ℕ) : code a r ≤ 7 := by
  have h7 := grid_le h6
  have hf := Nat.floor_le (grid_nonneg h0)
  have hk : ⌊grid a⌋₊ ≤ 7 := Nat.floor_le_of_le (by exact_mod_cast h7)
  unfold code
  split_ifs with h
  · by_contra hc
    have hk7 : ⌊grid a⌋₊ = 7 := by omega
    rw [hk7] at h
    have : (0 : ℝ) ≤ r := Nat.cast_nonneg r
    push_cast at h
    linarith
  · omega

/-- A word that is a whole number of half binades, a fraction and a bias, rounded to its upper half, is the code, one more, above its six low bits. -/
theorem word_code (c r K : ℕ) (up : Bool) (hr : r < 256) (h0 : K * 4194304 ≤ c) (h1 : c ≤ (K + 1) * 4194304)
    (hu : up = true ↔ K * 4194304 + 16384 * r + 8192 < c) (i : ℕ) (hi : i = 561 * 4194304 + c + 16384 * (255 - r) + 8191 - 32768) :
    (i + ((i / 65536) % 2 + 32767)) / 65536 / 64 = 561 + K + up.toNat := by
  cases up with
  | false =>
    have : ¬ (K * 4194304 + 16384 * r + 8192 < c) := fun h => Bool.noConfusion (hu.2 h)
    simp only [Bool.toNat_false]
    omega
  | true =>
    have : K * 4194304 + 16384 * r + 8192 < c := hu.1 rfl
    simp only [Bool.toNat_true]
    by_cases e : c = K * 4194304 + 16384 * r + 8193
    · subst e
      have hi' : i = K * 4194304 + 2357166080 := by omega
      have : (i / 65536) % 2 = 1 := by omega
      omega
    · omega

/-- The upper half of a word, rounded to nearest even, and capped. -/
def half (x : BitVec 32) : BitVec 16 :=
  have y : BitVec 32 := (x + ((x >>> 16 &&& 1#32) + 32767#32)) >>> 16
  (if y.slt 36415#32 then y else 36415#32).setWidth 16

theorem toInt_small (y : ℕ) (h : y < 2147483648) : (BitVec.ofNat 32 y).toInt = y := by
  have e : (BitVec.ofNat 32 y).toNat = y := by rw [BitVec.toNat_ofNat]; exact Nat.mod_eq_of_lt (by omega)
  rw [BitVec.toInt_eq_toNat_of_lt (by rw [e]; omega), e]

theorem half_ofNat (i : ℕ) (hi : i < 4294901760) (n : ℕ) (hn : n ≤ 7) (h : (i + ((i / 65536) % 2 + 32767)) / 65536 / 64 = 561 + n) :
    (half (BitVec.ofNat 32 i)).toNat / 64 = 561 + n := by
  have e : ((BitVec.ofNat 32 i + ((BitVec.ofNat 32 i >>> 16 &&& 1#32) + 32767#32)) >>> 16) = BitVec.ofNat 32 ((i + ((i / 65536) % 2 + 32767)) / 65536) := by
    apply BitVec.eq_of_toNat_eq
    have ei : i % 2 ^ 32 = i := Nat.mod_eq_of_lt (by omega)
    simp only [BitVec.toNat_ushiftRight, BitVec.toNat_add, BitVec.toNat_and, BitVec.toNat_ofNat, Nat.shiftRight_eq_div_pow, ei]
    rw [show (1 % 2 ^ 32 : ℕ) = 2 ^ 1 - 1 from rfl, Nat.and_two_pow_sub_one_eq_mod]
    simp only [Nat.reducePow, Nat.reduceMod]
    have e2 : i / 65536 % 2 < 2 := Nat.mod_lt _ (by decide)
    rw [Nat.mod_eq_of_lt (a := i / 65536 % 2 + 32767) (b := 4294967296) (by omega), Nat.mod_eq_of_lt (a := i + (i / 65536 % 2 + 32767)) (b := 4294967296) (by omega),
      Nat.mod_eq_of_lt (a := (i + (i / 65536 % 2 + 32767)) / 65536) (b := 4294967296) (by omega)]
  unfold half
  rw [e]
  generalize hy : (i + ((i / 65536) % 2 + 32767)) / 65536 = y at h ⊢
  have hlt : y ≤ 36415 := by omega
  have hslt : (BitVec.ofNat 32 y).slt 36415#32 = decide (y < 36415) := by
    rw [BitVec.slt_eq_decide]
    congr 1
    rw [toInt_small _ (by omega), show (36415#32 : BitVec 32).toInt = 36415 from by decide]
    simp only [eq_iff_iff]
    omega
  have : (if (BitVec.ofNat 32 y).slt 36415#32 = true then BitVec.ofNat 32 y else 36415#32) = BitVec.ofNat 32 y := by
    rw [hslt]
    split_ifs with q
    · rfl
    · have : y = 36415 := by have := of_decide_eq_false (Bool.eq_false_iff.2 q); omega
      rw [this]
  dsimp only
  rw [this, BitVec.toNat_setWidth, BitVec.toNat_ofNat, Nat.mod_eq_of_lt (a := y) (by omega), Nat.mod_eq_of_lt (by omega)]
  exact h

/-- The word that the kernel's rounding adds up, from a transformed value, its block's factor and its scaled random byte. -/
def bin (g : EReal) (sc off : BitVec 32) : BitVec 32 :=
  IntOp.addi (Ideal.fptosi 32 (Ideal.liftRound Int.ceil (g * Ideal.ofBits .f32 sc))) off
def bins (g : EReal) : BitVec 32 :=
  IntOp.minsi (IntOp.minsi (IntOp.minsi (bin g 0x49800000#32 1082130432#32) (bin g 0x49000000#32 1090519040#32))
    (IntOp.minsi (bin g 0x48800000#32 1098907648#32) (bin g 0x48000000#32 1107296256#32))) (bin g 0x47800000#32 1115684864#32)
def rsum (x s p : EReal) : BitVec 32 :=
  IntOp.addi (bins (Cert.Math.mg x * s + max (Cert.Math.mg x * s) (Ideal.ofBits .f32 0x41000000#32)))
    (IntOp.addi (Ideal.fptosi 32 (p + Ideal.ofBits .f32 0x4B7F5FFF#32)) 1249902592#32)

theorem fptosi_nat (n : ℕ) (h : n < 2147483648) : Ideal.fptosi 32 (((n : ℝ)) : EReal) = BitVec.ofNat 32 n := by
  unfold Ideal.fptosi
  show BitVec.ofInt 32 (max _ (min _ (if 0 ≤ (n : ℝ) then ⌊(n : ℝ)⌋ else ⌈(n : ℝ)⌉))) = _
  rw [if_pos (Nat.cast_nonneg n), Int.floor_natCast]
  have : max (-((2 ^ (32 - 1) : ℕ) : ℤ)) (min (((2 ^ (32 - 1) : ℕ) : ℤ) - 1) (n : ℤ)) = n := by norm_num; omega
  rw [this]
  exact BitVec.ofInt_natCast 32 n

theorem bin_real (g : ℝ) (hg : 0 ≤ g) (sc off : BitVec 32) (k : ℝ) (hk : 0 ≤ k) (hc : Ideal.ofBits .f32 sc = (k : EReal)) (h : g * k ≤ 1000000000) :
    bin (g : EReal) sc off = BitVec.ofNat 32 ⌈g * k + off.toNat⌉₊ := by
  unfold bin
  rw [hc, ← EReal.coe_mul]
  show Ideal.fptosi 32 (((⌈g * k⌉ : ℤ) : ℝ) : EReal) + off = _
  have h0 : 0 ≤ g * k := mul_nonneg hg hk
  have e : ((⌈g * k⌉ : ℤ) : ℝ) = ((⌈g * k⌉₊ : ℕ) : ℝ) := by
    rw [natCast_ceil_eq_intCast_ceil h0]
  have hl : ⌈g * k⌉₊ ≤ 1000000000 := Nat.ceil_le.2 (by exact_mod_cast h)
  rw [e, fptosi_nat _ (by omega), Nat.ceil_add_natCast h0, BitVec.ofNat_add, BitVec.ofNat_toNat, BitVec.setWidth_eq]

theorem minsi_nat (a b : ℕ) (ha : a < 2147483648) (hb : b < 2147483648) : IntOp.minsi (BitVec.ofNat 32 a) (BitVec.ofNat 32 b) = BitVec.ofNat 32 (min a b) := by
  unfold IntOp.minsi
  rw [BitVec.slt_eq_decide, toInt_small _ ha, toInt_small _ hb]
  by_cases h : a < b
  · rw [if_pos (by simpa using h), min_eq_left (by omega)]
  · rw [if_neg (by simpa using h), min_eq_right (by omega)]

/-- The bits of the shifted magnitude are its place on the grid. -/
theorem bins_real (a : ℝ) (h0 : 0 ≤ a) (h6 : a ≤ 6) :
    bins (((8 * a + max (8 * a) 8 : ℝ)) : EReal) = BitVec.ofNat 32 (260 * 4194304 + ⌈4194304 * grid a⌉₊) := by
  have hg0 : 0 ≤ 8 * a + max (8 * a) 8 := by have := le_max_left (8 * a) 8; linarith
  have hg1 : 8 * a + max (8 * a) 8 ≤ 96 := by have : max (8 * a) 8 ≤ 48 := max_le (by linarith) (by norm_num); linarith
  generalize hg : 8 * a + max (8 * a) 8 = g at hg0 hg1
  have big : ∀ k off : ℕ, k ≤ 1048576 → off ≤ 1115684864 → ⌈g * k + off⌉₊ < 2147483648 := fun k off hk ho => by
    have : ⌈g * k + off⌉₊ ≤ 1300000000 := Nat.ceil_le.2 (by
      have hk' : (k : ℝ) ≤ 1048576 := by exact_mod_cast hk
      have ho' : (off : ℝ) ≤ 1115684864 := by exact_mod_cast ho
      push_cast
      nlinarith [mul_le_mul hg1 hk' (Nat.cast_nonneg k) (by norm_num)])
    omega
  have b3 := big 1048576 1082130432 (by norm_num) (by norm_num)
  have b4 := big 524288 1090519040 (by norm_num) (by norm_num)
  have b5 := big 262144 1098907648 (by norm_num) (by norm_num)
  have b6 := big 131072 1107296256 (by norm_num) (by norm_num)
  have b7 := big 65536 1115684864 (by norm_num) (by norm_num)
  push_cast at b3 b4 b5 b6 b7
  unfold bins
  rw [bin_real g hg0 _ _ _ (by norm_num) c_e3 (by linarith), bin_real g hg0 _ _ _ (by norm_num) c_e4 (by linarith),
    bin_real g hg0 _ _ _ (by norm_num) c_e5 (by linarith), bin_real g hg0 _ _ _ (by norm_num) c_e6 (by linarith),
    bin_real g hg0 _ _ _ (by norm_num) c_e7 (by linarith)]
  norm_num only [BitVec.toNat_ofNat]
  rw [minsi_nat _ _ b3 b4, minsi_nat _ _ b5 b6, minsi_nat _ _ (lt_of_le_of_lt (min_le_left _ _) b3) (lt_of_le_of_lt (min_le_left _ _) b5),
    minsi_nat _ _ (lt_of_le_of_lt (min_le_left _ _) (lt_of_le_of_lt (min_le_left _ _) b3)) b7]
  congr 1
  have mono : Monotone (fun x : ℝ => ⌈x⌉₊) := Nat.ceil_mono
  have hm : ∀ x y : ℝ, min ⌈x⌉₊ ⌈y⌉₊ = ⌈min x y⌉₊ := fun x y => (mono.map_min (a := x) (b := y)).symm
  rw [hm, hm, hm, hm]
  have e : min (min (min (g * 1048576 + 1082130432) (g * 524288 + 1090519040)) (min (g * 262144 + 1098907648) (g * 131072 + 1107296256))) (g * 65536 + 1115684864)
      = 4194304 * grid a + ((260 * 4194304 : ℕ) : ℝ) := by
    push_cast
    have lo : a ≤ 1 → g = 8 * a + 8 := fun h => by rw [← hg, max_eq_right (by linarith)]
    have hi : 1 ≤ a → g = 16 * a := fun h => by rw [← hg, max_eq_left (by linarith)]; ring
    have g1 : a < 2 → grid a = 2 * a := fun h => by unfold grid; rw [if_pos h]
    have g2 : 2 ≤ a → a < 4 → grid a = a + 2 := fun h h' => by unfold grid; rw [if_neg (by linarith), if_pos h']
    have g3 : 4 ≤ a → grid a = a / 2 + 4 := fun h => by unfold grid; rw [if_neg (by linarith), if_neg (by linarith)]
    rcases lt_or_ge a 1 with h | h
    · rw [lo h.le, g1 (by linarith)]
      rw [min_eq_left, min_eq_left, min_eq_left] <;> (try rw [le_min_iff]) <;> (try constructor) <;> (try simp only [min_le_iff]) <;> first | linarith | (left; left; linarith) | (left; linarith)
    · rw [hi h]
      rcases lt_or_ge a 2 with h2 | h2
      · rw [g1 h2]
        rw [min_eq_left, min_eq_left, min_eq_right] <;> (try rw [le_min_iff]) <;> (try constructor) <;> (try simp only [min_le_iff]) <;> first | linarith | (left; right; linarith) | (right; linarith)
      · rcases lt_or_ge a 4 with h4 | h4
        · rw [g2 h2 h4]
          rw [min_eq_left, min_eq_right, min_eq_left] <;> (try rw [le_min_iff]) <;> (try constructor) <;> (try simp only [min_le_iff]) <;> first | linarith | (right; left; linarith) | (left; linarith)
        · rw [g3 h4]
          rw [min_eq_left, min_eq_right, min_eq_right] <;> (try rw [le_min_iff]) <;> (try constructor) <;> (try simp only [min_le_iff]) <;> first | linarith | (right; right; linarith) | (right; linarith)
  rw [e, Nat.ceil_add_natCast (mul_nonneg (by norm_num) (grid_nonneg h0)), add_comm]

/-- The kernel's rounded half holds the code, one more, above its six low bits. -/
theorem half_rsum (a : ℝ) (h0 : 0 ≤ a) (h6 : a ≤ 6) (x s : EReal) (hx : Cert.Math.mg x * s = ((8 * a : ℝ) : EReal)) (r : BitVec 8) (p : EReal) (hp : p = ((-16384 * (r.toNat : ℝ) : ℝ) : EReal)) :
    (half (rsum x s p)).toNat / 64 = 561 + code a r.toNat := by
  have hr : r.toNat < 256 := r.isLt
  have hv0 := grid_nonneg h0
  have hv7 := grid_le h6
  have e1 : Cert.Math.mg x * s + max (Cert.Math.mg x * s) (Ideal.ofBits .f32 0x41000000#32) = ((8 * a + max (8 * a) 8 : ℝ) : EReal) := by
    rw [hx, c_eight, EReal.coe_add, EReal.coe_strictMono.monotone.map_max]
  have e2 : p + Ideal.ofBits .f32 0x4B7F5FFF#32 = (((16736255 - 16384 * r.toNat : ℕ) : ℝ) : EReal) := by
    rw [hp, c_base, ← EReal.coe_add, Nat.cast_sub (by omega)]
    exact congrArg Real.toEReal (by push_cast; ring)
  unfold rsum
  rw [e1, e2, bins_real a h0 h6, fptosi_nat _ (by omega)]
  have e3 : IntOp.addi (BitVec.ofNat 32 (260 * 4194304 + ⌈4194304 * grid a⌉₊)) (IntOp.addi (BitVec.ofNat 32 (16736255 - 16384 * r.toNat)) 1249902592#32)
      = BitVec.ofNat 32 (561 * 4194304 + ⌈4194304 * grid a⌉₊ + 16384 * (255 - r.toNat) + 8191 - 32768) := by
    unfold IntOp.addi
    rw [← BitVec.ofNat_add, ← BitVec.ofNat_add]
    exact congrArg _ (by omega)
  rw [e3]
  generalize hv : grid a = v at hv0 hv7
  have hf := Nat.floor_le hv0
  have hf' := Nat.lt_floor_add_one v
  have hK : ⌊v⌋₊ ≤ 7 := Nat.floor_le_of_le (by exact_mod_cast hv7)
  have hc7 : ⌈4194304 * v⌉₊ ≤ 29360128 := Nat.ceil_le.2 (by push_cast; linarith)
  have hcode := code_le h0 h6 r.toNat
  have hcu : code a r.toNat = ⌊v⌋₊ + (decide ((r.toNat : ℝ) + 1 / 2 < (v - ⌊v⌋₊) * 256)).toNat := by
    unfold code
    rw [hv]
    by_cases q : (r.toNat : ℝ) + 1 / 2 < (v - ⌊v⌋₊) * 256
    · rw [if_pos q, decide_eq_true q]; rfl
    · rw [if_neg q, decide_eq_false q]; rfl
  have key := word_code ⌈4194304 * v⌉₊ r.toNat ⌊v⌋₊ (decide ((r.toNat : ℝ) + 1 / 2 < (v - ⌊v⌋₊) * 256)) hr
    (by
      have : ((⌊v⌋₊ * 4194304 : ℕ) : ℝ) ≤ (⌈4194304 * v⌉₊ : ℝ) := le_trans (by push_cast; linarith) (Nat.le_ceil _)
      exact_mod_cast this)
    (Nat.ceil_le.2 (by push_cast; linarith))
    (by
      rw [decide_eq_true_iff, Nat.lt_ceil]
      push_cast
      constructor <;> intro q <;> linarith) _ rfl
  rw [Nat.add_assoc 561, ← hcu] at key
  exact half_ofNat _ (by omega) _ hcode key

end Cert.Code
end
-- ==== Proof.CodeScale.lean ====
module

public import proofs.«01_k».proof.Proof.CodeMath

@[expose] public section

set_option maxRecDepth 16384
set_option maxHeartbeats 2000000

noncomputable section

namespace Cert.Code

open Idealize.ShloMosaic Cert.Consts
open Cert.Math (mg mg_eq mg_nonneg)

theorem div_real (x y : ℝ) (hy : y ≠ 0) : Ideal.div (x : EReal) (y : EReal) = ((x / y : ℝ) : EReal) := by
  rw [Ideal.div_coe hy, ← EReal.coe_mul, mul_one_div]

theorem div_top (x : EReal) : Ideal.div x ⊤ = 0 := by
  have h : Ideal.div x ⊤ = x * (⊤ : EReal)⁻¹ := if_neg EReal.top_ne_zero
  rw [h, EReal.inv_top, mul_zero]

/-- Where a block's scale is positive it is a real number, and no value of the block exceeds six of it. -/
theorem scale_real (X : Fin 2048 → Fin 16384 → EReal) (sg : Fin 16 → EReal) (tok : Fin 2048) (b : Fin 1024)
    (h : 0 < Math.S X sg tok b * Math.T X sg) :
    ∃ D : ℝ, 0 < D ∧ Math.S X sg tok b * Math.T X sg = (D : EReal) ∧ ∀ i, mg (Math.W X sg tok b i) ≤ ((6 * D : ℝ) : EReal) := by
  have hM0 := Math.M_nonneg X sg tok b
  have hMG : Math.M X sg tok b ≤ Math.G X sg := (Math.G_le X sg _).1 le_rfl tok b
  have hW := (Math.M_le X sg tok b _).1 le_rfl
  unfold Math.S Math.T at h ⊢
  rw [c_six, c_2688] at h ⊢
  generalize Math.M X sg tok b = M at *
  generalize Math.G X sg = G at *
  by_cases hG : 0 < G
  · rw [if_pos hG] at h ⊢
    have hMb : M ≠ ⊥ := fun e => absurd (e ▸ hM0) (by simp)
    induction G using EReal.rec with
    | bot => exact absurd hG (by simp)
    | top =>
      exfalso
      rw [Ideal.div_coe (by norm_num), EReal.top_mul_coe_of_pos (by norm_num), EReal.coe_mul_top_of_pos (by norm_num), div_top, zero_mul] at h
      exact lt_irrefl _ h
    | coe g =>
      have hg : 0 < g := by exact_mod_cast hG
      have hMt : M ≠ ⊤ := fun e => absurd (e ▸ hMG) (by simp)
      obtain ⟨μ, rfl⟩ : ∃ μ : ℝ, M = (μ : EReal) := ⟨M.toReal, (EReal.coe_toReal hMt hMb).symm⟩
      have e : Ideal.div (μ : EReal) (((6 : ℝ) : EReal) * Ideal.div (g : EReal) ((2688 : ℝ) : EReal)) * Ideal.div (g : EReal) ((2688 : ℝ) : EReal) = ((μ / 6 : ℝ) : EReal) := by
        rw [div_real g 2688 (by norm_num), ← EReal.coe_mul, div_real _ _ (by positivity), ← EReal.coe_mul]
        exact congrArg Real.toEReal (by field_simp)
      rw [e] at h ⊢
      refine ⟨μ / 6, by exact_mod_cast h, rfl, fun i => (hW i).trans (le_of_eq (congrArg Real.toEReal (by ring)))⟩
  · exfalso
    rw [if_neg hG] at h
    have : M = 0 := le_antisymm (hMG.trans (not_lt.1 hG)) hM0
    rw [this, mul_one, mul_one, Ideal.zero_div (by exact_mod_cast (by norm_num : (6 : ℝ) ≠ 0)) ] at h
    exact lt_irrefl _ h

/-- The magnitude of a value in units of its block's scale, zero where that is not positive. -/
def amt (w d : EReal) : ℝ := if 0 < d then (mg w).toReal / d.toReal else 0

/-- What is known of a value and its block's scale. -/
def Fits (w d : EReal) : Prop := 0 < d → ∃ D : ℝ, 0 < D ∧ d = (D : EReal) ∧ mg w ≤ ((6 * D : ℝ) : EReal)

/-- A value that fits is real. -/
theorem fits_real {w d : EReal} (h : Fits w d) (hd : 0 < d) : ∃ D x : ℝ, 0 < D ∧ d = (D : EReal) ∧ w = (x : EReal) ∧ |x| ≤ 6 * D ∧ amt w d = |x| / D := by
  obtain ⟨D, hD, e, hw⟩ := h hd
  rw [mg_eq, max_le_iff] at hw
  have ht : w ≠ ⊤ := fun q => absurd (q ▸ hw.1) (not_le.2 (EReal.coe_lt_top _))
  have hb : w ≠ ⊥ := fun q => absurd (q ▸ hw.2) (by rw [EReal.neg_bot]; exact not_le.2 (EReal.coe_lt_top _))
  obtain ⟨x, rfl⟩ : ∃ x : ℝ, w = (x : EReal) := ⟨w.toReal, (EReal.coe_toReal ht hb).symm⟩
  have e1 : mg (x : EReal) = ((|x| : ℝ) : EReal) := by
    rw [mg_eq, ← EReal.coe_neg, ← EReal.coe_strictMono.monotone.map_max]
    rfl
  refine ⟨D, x, hD, e, rfl, ?_, ?_⟩
  · rw [abs_le]
    have h1 : x ≤ 6 * D := by exact_mod_cast hw.1
    have h2 : -x ≤ 6 * D := by exact_mod_cast hw.2
    constructor <;> linarith
  · unfold amt
    rw [if_pos hd, e1, e, EReal.toReal_coe, EReal.toReal_coe]

theorem amt_bounds {w d : EReal} (h : Fits w d) : 0 ≤ amt w d ∧ amt w d ≤ 6 := by
  by_cases hd : 0 < d
  · obtain ⟨D, x, hD, -, -, hx, e⟩ := fits_real h hd
    rw [e]
    exact ⟨by positivity, (div_le_iff₀ hD).2 hx⟩
  · unfold amt
    rw [if_neg hd]
    norm_num

/-- The kernel's scaled magnitude is eight of these units. -/
theorem mg_inv {w d : EReal} (h : Fits w d) :
    mg w * (if 0 < d then Ideal.div (Ideal.ofBits .f32 1090519040#32) (if 0 < d then d else 1) else 0) = ((8 * amt w d : ℝ) : EReal) := by
  by_cases hd : 0 < d
  · obtain ⟨D, x, hD, e, ew, hx, ea⟩ := fits_real h hd
    have e1 : mg w = ((|x| : ℝ) : EReal) := by
      rw [ew, mg_eq, ← EReal.coe_neg, ← EReal.coe_strictMono.monotone.map_max]
      rfl
    rw [if_pos hd, if_pos hd, ea, e1, e, c_eight, div_real _ _ hD.ne', ← EReal.coe_mul]
    exact congrArg Real.toEReal (by ring)
  · unfold amt
    rw [if_neg hd, if_neg hd, mul_zero]
    norm_num

end Cert.Code
end
-- ==== Proof.Packed.lean ====
module

public import proofs.«01_k».proof.Proof.CodeBits
public import proofs.«01_k».proof.Proof.CodeScale

@[expose] public section

set_option maxRecDepth 16384
set_option maxHeartbeats 4000000

noncomputable section

namespace Cert.Code

open Idealize.ShloMosaic
open Cert.KernelIdeal.Hand (nib pack)

variable (X : Fin 2048 → Fin 16384 → EReal) (sg : Fin 16 → EReal) (rd : Fin 2048 → Fin 16384 → BitVec 8)

theorem fits (tok : Fin 2048) (B : Fin 1024) (i : Fin 16) : Fits (Math.W X sg tok B i) (Math.S X sg tok B * Math.T X sg) := fun h => by
  obtain ⟨D, h1, h2, h3⟩ := scale_real X sg tok B h
  exact ⟨D, h1, h2, h3 i⟩

/-- The magnitude code of channel `i` of block `B` of token `tok`. -/
def cd (tok : Fin 2048) (B : Fin 1024) (i : Fin 16) : ℕ :=
  code (amt (Math.W X sg tok B i) (Math.S X sg tok B * Math.T X sg)) (rd tok ⟨B.val * 16 + i.val, by omega⟩).toNat

theorem cd_le (tok : Fin 2048) (B : Fin 1024) (i : Fin 16) : cd X sg rd tok B i ≤ 7 :=
  code_le (amt_bounds (fits X sg tok B i)).1 (amt_bounds (fits X sg tok B i)).2 _

/-- The signed code. -/
def codeAt (tok : Fin 2048) (B : Fin 1024) (i : Fin 16) : BitVec 32 := nib (decide (Math.W X sg tok B i < 0)) (cd X sg rd tok B i)

/-- Two channels' codes in a byte. -/
def packed (tok : Fin 2048) (b : Fin 8192) : BitVec 8 :=
  pack (codeAt X sg rd tok ⟨b.val / 8, by omega⟩ ⟨2 * (b.val % 8), by omega⟩) (codeAt X sg rd tok ⟨b.val / 8, by omega⟩ ⟨2 * (b.val % 8) + 1, by omega⟩)

end Cert.Code
end
-- ==== Proof.KernelCodes.lean ====
module

public import proofs.«01_k».proof.Proof.Tie
public import proofs.«01_k».proof.Proof.Packed

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Cert.Code (cd cd_le codeAt packed)

variable (X : S2048x16384.Idx → EReal) (RD : S2048x16384.Idx → BitVec 8) (SG : S16.Idx → EReal)

theorem halfS_eq (x : BitVec 32) : halfS x = Cert.Code.half x := rfl

theorem sumS_eq (x s p : EReal) : sumS x s p = Cert.Code.rsum x s p := by
  unfold sumS sumV Cert.Code.rsum Cert.Code.bins Cert.Code.bin
  pointwise
  rfl

/-- An entry of a tile of random bytes is its channel's byte, negated and shifted. -/
theorem tile_P (s : Fin 32) (k : Fin 16) (a t : Fin 256) (tok : Fin 2048) (b : Fin 1024) (i : Fin 16)
    (htok : tok.val = 256 * (s.val / 4) + t.val) (hb : b.val = 256 * (s.val % 4) + 16 * k.val + a.val / 16) (hi : i = rowCh a) :
    pTile Pmat (blkS RD s) k (ix2 a t) = ((-16384 * ((ofArr RD tok ⟨b.val * 16 + i.val, by omega⟩).toNat : ℝ) : ℝ) : EReal) := by
  subst hi
  show ∑ j : Fin 256, (if (chan a).val = j.val then Ideal.ofBits .f32 3330277376#32 else 0) * FloatOps.uitofp (F := Ideal) .bf16 (blkS RD s (ix2 t (⟨256 * k.val + j.val, by omega⟩ : Fin 4096))) = _
  rw [Finset.sum_eq_single (chan a)]
  · rw [if_pos rfl, Cert.Consts.c_negShift]
    have e : blkS RD s (ix2 t (⟨256 * k.val + (chan a).val, by omega⟩ : Fin 4096)) = ofArr RD tok ⟨b.val * 16 + (rowCh a).val, by omega⟩ := by
      unfold ofArr blkS
      congr 1
      unfold chan rowCh
      blk_ext
    rw [e, EReal.coe_mul]
    rfl
  · intro j _ hj
    rw [if_neg (fun h => hj (Fin.ext h.symm)), zero_mul]
  · intro h
    exact absurd (Finset.mem_univ _) h

/-- A rounded half holds its channel's code, one more, above its six low bits. -/
theorem half_at (s : Fin 32) (k : Fin 16) (a t : Fin 256) (n : Fin 256) (tok : Fin 2048) (b : Fin 1024) (i : Fin 16)
    (htok : tok.val = 256 * (s.val / 4) + t.val) (hb : b.val = 256 * (s.val % 4) + 16 * k.val + a.val / 16) (hi : i = rowCh a) (hn : n.val = 16 * k.val + a.val / 16) :
    (halfS (sumS (wTile (RM SG) (blkS X s) k (ix2 a t)) (invOf (TS X SG) (AM X SG s n t)) (pTile Pmat (blkS RD s) k (ix2 a t)))).toNat / 64
      = 561 + cd (ofArr X) (ofSg SG) (ofArr RD) tok b i := by
  rw [halfS_eq, sumS_eq, tile_W X SG s k a t tok b i htok hb hi, AM_eq X SG s n t tok b htok (by omega), TS_eq]
  have hf := Cert.Code.fits (ofArr X) (ofSg SG) tok b i
  exact Cert.Code.half_rsum _ (Cert.Code.amt_bounds hf).1 (Cert.Code.amt_bounds hf).2 _ _ (Cert.Code.mg_inv hf) _ _ (tile_P RD s k a t tok b i htok hb hi)

/-- The field byte of byte column `b` of a tile's words. -/
theorem fieldT_byte (w p : S256x256.Idx → EReal) (sc : Fin 16 → Fin 256 → EReal) (b : Fin 128) (t : Fin 256) :
    (fieldT w p sc (ix2 (⟨b.val / 2, by omega⟩ : Fin 64) t)).extractLsb' (16 * (b.val % 2)) 8 = (fldO w p sc b t).extractLsb' 6 4 ++ (fldE w p sc b t).extractLsb' 6 4 := by
  refine (field_byte (fldE w p sc ⟨2 * (b.val / 2), by omega⟩ t) (fldE w p sc ⟨2 * (b.val / 2) + 1, by omega⟩ t)
    (fldO w p sc ⟨2 * (b.val / 2), by omega⟩ t) (fldO w p sc ⟨2 * (b.val / 2) + 1, by omega⟩ t) (b.val % 2) (by omega)).trans ?_
  rcases Nat.mod_two_eq_zero_or_one b.val with h | h
  · rw [if_pos h, if_pos h]
    have e : (⟨2 * (b.val / 2), by omega⟩ : Fin 128) = b := Fin.ext (by show 2 * (b.val / 2) = b.val; omega)
    rw [e]
  · rw [if_neg (by omega), if_neg (by omega)]
    have e : (⟨2 * (b.val / 2) + 1, by omega⟩ : Fin 128) = b := Fin.ext (by show 2 * (b.val / 2) + 1 = b.val; omega)
    rw [e]

/-- The sign byte of byte column `b` of a tile's words. -/
theorem signT_byte (w : S256x256.Idx → EReal) (b : Fin 128) (t : Fin 256) :
    (signT w (ix2 (⟨b.val / 2, by omega⟩ : Fin 64) t)).extractLsb' (16 * (b.val % 2)) 8
      = sbyte (decide (w (ix2 (⟨16 * (b.val / 8) + b.val % 8, by omega⟩ : Fin 256) t) < 0)) (decide (w (ix2 (⟨16 * (b.val / 8) + 8 + b.val % 8, by omega⟩ : Fin 256) t) < 0)) := by
  have eE : ∀ b : Fin 128, signE w b t = bif decide (w (ix2 (⟨16 * (b.val / 8) + b.val % 8, by omega⟩ : Fin 256) t) < 0) then 32768#16 else 0#16 := fun b => by
    unfold signE; rw [Bool.cond_decide]
  have eO : ∀ b : Fin 128, signO w b t = bif decide (w (ix2 (⟨16 * (b.val / 8) + 8 + b.val % 8, by omega⟩ : Fin 256) t) < 0) then 32768#16 else 0#16 := fun b => by
    unfold signO; rw [Bool.cond_decide]
  show (((signO w ⟨2 * (b.val / 2) + 1, by omega⟩ t ++ signO w ⟨2 * (b.val / 2), by omega⟩ t) >>> 8)
    ||| ((signE w ⟨2 * (b.val / 2) + 1, by omega⟩ t ++ signE w ⟨2 * (b.val / 2), by omega⟩ t) >>> 12) : BitVec 32).extractLsb' (16 * (b.val % 2)) 8 = _
  rw [eE, eE, eO, eO]
  refine (sign_byte _ _ _ _ ⟨b.val % 2, by omega⟩).trans ?_
  rcases Nat.mod_two_eq_zero_or_one b.val with h | h
  · rw [if_pos h, if_pos h]
    have e : (⟨2 * (b.val / 2), by omega⟩ : Fin 128) = b := Fin.ext (by show 2 * (b.val / 2) = b.val; omega)
    rw [e]
  · rw [if_neg (by show ¬ b.val % 2 = 0; omega), if_neg (by show ¬ b.val % 2 = 0; omega)]
    have e : (⟨2 * (b.val / 2) + 1, by omega⟩ : Fin 128) = b := Fin.ext (by show 2 * (b.val / 2) + 1 = b.val; omega)
    rw [e]

/-- A step's packed codes. -/
theorem CO_eq (s : Fin 32) (tok : Fin 256) (b : Fin 2048) (T : Fin 2048) (B : Fin 1024) (i0 i1 : Fin 16)
    (hT : T.val = 256 * (s.val / 4) + tok.val) (hB : B.val = 256 * (s.val % 4) + b.val / 8) (h0 : i0.val = 2 * (b.val % 8)) (h1 : i1.val = 2 * (b.val % 8) + 1) :
    CO X RD SG s tok b = pack (codeAt (ofArr X) (ofSg SG) (ofArr RD) T B i0) (codeAt (ofArr X) (ofSg SG) (ofArr RD) T B i1) := by
  have hq : ∀ q : Fin 4, 256 * (s.val / 4) + (4 * (tok.val / 4) + q.val) < 2048 := fun q => by omega
  have hbE : (16 * ((b.val % 128) / 8) + (b.val % 128) % 8) < 256 := by omega
  have hbO : (16 * ((b.val % 128) / 8) + 8 + (b.val % 128) % 8) < 256 := by omega
  have r0 : i0 = rowCh ⟨16 * ((b.val % 128) / 8) + (b.val % 128) % 8, hbE⟩ := Fin.ext (by unfold rowCh; simp only; omega)
  have r1 : i1 = rowCh ⟨16 * ((b.val % 128) / 8) + 8 + (b.val % 128) % 8, hbO⟩ := Fin.ext (by unfold rowCh; simp only; omega)
  unfold CO codeB SW sgB tposeWord
  have hF : ∀ q : Fin 4, (fieldT (wTile (RM SG) (blkS X s) ⟨b.val / 128, by omega⟩) (pTile Pmat (blkS RD s) ⟨b.val / 128, by omega⟩) (fun n t => invOf (TS X SG) (AM X SG s ⟨16 * (b.val / 128) + n.val, by omega⟩ t))
        (ix2 (⟨(b.val % 128) / 2, by omega⟩ : Fin 64) (⟨4 * (tok.val / 4) + q.val, by omega⟩ : Fin 256))).extractLsb' (16 * ((b.val % 128) % 2)) 8
      = fbyte (cd (ofArr X) (ofSg SG) (ofArr RD) ⟨_, hq q⟩ B i0) (cd (ofArr X) (ofSg SG) (ofArr RD) ⟨_, hq q⟩ B i1) := fun q => by
    refine (fieldT_byte _ _ _ ⟨b.val % 128, by omega⟩ _).trans ?_
    have eE := half_at X RD SG s ⟨b.val / 128, by omega⟩ ⟨16 * ((b.val % 128) / 8) + (b.val % 128) % 8, hbE⟩ ⟨4 * (tok.val / 4) + q.val, by omega⟩ ⟨16 * (b.val / 128) + (b.val % 128) / 8, by omega⟩ ⟨_, hq q⟩ B i0 rfl (by simp only; omega) r0 (by simp only; omega)
    have eO := half_at X RD SG s ⟨b.val / 128, by omega⟩ ⟨16 * ((b.val % 128) / 8) + 8 + (b.val % 128) % 8, hbO⟩ ⟨4 * (tok.val / 4) + q.val, by omega⟩ ⟨16 * (b.val / 128) + (b.val % 128) / 8, by omega⟩ ⟨_, hq q⟩ B i1 rfl (by simp only; omega) r1 (by simp only; omega)
    have cE := cd_le (ofArr X) (ofSg SG) (ofArr RD) ⟨_, hq q⟩ B i0
    have cO := cd_le (ofArr X) (ofSg SG) (ofArr RD) ⟨_, hq q⟩ B i1
    unfold fldE fldO
    rw [field_bits _ _ eE cE, field_bits _ _ eO cO]
    exact fbyte_append ⟨_, Nat.lt_succ_of_le cE⟩ ⟨_, Nat.lt_succ_of_le cO⟩
  have hS : ∀ q : Fin 4, (signT (wTile (RM SG) (blkS X s) ⟨b.val / 128, by omega⟩) (ix2 (⟨(b.val % 128) / 2, by omega⟩ : Fin 64) (⟨4 * (tok.val / 4) + q.val, by omega⟩ : Fin 256))).extractLsb' (16 * ((b.val % 128) % 2)) 8
      = sbyte (decide (Cert.Math.W (ofArr X) (ofSg SG) ⟨_, hq q⟩ B i0 < 0)) (decide (Cert.Math.W (ofArr X) (ofSg SG) ⟨_, hq q⟩ B i1 < 0)) := fun q => by
    refine (signT_byte _ ⟨b.val % 128, by omega⟩ _).trans ?_
    rw [tile_W X SG s ⟨b.val / 128, by omega⟩ ⟨16 * ((b.val % 128) / 8) + (b.val % 128) % 8, hbE⟩ ⟨4 * (tok.val / 4) + q.val, by omega⟩ ⟨_, hq q⟩ B i0 rfl (by simp only; omega) r0,
      tile_W X SG s ⟨b.val / 128, by omega⟩ ⟨16 * ((b.val % 128) / 8) + 8 + (b.val % 128) % 8, hbO⟩ ⟨4 * (tok.val / 4) + q.val, by omega⟩ ⟨_, hq q⟩ B i1 rfl (by simp only; omega) r1]
  have bd : ∀ q : Fin 4, _ := fun q => fbyte_bounds ⟨_, Nat.lt_succ_of_le (cd_le (ofArr X) (ofSg SG) (ofArr RD) ⟨_, hq q⟩ B i0)⟩ ⟨_, Nat.lt_succ_of_le (cd_le (ofArr X) (ofSg SG) (ofArr RD) ⟨_, hq q⟩ B i1)⟩
  simp only [hF, hS]
  rw [codeWord_word4 _ _ (fun q => (bd q).1) (fun q => (bd q).2)]
  refine (word4_byte _ ⟨tok.val % 4, by omega⟩).trans ?_
  have eT : (⟨256 * (s.val / 4) + (4 * (tok.val / 4) + tok.val % 4), hq ⟨tok.val % 4, by omega⟩⟩ : Fin 2048) = T := Fin.ext (by simp only; omega)
  simp only [eT]
  exact code_table ⟨_, Nat.lt_succ_of_le (cd_le (ofArr X) (ofSg SG) (ofArr RD) T B i0)⟩ ⟨_, Nat.lt_succ_of_le (cd_le (ofArr X) (ofSg SG) (ofArr RD) T B i1)⟩ _ _

/-- The kernel's codes are the packed codes. -/
theorem outC_eq (tok : Fin 2048) (b : Fin 8192) : outC X RD SG tok b = packed (ofArr X) (ofSg SG) (ofArr RD) tok b := by
  unfold outC packed
  exact CO_eq X RD SG _ _ _ _ _ _ _ (by unfold stepAt; simp only; omega) (by unfold stepAt; simp only; omega) (by simp only; omega) (by simp only; omega)

end Cert.KernelIdeal.Hand
end
-- ==== Proof.CodeRef.lean ====
module

public import proofs.«01_k».proof.Proof.CodeScale

@[expose] public section

set_option maxRecDepth 16384
set_option maxHeartbeats 2000000

noncomputable section

namespace Cert.Code

open Idealize.ShloMosaic Cert.Consts
open Cert.Math (mg mg_eq mg_nonneg)

/-- The reference's arithmetic on one value: scaled and clipped; its step; the multiple of the step below; the rounded
    magnitude; its index among the eight magnitudes. -/
def sy (w d : EReal) : EReal :=
  min (Ideal.ofBits .f32 0x40C00000#32) (max (Ideal.ofBits .f32 0xC0C00000#32) (if 0 < d then Ideal.div w (if 0 < d then d else 1) else 0))
def sstep (a : EReal) : EReal :=
  if a < Ideal.ofBits .f32 0x40000000#32 then Ideal.ofBits .f32 0x3F000000#32 else if a < Ideal.ofBits .f32 0x40800000#32 then 1 else Ideal.ofBits .f32 0x40000000#32
def slo (a : EReal) : EReal := Ideal.liftRound Int.floor (Ideal.div a (sstep a)) * sstep a
def sup (z : EReal) (r : BitVec 8) : EReal :=
  FloatOps.uitofp (F := Ideal) .f32 (BitVec.ofBool (decide (FloatOps.sitofp (F := Ideal) .f32 (BitVec.setWidth 32 r) + Ideal.ofBits .f32 0x3F000000#32 < z * Ideal.ofBits .f32 0x43800000#32)))
def sq (a : EReal) (r : BitVec 8) : EReal := slo a + sstep a * sup (Ideal.div (a - slo a) (sstep a)) r
def sfold (q : EReal) : EReal :=
  if q < Ideal.ofBits .f32 0x40000000#32 then Ideal.ofBits .f32 0x40000000#32 * q
  else if q < Ideal.ofBits .f32 0x40800000#32 then q + Ideal.ofBits .f32 0x40000000#32
  else q * Ideal.ofBits .f32 0x3F000000#32 + Ideal.ofBits .f32 0x40800000#32

theorem sup_real (z : ℝ) (r : BitVec 8) : sup (z : EReal) r = (((if (r.toNat : ℝ) + 1 / 2 < z * 256 then 1 else 0 : ℕ) : ℝ) : EReal) := by
  have er : FloatOps.sitofp (F := Ideal) .f32 (BitVec.setWidth 32 r) = (((r.toNat : ℝ)) : EReal) := by
    have h1 : (BitVec.setWidth 32 r).toNat = r.toNat := by
      rw [BitVec.toNat_setWidth]; exact Nat.mod_eq_of_lt (by have := r.isLt; omega)
    have h2 : (BitVec.setWidth 32 r).toInt = (r.toNat : ℤ) := by
      rw [BitVec.toInt_eq_toNat_of_lt (by rw [h1]; have := r.isLt; omega), h1]
    show (((BitVec.setWidth 32 r).toInt : ℝ) : EReal) = _
    rw [h2]
    norm_cast
  have e : (FloatOps.sitofp (F := Ideal) .f32 (BitVec.setWidth 32 r) + Ideal.ofBits .f32 0x3F000000#32 < (z : EReal) * Ideal.ofBits .f32 0x43800000#32) ↔ (r.toNat : ℝ) + 1 / 2 < z * 256 := by
    rw [er, c_half, c_256, ← EReal.coe_add, ← EReal.coe_mul, EReal.coe_lt_coe_iff]
  unfold sup
  by_cases h : (r.toNat : ℝ) + 1 / 2 < z * 256
  · rw [decide_eq_true (e.2 h), if_pos h]
    show (((BitVec.ofBool true).toNat : ℝ) : EReal) = _
    rfl
  · rw [decide_eq_false (fun q => h (e.1 q)), if_neg h]
    show (((BitVec.ofBool false).toNat : ℝ) : EReal) = _
    rfl

/-- One step of the grid: a step `s`, the index offset `o`, and the folding back of a rounded magnitude. -/
theorem sq_step (a s : ℝ) (hs : 0 < s) (h0 : 0 ≤ a) (r : BitVec 8) (he : sstep (a : EReal) = ((s : ℝ) : EReal)) :
    sq (a : EReal) r = ((s * ((⌊a / s⌋₊ + (if (r.toNat : ℝ) + 1 / 2 < (a / s - ⌊a / s⌋₊) * 256 then 1 else 0) : ℕ) : ℝ) : ℝ) : EReal) := by
  have hfl : Ideal.liftRound Int.floor ((a / s : ℝ) : EReal) = (((⌊a / s⌋₊ : ℝ)) : EReal) := by
    show (((⌊a / s⌋ : ℤ) : ℝ) : EReal) = _
    rw [← Int.natCast_floor_eq_floor (by positivity : 0 ≤ a / s)]
    norm_cast
  have hlo : slo (a : EReal) = ((⌊a / s⌋₊ * s : ℝ) : EReal) := by
    unfold slo
    rw [he, div_real _ _ hs.ne', hfl, ← EReal.coe_mul]
  unfold sq
  rw [hlo, he, ← EReal.coe_sub, div_real _ _ hs.ne', sup_real, ← EReal.coe_mul, ← EReal.coe_add]
  have e : (a - ⌊a / s⌋₊ * s) / s = a / s - ⌊a / s⌋₊ := by field_simp
  rw [e]
  exact congrArg Real.toEReal (by push_cast; ring)

theorem sfold_real (q : ℝ) : sfold (q : EReal) = ((if q < 2 then 2 * q else if q < 4 then q + 2 else q / 2 + 4 : ℝ) : EReal) := by
  unfold sfold
  rw [c_two, c_four, c_half]
  simp only [EReal.coe_lt_coe_iff]
  split_ifs
  · rw [EReal.coe_mul]
  · rw [EReal.coe_add]
  · rw [← EReal.coe_mul, ← EReal.coe_add]
    exact congrArg Real.toEReal (by ring)

/-- The reference's index of a magnitude up to six is its code. -/
theorem sidx_real (a : ℝ) (h0 : 0 ≤ a) (h6 : a ≤ 6) (r : BitVec 8) : Ideal.fptosi 32 (sfold (sq (a : EReal) r)) = BitVec.ofNat 32 (code a r.toNat) := by
  have hc := code_le h0 h6 r.toNat
  rw [← fptosi_nat _ (by omega)]
  refine congrArg _ ?_
  unfold code
  have st : sstep (a : EReal) = (((if a < 2 then 1 / 2 else if a < 4 then 1 else 2 : ℝ)) : EReal) := by
    unfold sstep
    rw [c_two, c_four, c_half]
    simp only [EReal.coe_lt_coe_iff]
    split_ifs <;> rfl
  have up1 : ∀ p : Prop, ∀ _ : Decidable p, (if p then 1 else 0 : ℕ) ≤ 1 := fun p _ => by split_ifs <;> omega
  by_cases h2 : a < 2
  · rw [if_pos h2] at st
    have g : grid a = a / (1 / 2) := by unfold grid; rw [if_pos h2]; ring
    rw [sq_step a (1 / 2) (by norm_num) h0 r st, sfold_real, g]
    have hK : ⌊a / (1 / 2)⌋₊ ≤ 3 := by
      have : ⌊a / (1 / 2)⌋₊ < 4 := (Nat.floor_lt (by positivity)).2 (by rw [div_lt_iff₀ (by norm_num)]; push_cast; linarith)
      omega
    have hu := up1 ((r.toNat : ℝ) + 1 / 2 < (a / (1 / 2) - ⌊a / (1 / 2)⌋₊) * 256) inferInstance
    generalize (if (r.toNat : ℝ) + 1 / 2 < (a / (1 / 2) - ⌊a / (1 / 2)⌋₊) * 256 then 1 else 0 : ℕ) = u at *
    generalize ⌊a / (1 / 2)⌋₊ = K at *
    obtain ⟨n, hn⟩ : ∃ n, n = K + u := ⟨_, rfl⟩
    rw [← hn]
    have hn4 : n ≤ 4 := by omega
    refine congrArg Real.toEReal ?_
    interval_cases n <;> norm_num
  · rw [if_neg h2] at st
    have h2' : 2 ≤ a := not_lt.1 h2
    by_cases h4 : a < 4
    · rw [if_pos h4] at st
      have g : grid a = a / 1 + (2 : ℕ) := by unfold grid; rw [if_neg h2, if_pos h4]; push_cast; ring
      rw [sq_step a 1 (by norm_num) h0 r st, sfold_real, g, Nat.floor_add_natCast (by positivity),
        show a / 1 + ((2 : ℕ) : ℝ) - ((⌊a / 1⌋₊ + 2 : ℕ) : ℝ) = a / 1 - ⌊a / 1⌋₊ by push_cast; ring]
      have hK : ⌊a / 1⌋₊ ≤ 3 := by
        have : ⌊a / 1⌋₊ < 4 := (Nat.floor_lt (by positivity)).2 (by push_cast; linarith)
        omega
      have hK2 : 2 ≤ ⌊a / 1⌋₊ := Nat.le_floor (by push_cast; linarith)
      have hu := up1 ((r.toNat : ℝ) + 1 / 2 < (a / 1 - ⌊a / 1⌋₊) * 256) inferInstance
      generalize (if (r.toNat : ℝ) + 1 / 2 < (a / 1 - ⌊a / 1⌋₊) * 256 then 1 else 0 : ℕ) = u at *
      generalize ⌊a / 1⌋₊ = K at *
      obtain ⟨n, hn⟩ : ∃ n, n = K + u := ⟨_, rfl⟩
      rw [show K + 2 + u = n + 2 by omega, ← hn]
      have hn4 : n ≤ 4 := by omega
      have hn2 : 2 ≤ n := by omega
      refine congrArg Real.toEReal ?_
      interval_cases n <;> norm_num
    · rw [if_neg h4] at st
      have h4' : 4 ≤ a := not_lt.1 h4
      have g : grid a = a / 2 + (4 : ℕ) := by unfold grid; rw [if_neg h2, if_neg h4]; push_cast; ring
      rw [sq_step a 2 (by norm_num) h0 r st, sfold_real, g, Nat.floor_add_natCast (by positivity),
        show a / 2 + ((4 : ℕ) : ℝ) - ((⌊a / 2⌋₊ + 4 : ℕ) : ℝ) = a / 2 - ⌊a / 2⌋₊ by push_cast; ring]
      have hK : ⌊a / 2⌋₊ ≤ 3 := by
        have : ⌊a / 2⌋₊ < 4 := (Nat.floor_lt (by positivity)).2 (by rw [div_lt_iff₀ (by norm_num)]; push_cast; linarith)
        omega
      have hK2 : 2 ≤ ⌊a / 2⌋₊ := Nat.le_floor (by rw [le_div_iff₀ (by norm_num)]; push_cast; linarith)
      have hu := up1 ((r.toNat : ℝ) + 1 / 2 < (a / 2 - ⌊a / 2⌋₊) * 256) inferInstance
      generalize (if (r.toNat : ℝ) + 1 / 2 < (a / 2 - ⌊a / 2⌋₊) * 256 then 1 else 0 : ℕ) = u at *
      generalize ⌊a / 2⌋₊ = K at *
      obtain ⟨n, hn⟩ : ∃ n, n = K + u := ⟨_, rfl⟩
      rw [show K + 4 + u = n + 4 by omega, ← hn]
      have hn4 : n ≤ 4 := by omega
      have hn2 : 2 ≤ n := by omega
      refine congrArg Real.toEReal ?_
      interval_cases n <;> norm_num

/-- The clipped scaled value: its magnitude and its sign. -/
theorem sy_amt {w d : EReal} (h : Fits w d) : mg (sy w d) = ((amt w d : ℝ) : EReal) ∧ (0 < d → (sy w d < 0 ↔ w < 0)) := by
  unfold sy
  rw [c_six, c_negSix]
  by_cases hd : 0 < d
  · obtain ⟨D, x, hD, e, ew, hx, ea⟩ := fits_real h hd
    rw [if_pos hd, if_pos hd, ea, e, ew, div_real _ _ hD.ne']
    rw [abs_le] at hx
    have h1 : x / D ≤ 6 := (div_le_iff₀ hD).2 hx.2
    have h2 : -6 ≤ x / D := (le_div_iff₀ hD).2 (by linarith)
    rw [max_eq_right (EReal.coe_le_coe_iff.2 h2), min_eq_right (EReal.coe_le_coe_iff.2 h1)]
    refine ⟨?_, fun _ => ?_⟩
    · rw [mg_eq, ← EReal.coe_neg, ← EReal.coe_strictMono.monotone.map_max]
      refine congrArg Real.toEReal ?_
      show |x / D| = _
      rw [abs_div, abs_of_pos hD]
    · rw [← EReal.coe_zero, EReal.coe_lt_coe_iff, EReal.coe_lt_coe_iff, div_lt_iff₀ hD, zero_mul]
  · refine ⟨?_, fun q => absurd q hd⟩
    unfold amt
    rw [if_neg hd, if_neg hd, ← EReal.coe_zero, max_eq_right (EReal.coe_le_coe_iff.2 (by norm_num)), min_eq_right (EReal.coe_le_coe_iff.2 (by norm_num)), mg_eq, ← EReal.coe_neg, neg_zero, max_self]

/-- Where the scale is not positive the code is zero. -/
theorem code_zero {w d : EReal} (hd : ¬ 0 < d) (r : ℕ) : code (amt w d) r = 0 := by
  unfold amt
  rw [if_neg hd]
  unfold code grid
  have : (0 : ℝ) ≤ r := Nat.cast_nonneg r
  rw [if_pos (by norm_num), mul_zero, Nat.floor_zero, if_neg (by push_cast; linarith)]

end Cert.Code
end
-- ==== Proof.RefRead.lean ====
module

public import proofs.«01_k».proof.Proof.Gen.ReferenceIdeal.Run
public import proofs.«01_k».proof.Proof.Consts
public import proofs.«01_k».proof.Proof.CodeRef
public import proofs.«01_k».proof.Proof.CodeBits
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert
open Cert.KernelIdeal.Hand (nib pack)

variable (V0 : Valuation τ sig (Elt Ideal))

theorem v46_apply (tok : Fin 2048) (b : Fin 1024) (S : S2048x1024.Idx → EReal) (T : S_.Idx → EReal) (hS : V0 (Proc.devRef .tc main_v43_1) = S) (hT : V0 (Proc.devRef .tc main_v39) = T) :
    (res_main_v46 (F := Ideal) V0 : S1x2048x1024x1.Idx → EReal) (ix4 0 tok b 0) = S (ix2 tok b) * T ix0 := by
  unfold res_main_v46
  rw [hS, hT]
  pointwise

theorem v53_apply (tok : Fin 2048) (b : Fin 1024) (i : Fin 16) : (res_main_v53 (F := Ideal) V0 : S1x2048x1024x16.Idx → EReal) (ix4 0 tok b i)
    = Code.sy ((V0 (Proc.devRef .tc main_v34) : S1x2048x1024x16.Idx → EReal) (ix4 0 tok b i)) ((res_main_v46 (F := Ideal) V0 : S1x2048x1024x1.Idx → EReal) (ix4 0 tok b 0)) := by
  unfold res_main_v53 res_main_v48
  generalize (res_main_v46 (F := Ideal) V0 : S1x2048x1024x1.Idx → EReal) = D
  pointwise
  rw [show id (constant (F := Ideal) S_ FTy.f32 1065353216#32) ix0 = (1 : EReal) from Ideal.ofBits_one_f32,
    show id (constant (F := Ideal) S_ FTy.f32 0#32) ix0 = (0 : EReal) from Ideal.ofBits_zero_f32]
  rfl

theorem v60_apply (tok : Fin 2048) (b : Fin 1024) (i : Fin 16) : (res_main_v60 (F := Ideal) V0 : S1x2048x1024x16.Idx → EReal) (ix4 0 tok b i)
    = Code.sstep ((res_main_v54 (F := Ideal) V0 : S1x2048x1024x16.Idx → EReal) (ix4 0 tok b i)) := by
  unfold res_main_v60
  generalize (res_main_v54 (F := Ideal) V0 : S1x2048x1024x16.Idx → EReal) = A
  pointwise
  rfl

theorem v65_apply (tok : Fin 2048) (b : Fin 1024) (i : Fin 16) : (res_main_v65 (F := Ideal) V0 : S1x2048x1024x16.Idx → EReal) (ix4 0 tok b i)
    = Code.slo ((res_main_v54 (F := Ideal) V0 : S1x2048x1024x16.Idx → EReal) (ix4 0 tok b i)) := by
  unfold res_main_v65 Code.slo
  rw [← v60_apply]
  generalize (res_main_v54 (F := Ideal) V0 : S1x2048x1024x16.Idx → EReal) = A
  generalize (res_main_v60 (F := Ideal) V0 : S1x2048x1024x16.Idx → EReal) = B
  pointwise
  rfl

theorem v80_apply (tok : Fin 2048) (b : Fin 1024) (i : Fin 16) : (res_main_v80 (F := Ideal) V0 : S1x2048x1024x16.Idx → EReal) (ix4 0 tok b i)
    = Code.sq ((res_main_v54 (F := Ideal) V0 : S1x2048x1024x16.Idx → EReal) (ix4 0 tok b i))
        ((V0 (Proc.devRef .tc main_arg2) : S1x2048x16384.Idx → BitVec 8) (ix3 0 tok (⟨b.val * 16 + i.val, by omega⟩ : Fin 16384))) := by
  unfold res_main_v80 Code.sq
  rw [← v60_apply, ← v65_apply]
  generalize (res_main_v54 (F := Ideal) V0 : S1x2048x1024x16.Idx → EReal) = A
  generalize (res_main_v60 (F := Ideal) V0 : S1x2048x1024x16.Idx → EReal) = B
  generalize (res_main_v65 (F := Ideal) V0 : S1x2048x1024x16.Idx → EReal) = C
  pointwise
  rfl

theorem v95_apply (tok : Fin 2048) (b : Fin 1024) (i : Fin 16) : (res_main_v95 (F := Ideal) V0 : S1x2048x1024x16.Idx → BitVec 32) (ix4 0 tok b i)
    = Ideal.fptosi 32 (Code.sfold ((res_main_v80 (F := Ideal) V0 : S1x2048x1024x16.Idx → EReal) (ix4 0 tok b i))) := by
  unfold res_main_v95
  generalize (res_main_v80 (F := Ideal) V0 : S1x2048x1024x16.Idx → EReal) = A
  pointwise
  rfl

theorem v54_apply (tok : Fin 2048) (b : Fin 1024) (i : Fin 16) : (res_main_v54 (F := Ideal) V0 : S1x2048x1024x16.Idx → EReal) (ix4 0 tok b i)
    = Math.mg ((res_main_v53 (F := Ideal) V0 : S1x2048x1024x16.Idx → EReal) (ix4 0 tok b i)) := by
  unfold res_main_v54
  generalize (res_main_v53 (F := Ideal) V0 : S1x2048x1024x16.Idx → EReal) = A
  pointwise
  rfl

theorem sel_nib : ∀ (neg : Bool) (n : Fin 8), Scalar.select (IntOp.andi (BitVec.ofBool neg) (IntOp.cmpi CmpIPredicate.sgt (BitVec.ofNat 32 n.val) 0#32)) (IntOp.ori (BitVec.ofNat 32 n.val) 8#32) (BitVec.ofNat 32 n.val) = nib neg n.val := by
  decide +kernel

theorem v104_apply (tok : Fin 2048) (b : Fin 8192) (i : Fin 2) (B : Fin 1024) (j : Fin 16) (hB : B.val = b.val / 8) (hj : j.val = b.val % 8 * 2 + i.val) (n : Fin 8)
    (y : EReal) (hy : (res_main_v53 (F := Ideal) V0 : S1x2048x1024x16.Idx → EReal) (ix4 0 tok B j) = y)
    (hn : (res_main_v95 (F := Ideal) V0 : S1x2048x1024x16.Idx → BitVec 32) (ix4 0 tok B j) = BitVec.ofNat 32 n.val) :
    (res_main_v104 (F := Ideal) V0 : S2048x8192x2.Idx → BitVec 32) (ix3 tok b i) = nib (decide (y < 0)) n.val := by
  rw [← sel_nib, ← hn, ← hy]
  have eB : (⟨b.val / 8, by omega⟩ : Fin 1024) = B := Fin.ext hB.symm
  have ej : (⟨b.val % 8 * 2 + i.val, by omega⟩ : Fin 16) = j := Fin.ext hj.symm
  rw [← eB, ← ej]
  clear hn hy
  unfold res_main_v104
  generalize (res_main_v53 (F := Ideal) V0 : S1x2048x1024x16.Idx → EReal) = A
  generalize (res_main_v95 (F := Ideal) V0 : S1x2048x1024x16.Idx → BitVec 32) = C
  pointwise

/-- The packing of two codes. -/
theorem pack_apply (C : S2048x8192x2.Idx → BitVec 32) (tok : Fin 2048) (b : Fin 8192) (s0 : S2048x8192x2.Slices ![0, 0, 0] S2048x8192x1) (s1 : S2048x8192x2.Slices ![0, 0, 1] S2048x8192x1)
    (h0 : S2048x8192x1.ShapeCasts S2048x8192) (hn : 8 < 32) (hb) :
    trunci 8 (ori (shapeCast S2048x8192 (extractStridedSlice S2048x8192x1 ![0, 0, 0] C s0) h0)
      (Host.shli (shapeCast S2048x8192 (extractStridedSlice S2048x8192x1 ![0, 0, 1] C s1) h0) (broadcastInDim S2048x8192 ![] hb (constantI S_ 32 4#32)))) hn (ix2 tok b)
      = pack (C (ix3 tok b 0)) (C (ix3 tok b 1)) := by
  pointwise
  rfl

end Cert.ReferenceIdeal.Hand
end
-- ==== Proof.RefReg.lean ====
module

public import proofs.«01_k».proof.Proof.Gen.ReferenceIdeal.Run
public import proofs.«01_k».proof.Proof.Math
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert

theorem index0 : ∀ t : Fin cfg0.N, win0_0.index t = ![0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel

/-- The one block of each input is the array. -/
theorem read0 (A : S2048x1024.Idx → EReal) (t : Fin cfg0.N) : (((cfg0.win 0).blk t).view.read (Elt Ideal) A : S2048x1024.Idx → EReal) = A := by
  funext y
  idx_vars y
  blk_ext [index0 t]
theorem read1 (A : S1x1.Idx → EReal) (t : Fin cfg0.N) : (((cfg0.win 1).blk t).view.read (Elt Ideal) A : S1x1.Idx → EReal) = A := by
  funext y
  idx_vars y
  blk_ext [index1 t]

theorem pay1_apply (x : FVec Ideal S2048x1024 .f32) (t : FVec Ideal S1x1 .f32) (a : Fin 2048) (b : Fin 1024) :
    k0_pay1 (F := Ideal) x t (ix2 a b) = Ideal.div (x (ix2 a b)) (Ideal.ofBits .f32 1086324736#32 * t (ix2 0 0)) := by
  pointwise [k0_pay1]

end Cert.ReferenceIdeal.Hand
end
-- ==== Proof.RefScale.lean ====
module

public import proofs.«01_k».proof.Proof.Gen.ReferenceIdeal.Run
public import proofs.«01_k».proof.Proof.RefReg
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert

theorem out2_eq (x : FVec Ideal S2048x1024 .f32) (t : FVec Ideal S1x1 .f32) : out0_2 (F := Ideal) x t = k0_pay1 (F := Ideal) x t := by
  unfold out0_2 r0_0 r0_1
  rw [View.canon_cons_unit_lit _ _ _ (by decide), View.ld_unit_lit _ _ (by decide), View.ld_unit_lit _ _ (by decide)]

theorem out3_eq (x : FVec Ideal S2048x1024 .f32) (t : FVec Ideal S1x1 .f32) : out0_3 (F := Ideal) x t = extf .f32 (k0_pay1 (F := Ideal) x t) bitsLt_fp8e4m3_f32 := by
  unfold out0_3 r0_0 r0_1
  rw [View.canon_cons_unit_lit _ _ _ (by decide), View.ld_unit_lit _ _ (by decide), View.ld_unit_lit _ _ (by decide)]
  rfl

variable (m : (ℓ : Loc nD τ sig) → Buf (Elt Ideal) ℓ)

/-- Both outputs hold the quotient of the block maximum by six tensor scales. -/
theorem reg0_of (c : Dev nD) (A : S2048x1024.Idx → EReal) (B : S1x1.Idx → EReal) (hA : V m c main_v41 = A) (hB : V m c main_v42 = B) :
    (reg_main_v43_0 (F := Ideal) m c : S2048x1024.Idx → EReal) = fun y => Ideal.div (A (ix2 (y 0) (y 1))) (Ideal.ofBits .f32 1086324736#32 * B (ix2 0 0)) := by
  unfold reg_main_v43_0
  refine (dats m 0 c).arrAt_eq_of_covers 2 _ (by decide +kernel) fun t hf y => ?_
  have e := index2 t
  have e0 : iblk (F := Ideal) m c 0 t = A := by
    unfold iblk
    rw [show V m c (Pipeline.arrRef spec0 0) = A from hA]
    exact read0 A t
  have e1 : iblk (F := Ideal) m c 1 t = B := by
    unfold iblk
    rw [show V m c (Pipeline.arrRef spec0 1) = B from hB]
    exact read1 B t
  rw [after0_2, e0, e1, out2_eq]
  clear hA hB e0 e1
  have h0 : (y 0).val < 2048 := (y 0).isLt
  have h1 : (y 1).val < 1024 := (y 1).isLt
  blk_simp
  refine (pay1_apply A B (y 0) (y 1)).trans ?_
  congr 3
  all_goals apply Fin.ext; blk_simp [e]; (try simp); (try omega)

theorem reg1_of (c : Dev nD) (A : S2048x1024.Idx → EReal) (B : S1x1.Idx → EReal) (hA : V m c main_v41 = A) (hB : V m c main_v42 = B) :
    (reg_main_v43_1 (F := Ideal) m c : S2048x1024.Idx → EReal) = fun y => Ideal.div (A (ix2 (y 0) (y 1))) (Ideal.ofBits .f32 1086324736#32 * B (ix2 0 0)) := by
  unfold reg_main_v43_1
  refine (dats m 0 c).arrAt_eq_of_covers 3 _ (by decide +kernel) fun t hf y => ?_
  have e := index3 t
  have e0 : iblk (F := Ideal) m c 0 t = A := by
    unfold iblk
    rw [show V m c (Pipeline.arrRef spec0 0) = A from hA]
    exact read0 A t
  have e1 : iblk (F := Ideal) m c 1 t = B := by
    unfold iblk
    rw [show V m c (Pipeline.arrRef spec0 1) = B from hB]
    exact read1 B t
  rw [after0_3, e0, e1, out3_eq]
  clear hA hB e0 e1
  have h0 : (y 0).val < 2048 := (y 0).isLt
  have h1 : (y 1).val < 1024 := (y 1).isLt
  blk_simp
  refine (pay1_apply A B (y 0) (y 1)).trans ?_
  congr 3
  all_goals apply Fin.ext; blk_simp [e]; (try simp); (try omega)

end Cert.ReferenceIdeal.Hand
end
-- ==== Proof.RefVals.lean ====
module

public import proofs.«01_k».proof.Proof.Gen.ReferenceIdeal.Run
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo
open Cert

variable (m : (ℓ : Loc nD τ sig) → Buf (Elt Ideal) ℓ)

/-- The region's first input is the block maxima, reshaped. -/
theorem V41 (c : Dev nD) : (V m c main_v41 : S2048x1024.Idx → EReal) = shapeCast _ (exitV (F := Ideal) m c (Proc.devRef .tc main_v40) : S1x2048x1024.Idx → EReal) shapeCasts_S1x2048x1024_S2048x1024 := by
  rw [exit_main_v40]
  show Gen.V0 m c (Proc.devRef .tc main_v41) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

end Cert.ReferenceIdeal.Hand
end
-- ==== Proof.RefValsT.lean ====
module

public import proofs.«01_k».proof.Proof.Gen.ReferenceIdeal.Run
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo
open Cert

variable (m : (ℓ : Loc nD τ sig) → Buf (Elt Ideal) ℓ)

/-- The region's second input is the tensor scale, reshaped. -/
theorem V42 (c : Dev nD) : (V m c main_v42 : S1x1.Idx → EReal) = shapeCast _ (exitV (F := Ideal) m c (Proc.devRef .tc main_v39) : S_.Idx → EReal) shapeCasts_S_S1x1 := by
  rw [exit_main_v39]
  show Gen.V0 m c (Proc.devRef .tc main_v42) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

end Cert.ReferenceIdeal.Hand
end
-- ==== Proof.RefW.lean ====
module

public import proofs.«01_k».proof.Proof.Gen.ReferenceIdeal.Run
public import proofs.«01_k».proof.Proof.Gen.ReferenceIdeal.Read
public import proofs.«01_k».proof.Proof.Math
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert

variable (m : (ℓ : Loc nD τ sig) → Buf (Elt Ideal) ℓ)

/-- The activations by token and channel, the signs by channel, the rounding bytes by token and channel. -/
def X (c : Dev nD) : Fin 2048 → Fin 16384 → EReal := fun tok ch => (m ((c.tc : Thread nD τ).loc main_arg0) : S1x2048x16384.Idx → EReal) (ix3 0 tok ch)
def SG (c : Dev nD) : Fin 16 → EReal := fun j => (m ((c.tc : Thread nD τ).loc main_arg1) : S16.Idx → EReal) (ix1 j)
def RD (c : Dev nD) : Fin 2048 → Fin 16384 → BitVec 8 := fun tok ch => (m ((c.tc : Thread nD τ).loc main_arg2) : S1x2048x16384.Idx → BitVec 8) (ix3 0 tok ch)

/-- The transform of the reference. -/
theorem v34_apply (c : Dev nD) (tok : Fin 2048) (b : Fin 1024) (i : Fin 16) :
    (exitV (F := Ideal) m c (Proc.devRef .tc main_v34) : S1x2048x1024x16.Idx → EReal) (ix4 0 tok b i) = Math.W (X m c) (SG m c) tok b i := by
  rw [exit_main_v34]
  pointwise
  rfl

theorem v34_abs (c : Dev nD) : ∃ W : FVec Ideal S1x2048x1024x16 .f32, (∀ tok b i, W (ix4 0 tok b i) = Math.W (X m c) (SG m c) tok b i)
    ∧ exitV (F := Ideal) m c (Proc.devRef .tc main_v34) = W := ⟨_, v34_apply m c, rfl⟩

end Cert.ReferenceIdeal.Hand
end
-- ==== Proof.RefM.lean ====
module

public import proofs.«01_k».proof.Proof.Gen.ReferenceIdeal.Run
public import proofs.«01_k».proof.Proof.RefW
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert

variable (m : (ℓ : Loc nD τ sig) → Buf (Elt Ideal) ℓ)

/-- The block maxima of the reference. -/
theorem v40_apply (c : Dev nD) (tok : Fin 2048) (b : Fin 1024) :
    (exitV (F := Ideal) m c (Proc.devRef .tc main_v40) : S1x2048x1024.Idx → EReal) (ix3 0 tok b) = Math.M (X m c) (SG m c) tok b := by
  obtain ⟨W, hW, e⟩ := v34_abs m c
  rw [exit_main_v34] at e
  rw [exit_main_v40, e]
  pointwise
  rw [Cert.Consts.negInf]
  have key : Finset.fold max (⊥ : EReal) (fun x : Fin 16 => Math.mg (W (ix4 0 tok b x))) Finset.univ = Math.M (X m c) (SG m c) tok b := by
    refine eq_of_forall_ge_iff fun z => ?_
    rw [Math.M_le, Finset.fold_max_le]
    simp only [bot_le, true_and, Finset.mem_univ, true_imp_iff, hW]
  exact key

end Cert.ReferenceIdeal.Hand
end
-- ==== Proof.RefT.lean ====
module

public import proofs.«01_k».proof.Proof.Gen.ReferenceIdeal.Run
public import proofs.«01_k».proof.Proof.RefW
public import proofs.«01_k».proof.Proof.Consts
public import Idealize.ShloMosaic.Lib.Pipeline.ValueKit
public import Idealize.ShloMosaic.Lib.Pointwise

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert

variable (m : (ℓ : Loc nD τ sig) → Buf (Elt Ideal) ℓ)

theorem foldl_max_le {ι : Type} (g : ι → EReal) (z : EReal) : ∀ (l : List ι) (a : EReal), l.foldl (fun r n => max r (g n)) a ≤ z ↔ a ≤ z ∧ ∀ n ∈ l, g n ≤ z
  | [], a => by simp
  | n :: l, a => by
    rw [List.foldl_cons, foldl_max_le g z l, max_le_iff]
    simp only [List.mem_cons, forall_eq_or_imp, and_assoc]

/-- The maximum of the magnitudes over every index is the greatest of all. -/
theorem red_all (W : FVec Ideal S1x2048x1024x16 .f32) (X : Fin 2048 → Fin 16384 → EReal) (sg : Fin 16 → EReal)
    (hW : ∀ tok b i, W (ix4 0 tok b i) = Math.W X sg tok b i) :
    (Host.reduce (FloatOps.maximumf (F := Ideal) (φ := .f32)) (Host.absf W) (constant (F := Ideal) S_ .f32 0xFF800000#32) reducesTo_S1x2048x1024x16_S_d0_1_2_3 h_S_ : S_.Idx → EReal) ix0 = Math.G X sg := by
  have hi : ∀ (h : S1x2048x1024x16.ReducesTo [0, 1, 2, 3] S_) (n : S1x2048x1024x16.Idx), h.drop n = ix0 := fun h n => funext fun a => a.elim0
  have hc : (constant (F := Ideal) S_ .f32 0xFF800000#32 : S_.Idx → EReal) (Shape.Idx.first h_S_) = ⊥ := Cert.Consts.negInf
  refine eq_of_forall_ge_iff fun z => ?_
  refine (foldl_max_le (fun n : Fin S1x2048x1024x16.numel => Math.mg (W (S1x2048x1024x16.rowMajor.symm n))) z _ _).trans ?_
  rw [hc, Math.G_le]
  simp only [Math.M_le, bot_le, true_and]
  constructor
  · intro h tok b i
    rw [← hW]
    have q := h (S1x2048x1024x16.rowMajor (ix4 0 tok b i)) (List.mem_filter.2 ⟨List.mem_finRange _, decide_eq_true (hi _ _)⟩)
    rw [Equiv.symm_apply_apply] at q
    exact q
  · intro h n _
    generalize S1x2048x1024x16.rowMajor.symm n = y
    idx_vars y
    have e : y0 = 0 := Fin.ext (by have := y0.isLt; show y0.val = 0; omega)
    rw [e, hW]
    exact h _ _ _

theorem tscale (R : S_.Idx → EReal) : (select (cmpf .ogt (R : FVec Ideal S_ .f32) (constant (F := Ideal) S_ .f32 0x00000000#32)) (Host.divf (R : FVec Ideal S_ .f32) (constant (F := Ideal) S_ .f32 1160249344#32)) (id (constant (F := Ideal) S_ .f32 0x3F800000#32)) : S_.Idx → EReal) ix0
    = if 0 < R ix0 then Ideal.div (R ix0) (Ideal.ofBits .f32 1160249344#32) else 1 := by
  pointwise
  rw [show id (constant (F := Ideal) S_ FTy.f32 1065353216#32) ix0 = (1 : EReal) from Ideal.ofBits_one_f32]

/-- The tensor scale of the reference. -/
theorem v39_apply (c : Dev nD) : (exitV (F := Ideal) m c (Proc.devRef .tc main_v39) : S_.Idx → EReal) ix0 = Math.T (X m c) (SG m c) := by
  obtain ⟨W, hW, e⟩ := v34_abs m c
  rw [exit_main_v34] at e
  rw [exit_main_v39, e]
  unfold Math.T
  rw [← red_all W (X m c) (SG m c) hW]
  exact tscale _

end Cert.ReferenceIdeal.Hand
end
-- ==== Proof.RefCodes.lean ====
module

public import proofs.«01_k».proof.Proof.RefRead
public import proofs.«01_k».proof.Proof.RefScale
public import proofs.«01_k».proof.Proof.RefVals
public import proofs.«01_k».proof.Proof.RefValsT
public import proofs.«01_k».proof.Proof.RefM
public import proofs.«01_k».proof.Proof.RefT
public import proofs.«01_k».proof.Proof.Packed

@[expose] public section

set_option maxRecDepth 16384
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem
open Cert
open Cert.KernelIdeal.Hand (nib pack)
open Cert.Code (cd cd_le codeAt packed)

variable (m : (ℓ : Loc nD τ sig) → Buf (Elt Ideal) ℓ)

theorem cast40 (A : S1x2048x1024.Idx → EReal) (tok : Fin 2048) (b : Fin 1024) : shapeCast S2048x1024 A shapeCasts_S1x2048x1024_S2048x1024 (ix2 tok b) = A (ix3 0 tok b) := by
  pointwise
theorem cast39 (A : S_.Idx → EReal) : shapeCast S1x1 A shapeCasts_S_S1x1 (ix2 0 0) = A ix0 := by
  pointwise
theorem cast114 (A : S_.Idx → EReal) : shapeCast S1 A shapeCasts_S_S1 (ix1 0) = A ix0 := by
  pointwise

/-- The block scales of the reference, as computed and as read back. -/
theorem reg0_eq (c : Dev nD) : (reg_main_v43_0 (F := Ideal) m c : S2048x1024.Idx → EReal) = fun y => Math.S (X m c) (SG m c) (y 0) (y 1) := by
  rw [reg0_of m c _ _ (V41 m c) (V42 m c)]
  funext y
  idx_vars y
  refine congrArg₂ Ideal.div ((cast40 _ _ _).trans (v40_apply m c _ _)) (congrArg _ ((cast39 _).trans (v39_apply m c)))

theorem reg1_eq (c : Dev nD) : (reg_main_v43_1 (F := Ideal) m c : S2048x1024.Idx → EReal) = fun y => Math.S (X m c) (SG m c) (y 0) (y 1) := by
  rw [reg1_of m c _ _ (V41 m c) (V42 m c)]
  funext y
  idx_vars y
  refine congrArg₂ Ideal.div ((cast40 _ _ _).trans (v40_apply m c _ _)) (congrArg _ ((cast39 _).trans (v39_apply m c)))

/-- The block maxima and the tensor scale. -/
theorem res0_eq (c : Dev nD) : (shapeCast S2048x1024 (exitV (F := Ideal) m c main_v40 : S1x2048x1024.Idx → EReal) shapeCasts_S1x2048x1024_S2048x1024 : S2048x1024.Idx → EReal)
    = fun y => Math.M (X m c) (SG m c) (y 0) (y 1) := by
  funext y
  idx_vars y
  exact (cast40 _ _ _).trans (v40_apply m c _ _)

theorem res3_eq (c : Dev nD) : (shapeCast S1 (exitV (F := Ideal) m c main_v39 : S_.Idx → EReal) shapeCasts_S_S1 : S1.Idx → EReal)
    = fun y => Math.T (X m c) (SG m c) := by
  funext y
  have e : y = ix1 0 := funext fun d => by
    match d with
    | 0 => exact Subsingleton.elim (α := Fin 1) _ _
  rw [e]
  exact (cast114 _).trans (v39_apply m c)

/-- A block's scale times the tensor scale. -/
theorem v46_eq (c : Dev nD) (tok : Fin 2048) (b : Fin 1024) : (res_main_v46 (F := Ideal) (exitV m c) : S1x2048x1024x1.Idx → EReal) (ix4 0 tok b 0) = Math.S (X m c) (SG m c) tok b * Math.T (X m c) (SG m c) :=
  (v46_apply (exitV m c) tok b _ _ ((exit_main_v43_1 m c).trans (reg1_eq m c)) rfl).trans (congrArg _ (v39_apply m c))

theorem v53_eq (c : Dev nD) (tok : Fin 2048) (b : Fin 1024) (i : Fin 16) : (res_main_v53 (F := Ideal) (exitV m c) : S1x2048x1024x16.Idx → EReal) (ix4 0 tok b i)
    = Code.sy (Math.W (X m c) (SG m c) tok b i) (Math.S (X m c) (SG m c) tok b * Math.T (X m c) (SG m c)) :=
  (v53_apply (exitV m c) tok b i).trans (congrArg₂ Code.sy (v34_apply m c tok b i) (v46_eq m c tok b))

theorem v95_eq (c : Dev nD) (tok : Fin 2048) (b : Fin 1024) (i : Fin 16) : (res_main_v95 (F := Ideal) (exitV m c) : S1x2048x1024x16.Idx → BitVec 32) (ix4 0 tok b i)
    = BitVec.ofNat 32 (cd (X m c) (SG m c) (RD m c) tok b i) := by
  have hf := Code.fits (X m c) (SG m c) tok b i
  have ea : (res_main_v54 (F := Ideal) (exitV m c) : S1x2048x1024x16.Idx → EReal) (ix4 0 tok b i) = ((Code.amt (Math.W (X m c) (SG m c) tok b i) (Math.S (X m c) (SG m c) tok b * Math.T (X m c) (SG m c)) : ℝ) : EReal) :=
    (v54_apply (exitV m c) tok b i).trans ((congrArg _ (v53_eq m c tok b i)).trans (Code.sy_amt hf).1)
  refine (v95_apply (exitV m c) tok b i).trans ?_
  rw [v80_apply, ea, exit_main_arg2]
  exact Code.sidx_real _ (Code.amt_bounds hf).1 (Code.amt_bounds hf).2 _

theorem v104_eq (c : Dev nD) (tok : Fin 2048) (b : Fin 8192) (i : Fin 2) (B : Fin 1024) (j : Fin 16) (hB : B.val = b.val / 8) (hj : j.val = b.val % 8 * 2 + i.val) :
    (res_main_v104 (F := Ideal) (exitV m c) : S2048x8192x2.Idx → BitVec 32) (ix3 tok b i) = codeAt (X m c) (SG m c) (RD m c) tok B j := by
  refine (v104_apply (exitV m c) tok b i B j hB hj ⟨_, Nat.lt_succ_of_le (cd_le (X m c) (SG m c) (RD m c) tok B j)⟩ _ (v53_eq m c tok B j) (v95_eq m c tok B j)).trans ?_
  unfold codeAt
  by_cases hd : 0 < Math.S (X m c) (SG m c) tok B * Math.T (X m c) (SG m c)
  · rw [decide_eq_decide.2 ((Code.sy_amt (Code.fits (X m c) (SG m c) tok B j)).2 hd)]
  · have e : cd (X m c) (SG m c) (RD m c) tok B j = 0 := Code.code_zero hd _
    simp only [e]
    unfold nib
    rw [if_neg (by simp), if_neg (by simp)]

/-- The reference's codes are the packed codes. -/
theorem codes_eq (c : Dev nD) (s0 : S2048x8192x2.Slices ![0, 0, 0] S2048x8192x1) (s1 : S2048x8192x2.Slices ![0, 0, 1] S2048x8192x1) (h0 : S2048x8192x1.ShapeCasts S2048x8192) (hn : 8 < 32) (hb) :
    (trunci 8 (ori (shapeCast S2048x8192 (extractStridedSlice S2048x8192x1 ![0, 0, 0] (res_main_v104 (F := Ideal) (exitV m c) : S2048x8192x2.Idx → BitVec 32) s0) h0)
      (Host.shli (shapeCast S2048x8192 (extractStridedSlice S2048x8192x1 ![0, 0, 1] (res_main_v104 (F := Ideal) (exitV m c) : S2048x8192x2.Idx → BitVec 32) s1) h0) (broadcastInDim S2048x8192 ![] hb (constantI S_ 32 4#32)))) hn : S2048x8192.Idx → BitVec 8)
      = fun y => packed (X m c) (SG m c) (RD m c) (y 0) (y 1) := by
  funext y
  idx_vars y
  refine (pack_apply _ y0 y1 s0 s1 h0 hn hb).trans ?_
  exact congrArg₂ pack (v104_eq m c y0 y1 0 _ _ rfl (by show 2 * (y1.val % 8) = _; simp; omega)) (v104_eq m c y0 y1 1 _ _ rfl (by show 2 * (y1.val % 8) + 1 = _; simp; omega))

end Cert.ReferenceIdeal.Hand
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.KernelFrame
public import proofs.«01_k».proof.Proof.KernelIdealFrame
public import proofs.«01_k».proof.Proof.Arrays
public import proofs.«01_k».proof.Proof.KernelCodes
public import proofs.«01_k».proof.Proof.RefCodes
public import Idealize.ShloMosaic.PureOps.IdealRules

@[expose] public section

set_option maxRecDepth 16384
set_option maxHeartbeats 4000000

noncomputable section

namespace Cert.Proof

open Idealize.ShloMosaic Idealize.ShloMosaic.TcCoe Idealize.SL.Sem

/-- The kernel's results and the reference's are the same functions of the arguments. -/
theorem algebraic : algebraic_KernelIdeal_ReferenceIdeal := fun m g m' g' _ hm => by
  have hX : ∀ c, Cert.ReferenceIdeal.Hand.X m' c = Cert.KernelIdeal.Hand.ofArr (Cert.KernelIdeal.Hand.X m c) := fun c => by
    funext tok ch
    exact (congrFun (hm c).1 (ix3 0 tok ch)).trans (Cert.KernelIdeal.Hand.X_eq m c tok ch).symm
  have hR : ∀ c, Cert.ReferenceIdeal.Hand.RD m' c = Cert.KernelIdeal.Hand.ofArr (Cert.KernelIdeal.Hand.RD m c) := fun c => by
    funext tok ch
    exact (congrFun (hm c).2.2 (ix3 0 tok ch)).trans (Cert.KernelIdeal.Hand.RD_eq m c tok ch).symm
  have hS : ∀ c, Cert.ReferenceIdeal.Hand.SG m' c = Cert.KernelIdeal.Hand.ofSg (Cert.KernelIdeal.Hand.SG m c) := fun c => by
    funext j
    exact (congrFun (hm c).2.1 (ix1 j)).trans (congrFun (Cert.KernelIdeal.Hand.SG_eq m c) (ix1 j)).symm
  have eM : ∀ c a b, Cert.KernelIdeal.Hand.outM (Cert.KernelIdeal.Hand.X m c) (Cert.KernelIdeal.Hand.SG m c) a b = Cert.Math.M (Cert.ReferenceIdeal.Hand.X m' c) (Cert.ReferenceIdeal.Hand.SG m' c) a b := fun c a b => by
    rw [hX, hS]
    exact Cert.KernelIdeal.Hand.outM_eq _ _ _ _
  have eC : ∀ c a b, Cert.KernelIdeal.Hand.outC (Cert.KernelIdeal.Hand.X m c) (Cert.KernelIdeal.Hand.RD m c) (Cert.KernelIdeal.Hand.SG m c) a b = Cert.Code.packed (Cert.ReferenceIdeal.Hand.X m' c) (Cert.ReferenceIdeal.Hand.SG m' c) (Cert.ReferenceIdeal.Hand.RD m' c) a b := fun c a b => by
    rw [hX, hS, hR]
    exact Cert.KernelIdeal.Hand.outC_eq _ _ _ _ _
  have eS : ∀ c a b, Cert.KernelIdeal.Hand.outS (Cert.KernelIdeal.Hand.X m c) (Cert.KernelIdeal.Hand.SG m c) a b = Cert.Math.S (Cert.ReferenceIdeal.Hand.X m' c) (Cert.ReferenceIdeal.Hand.SG m' c) a b := fun c a b => by
    rw [hX, hS]
    exact Cert.KernelIdeal.Hand.outS_eq _ _ _ _
  have eT : ∀ c, Cert.KernelIdeal.Hand.TS (Cert.KernelIdeal.Hand.X m c) (Cert.KernelIdeal.Hand.SG m c) = Cert.Math.T (Cert.ReferenceIdeal.Hand.X m' c) (Cert.ReferenceIdeal.Hand.SG m' c) := fun c => by
    rw [hX, hS]
    exact Cert.KernelIdeal.Hand.TS_eq _ _
  refine ⟨fun c => fun y => Cert.Math.M (Cert.ReferenceIdeal.Hand.X m' c) (Cert.ReferenceIdeal.Hand.SG m' c) (y 0) (y 1),
    fun c => fun y => Cert.Code.packed (Cert.ReferenceIdeal.Hand.X m' c) (Cert.ReferenceIdeal.Hand.SG m' c) (Cert.ReferenceIdeal.Hand.RD m' c) (y 0) (y 1),
    fun c => fun y => Cert.Math.S (Cert.ReferenceIdeal.Hand.X m' c) (Cert.ReferenceIdeal.Hand.SG m' c) (y 0) (y 1),
    fun c => fun y => Cert.Math.T (Cert.ReferenceIdeal.Hand.X m' c) (Cert.ReferenceIdeal.Hand.SG m' c),
    (θ_run _ _ _).mono (fun r h c => ?_) (Cert.KernelIdeal.Hand.run_values m g), (θ_run _ _ _).mono (fun r h c => ?_) (Cert.ReferenceIdeal.Value.run m' g')⟩
  · obtain ⟨⟨h0, h1, h2, h3⟩, ha⟩ := h c
    refine ⟨h0.trans ?_, h1.trans ?_, h2.trans ?_, h3.trans ?_, ha⟩
    · exact funext fun y => eM c (y 0) (y 1)
    · exact funext fun y => eC c (y 0) (y 1)
    · exact funext fun y => eS c (y 0) (y 1)
    · exact funext fun y => eT c
  · obtain ⟨h0, h1, h2, h3, ha⟩ := h c
    exact ⟨h0.trans (Cert.ReferenceIdeal.Hand.res0_eq m' c), h1.trans (Cert.ReferenceIdeal.Hand.codes_eq m' c _ _ _ _ _),
      h2.trans (Cert.ReferenceIdeal.Hand.reg0_eq m' c), h3.trans (Cert.ReferenceIdeal.Hand.res3_eq m' c), ha⟩

theorem claim : Cert.Claim := ⟨Cert.Kernel.Gen.facts, Cert.KernelIdeal.Gen.facts, Cert.ReferenceIdeal.Gen.facts,
  fun m g _ => Cert.Kernel.Hand.frame_quiescent m g, fun m g _ => Cert.KernelIdeal.Hand.frame_quiescent m g, fun m g _ => Cert.ReferenceIdeal.Gen.frame m g,
  IdealRules.sign_bit.maskStatement _ _, algebraic⟩

end Cert.Proof

end
